-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores [hPre_finite_scores : Cert.Pre_finite_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores [hPre_finite_scores : Cert.Pre_finite_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_heads [hPre_finite_heads : Cert.Pre_finite_heads.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_heads.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_heads [hPre_finite_heads : Cert.Pre_finite_heads.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_heads.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_heads_latent [hPre_finite_heads_latent : Cert.Pre_finite_heads_latent.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_heads_latent.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12)) (m ((c.tc : Thread Cert.Kernel9Ideal.nD Cert.Kernel9Ideal.τ).loc Cert.Kernel9Ideal.main_arg13)) (m ((c.tc : Thread Cert.Kernel9Ideal.nD Cert.Kernel9Ideal.τ).loc Cert.Kernel9Ideal.main_arg14)) (m ((c.tc : Thread Cert.Kernel9Ideal.nD Cert.Kernel9Ideal.τ).loc Cert.Kernel9Ideal.main_arg15)) (m ((c.tc : Thread Cert.Kernel9Ideal.nD Cert.Kernel9Ideal.τ).loc Cert.Kernel9Ideal.main_arg16)) (m ((c.tc : Thread Cert.Kernel9Ideal.nD Cert.Kernel9Ideal.τ).loc Cert.Kernel9Ideal.main_arg17))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_heads_latent [hPre_finite_heads_latent : Cert.Pre_finite_heads_latent.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_heads_latent.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12)) (m ((c.tc : Thread Cert.Reference9Ideal.nD Cert.Reference9Ideal.τ).loc Cert.Reference9Ideal.main_arg13)) (m ((c.tc : Thread Cert.Reference9Ideal.nD Cert.Reference9Ideal.τ).loc Cert.Reference9Ideal.main_arg14)) (m ((c.tc : Thread Cert.Reference9Ideal.nD Cert.Reference9Ideal.τ).loc Cert.Reference9Ideal.main_arg15)) (m ((c.tc : Thread Cert.Reference9Ideal.nD Cert.Reference9Ideal.τ).loc Cert.Reference9Ideal.main_arg16)) (m ((c.tc : Thread Cert.Reference9Ideal.nD Cert.Reference9Ideal.τ).loc Cert.Reference9Ideal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_scores [hKernel5Ideal : Cert.Kernel5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_scores [hReference5Ideal : Cert.Reference5Ideal.Facts] [hPre_finite_scores : Cert.Pre_finite_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ r.2.sem = fun _ => 0)

def quiescent_Kernel8Ideal_pre_finite_heads [hKernel8Ideal : Cert.Kernel8Ideal.Facts] [hPre_finite_heads : Cert.Pre_finite_heads.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_heads m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17))
      ∧ r.2.sem = fun _ => 0)

def quiescent_Reference8Ideal_pre_finite_heads [hReference8Ideal : Cert.Reference8Ideal.Facts] [hPre_finite_heads : Cert.Pre_finite_heads.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_heads m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15)
      ∧ r.2.mem ((c.tc : Thread Cert.Kernel9.nD Cert.Kernel9.τ).loc Cert.Kernel9.main_arg16) = m ((c.tc : Thread Cert.Kernel9.nD Cert.Kernel9.τ).loc Cert.Kernel9.main_arg16)
      ∧ r.2.mem ((c.tc : Thread Cert.Kernel9.nD Cert.Kernel9.τ).loc Cert.Kernel9.main_arg17) = m ((c.tc : Thread Cert.Kernel9.nD Cert.Kernel9.τ).loc Cert.Kernel9.main_arg17))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
      ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
      ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17))
      ∧ r.2.sem = fun _ => 0)

def quiescent_Kernel9Ideal_pre_finite_heads_latent [hKernel9Ideal : Cert.Kernel9Ideal.Facts] [hPre_finite_heads_latent : Cert.Pre_finite_heads_latent.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_heads_latent m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
      ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
      ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17))
      ∧ r.2.sem = fun _ => 0)

def quiescent_Reference9Ideal_pre_finite_heads_latent [hReference9Ideal : Cert.Reference9Ideal.Facts] [hPre_finite_heads_latent : Cert.Pre_finite_heads_latent.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_heads_latent m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_scores [hKernel5Ideal : Cert.Kernel5Ideal.Facts] [hReference5Ideal : Cert.Reference5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite_heads [hKernel8Ideal : Cert.Kernel8Ideal.Facts] [hReference8Ideal : Cert.Reference8Ideal.Facts] [hPre_finite_heads : Cert.Pre_finite_heads.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_heads m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)) →
    ∃ (v0 : (c : Dev Cert.Kernel8Ideal.nD) → Buf (Elt Ideal) ((c.tc : Thread Cert.Kernel8Ideal.nD Cert.Kernel8Ideal.τ).loc Cert.Kernel8Ideal.main_v22)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v22) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v105) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17))

def preserves_Kernel9_Kernel9Ideal : Prop :=
  True

def algebraic_Kernel9Ideal_Reference9Ideal_pre_finite_heads_latent [hKernel9Ideal : Cert.Kernel9Ideal.Facts] [hReference9Ideal : Cert.Reference9Ideal.Facts] [hPre_finite_heads_latent : Cert.Pre_finite_heads_latent.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_heads_latent m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)
      ∧ m' ((c.tc : Thread Cert.Reference9Ideal.nD Cert.Reference9Ideal.τ).loc Cert.Reference9Ideal.main_arg16) = m ((c.tc : Thread Cert.Kernel9Ideal.nD Cert.Kernel9Ideal.τ).loc Cert.Kernel9Ideal.main_arg16)
      ∧ m' ((c.tc : Thread Cert.Reference9Ideal.nD Cert.Reference9Ideal.τ).loc Cert.Reference9Ideal.main_arg17) = m ((c.tc : Thread Cert.Kernel9Ideal.nD Cert.Kernel9Ideal.τ).loc Cert.Kernel9Ideal.main_arg17)) →
    ∃ (v0 : (c : Dev Cert.Kernel9Ideal.nD) → Buf (Elt Ideal) ((c.tc : Thread Cert.Kernel9Ideal.nD Cert.Kernel9Ideal.τ).loc Cert.Kernel9Ideal.main_v22)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v22) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
          ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
          ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v107) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15)
          ∧ r.2.mem ((c.tc : Thread Cert.Reference9Ideal.nD Cert.Reference9Ideal.τ).loc Cert.Reference9Ideal.main_arg16) = m' ((c.tc : Thread Cert.Reference9Ideal.nD Cert.Reference9Ideal.τ).loc Cert.Reference9Ideal.main_arg16)
          ∧ r.2.mem ((c.tc : Thread Cert.Reference9Ideal.nD Cert.Reference9Ideal.τ).loc Cert.Reference9Ideal.main_arg17) = m' ((c.tc : Thread Cert.Reference9Ideal.nD Cert.Reference9Ideal.τ).loc Cert.Reference9Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_finite_heads : Cert.Pre_finite_heads.Facts) (hPre_finite_heads_latent : Cert.Pre_finite_heads_latent.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scores (hKernel5Ideal := hKernel5Ideal) (hPre_finite_scores := hPre_finite_scores)
    ∧ quiescent_Reference5Ideal (hReference5Ideal := hReference5Ideal)
    ∧ quiescent_Reference5Ideal_pre_finite_scores (hReference5Ideal := hReference5Ideal) (hPre_finite_scores := hPre_finite_scores)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_heads (hKernel8Ideal := hKernel8Ideal) (hPre_finite_heads := hPre_finite_heads)
    ∧ quiescent_Reference8Ideal (hReference8Ideal := hReference8Ideal)
    ∧ quiescent_Reference8Ideal_pre_finite_heads (hReference8Ideal := hReference8Ideal) (hPre_finite_heads := hPre_finite_heads)
    ∧ quiescent_Kernel9 (hKernel9 := hKernel9)
    ∧ quiescent_Kernel9Ideal (hKernel9Ideal := hKernel9Ideal)
    ∧ quiescent_Kernel9Ideal_pre_finite_heads_latent (hKernel9Ideal := hKernel9Ideal) (hPre_finite_heads_latent := hPre_finite_heads_latent)
    ∧ quiescent_Reference9Ideal (hReference9Ideal := hReference9Ideal)
    ∧ quiescent_Reference9Ideal_pre_finite_heads_latent (hReference9Ideal := hReference9Ideal) (hPre_finite_heads_latent := hPre_finite_heads_latent)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores (hKernel5Ideal := hKernel5Ideal) (hReference5Ideal := hReference5Ideal) (hPre_finite_scores := hPre_finite_scores)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_heads (hKernel8Ideal := hKernel8Ideal) (hReference8Ideal := hReference8Ideal) (hPre_finite_heads := hPre_finite_heads)
    ∧ preserves_Kernel9_Kernel9Ideal
    ∧ algebraic_Kernel9Ideal_Reference9Ideal_pre_finite_heads_latent (hKernel9Ideal := hKernel9Ideal) (hReference9Ideal := hReference9Ideal) (hPre_finite_heads_latent := hPre_finite_heads_latent)
-- ==== Pre_finite_heads.lean ====
abbrev S8x4352x1024 : Shape := ⟨3, ![8, 4352, 1024]⟩
abbrev S2x8x4352x1024 : Shape := ⟨4, ![2, 8, 4352, 1024]⟩
abbrev S8x4352x10240 : Shape := ⟨3, ![8, 4352, 10240]⟩
abbrev S16x6144 : Shape := ⟨2, ![16, 6144]⟩
abbrev S1024 : Shape := ⟨1, ![1024]⟩
abbrev S16x64 : Shape := ⟨2, ![16, 64]⟩
abbrev S128x1024 : Shape := ⟨2, ![128, 1024]⟩
abbrev S1024x1024 : Shape := ⟨2, ![1024, 1024]⟩
abbrev S_ : Shape := ⟨0, ![]⟩

class Facts : Prop where
  bcast_S_S2x8x4352x1024 : S_.BroadcastsInDim S2x8x4352x1024 (![] : Fin 0 → Fin S2x8x4352x1024.rank)
  reducesTo_S2x8x4352x1024_S_d0_1_2_3 : S2x8x4352x1024.ReducesTo [0, 1, 2, 3] S_
  h_S_ : 0 < S_.numel
  bcast_S_S8x4352x1024 : S_.BroadcastsInDim S8x4352x1024 (![] : Fin 0 → Fin S8x4352x1024.rank)
  reducesTo_S8x4352x1024_S_d0_1_2 : S8x4352x1024.ReducesTo [0, 1, 2] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S8x4352x1024 .f32) (main_arg1 : FVec F S8x4352x1024 .f32) (main_arg2 : FVec F S8x4352x1024 .f32) (main_arg3 : FVec F S2x8x4352x1024 .f32) (main_arg4 : FVec F S8x4352x1024 .f32) (main_arg5 : FVec F S8x4352x1024 .f32) (main_arg6 : FVec F S2x8x4352x1024 .f32) (main_arg7 : FVec F S8x4352x10240 .f32) (main_arg8 : FVec F S16x6144 .f32) (main_arg9 : FVec F S1024 .f32) (main_arg10 : FVec F S1024 .f32) (main_arg11 : FVec F S1024 .f32) (main_arg12 : FVec F S16x64 .f32) (main_arg13 : FVec F S128x1024 .f32) (main_arg14 : FVec F S1024x1024 .f32) (main_arg15 : FVec F S1024x1024 .f32) (main_arg16 : FVec F S1024x1024 .f32) (main_arg17 : FVec F S1024x1024 .f32) : IVec S_ 1 :=
  let main_v0 : FVec F S2x8x4352x1024 .f32 := Host.absf main_arg3
  let main_cst : FVec F S_ .f32 := constant S_ .f32 0x7F800000#32
  let main_v1 : FVec F S2x8x4352x1024 .f32 := broadcastInDim S2x8x4352x1024 ![] bcast_S_S2x8x4352x1024 main_cst
  let main_v2 : IVec S2x8x4352x1024 1 := cmpf .olt main_v0 main_v1
  let main_c : IVec S_ 1 := constantI S_ 1 1#1
  let main_v3 : IVec S_ 1 := (fun x v => Host.reduce IntOp.andi x v reducesTo_S2x8x4352x1024_S_d0_1_2_3 h_S_) main_v2 main_c
  let main_v4 : FVec F S8x4352x1024 .f32 := Host.absf main_arg4
  let main_cst_0 : FVec F S_ .f32 := constant S_ .f32 0x7F800000#32
  let main_v5 : FVec F S8x4352x1024 .f32 := broadcastInDim S8x4352x1024 ![] bcast_S_S8x4352x1024 main_cst_0
  let main_v6 : IVec S8x4352x1024 1 := cmpf .olt main_v4 main_v5
  let main_c_1 : IVec S_ 1 := constantI S_ 1 1#1
  let main_v7 : IVec S_ 1 := (fun x v => Host.reduce IntOp.andi x v reducesTo_S8x4352x1024_S_d0_1_2 h_S_) main_v6 main_c_1
  let main_v8 : IVec S_ 1 := andi main_v3 main_v7
  let main_v9 : FVec F S2x8x4352x1024 .f32 := Host.absf main_arg6
  let main_cst_2 : FVec F S_ .f32 := constant S_ .f32 0x7F800000#32
  let main_v10 : FVec F S2x8x4352x1024 .f32 := broadcastInDim S2x8x4352x1024 ![] bcast_S_S2x8x4352x1024 main_cst_2
  let main_v11 : IVec S2x8x4352x1024 1 := cmpf .olt main_v9 main_v10
  let main_c_3 : IVec S_ 1 := constantI S_ 1 1#1
  let main_v12 : IVec S_ 1 := (fun x v => Host.reduce IntOp.andi x v reducesTo_S2x8x4352x1024_S_d0_1_2_3 h_S_) main_v11 main_c_3
  let main_v13 : IVec S_ 1 := andi main_v8 main_v12
  let main_v14 : FVec F S16x64 .f32 := Host.absf main_arg12
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Pre_finite_heads_latent.lean ====
abbrev S8x4352x1024 : Shape := ⟨3, ![8, 4352, 1024]⟩
abbrev S8x4096x1024 : Shape := ⟨3, ![8, 4096, 1024]⟩
abbrev S2x8x4352x1024 : Shape := ⟨4, ![2, 8, 4352, 1024]⟩
abbrev S8x4352x10240 : Shape := ⟨3, ![8, 4352, 10240]⟩
abbrev S16x6144 : Shape := ⟨2, ![16, 6144]⟩
abbrev S1024 : Shape := ⟨1, ![1024]⟩
abbrev S16x64 : Shape := ⟨2, ![16, 64]⟩
abbrev S128x1024 : Shape := ⟨2, ![128, 1024]⟩
abbrev S1024x1024 : Shape := ⟨2, ![1024, 1024]⟩
abbrev S_ : Shape := ⟨0, ![]⟩

class Facts : Prop where
  bcast_S_S2x8x4352x1024 : S_.BroadcastsInDim S2x8x4352x1024 (![] : Fin 0 → Fin S2x8x4352x1024.rank)
  reducesTo_S2x8x4352x1024_S_d0_1_2_3 : S2x8x4352x1024.ReducesTo [0, 1, 2, 3] S_
  h_S_ : 0 < S_.numel
  bcast_S_S8x4352x1024 : S_.BroadcastsInDim S8x4352x1024 (![] : Fin 0 → Fin S8x4352x1024.rank)
  reducesTo_S8x4352x1024_S_d0_1_2 : S8x4352x1024.ReducesTo [0, 1, 2] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S8x4352x1024 .f32) (main_arg1 : FVec F S8x4096x1024 .f32) (main_arg2 : FVec F S8x4096x1024 .f32) (main_arg3 : FVec F S2x8x4352x1024 .f32) (main_arg4 : FVec F S8x4352x1024 .f32) (main_arg5 : FVec F S8x4352x1024 .f32) (main_arg6 : FVec F S2x8x4352x1024 .f32) (main_arg7 : FVec F S8x4352x10240 .f32) (main_arg8 : FVec F S16x6144 .f32) (main_arg9 : FVec F S1024 .f32) (main_arg10 : FVec F S1024 .f32) (main_arg11 : FVec F S1024 .f32) (main_arg12 : FVec F S16x64 .f32) (main_arg13 : FVec F S128x1024 .f32) (main_arg14 : FVec F S1024x1024 .f32) (main_arg15 : FVec F S1024x1024 .f32) (main_arg16 : FVec F S1024x1024 .f32) (main_arg17 : FVec F S1024x1024 .f32) : IVec S_ 1 :=
  let main_v0 : FVec F S2x8x4352x1024 .f32 := Host.absf main_arg3
  let main_cst : FVec F S_ .f32 := constant S_ .f32 0x7F800000#32
  let main_v1 : FVec F S2x8x4352x1024 .f32 := broadcastInDim S2x8x4352x1024 ![] bcast_S_S2x8x4352x1024 main_cst
  let main_v2 : IVec S2x8x4352x1024 1 := cmpf .olt main_v0 main_v1
  let main_c : IVec S_ 1 := constantI S_ 1 1#1
  let main_v3 : IVec S_ 1 := (fun x v => Host.reduce IntOp.andi x v reducesTo_S2x8x4352x1024_S_d0_1_2_3 h_S_) main_v2 main_c
  let main_v4 : FVec F S8x4352x1024 .f32 := Host.absf main_arg4
  let main_cst_0 : FVec F S_ .f32 := constant S_ .f32 0x7F800000#32
  let main_v5 : FVec F S8x4352x1024 .f32 := broadcastInDim S8x4352x1024 ![] bcast_S_S8x4352x1024 main_cst_0
  let main_v6 : IVec S8x4352x1024 1 := cmpf .olt main_v4 main_v5
  let main_c_1 : IVec S_ 1 := constantI S_ 1 1#1
  let main_v7 : IVec S_ 1 := (fun x v => Host.reduce IntOp.andi x v reducesTo_S8x4352x1024_S_d0_1_2 h_S_) main_v6 main_c_1
  let main_v8 : IVec S_ 1 := andi main_v3 main_v7
  let main_v9 : FVec F S2x8x4352x1024 .f32 := Host.absf main_arg6
  let main_cst_2 : FVec F S_ .f32 := constant S_ .f32 0x7F800000#32
  let main_v10 : FVec F S2x8x4352x1024 .f32 := broadcastInDim S2x8x4352x1024 ![] bcast_S_S2x8x4352x1024 main_cst_2
  let main_v11 : IVec S2x8x4352x1024 1 := cmpf .olt main_v9 main_v10
  let main_c_3 : IVec S_ 1 := constantI S_ 1 1#1
  let main_v12 : IVec S_ 1 := (fun x v => Host.reduce IntOp.andi x v reducesTo_S2x8x4352x1024_S_d0_1_2_3 h_S_) main_v11 main_c_3
  let main_v13 : IVec S_ 1 := andi main_v8 main_v12
  let main_v14 : FVec F S16x64 .f32 := Host.absf main_arg12
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Pre_finite_scores.lean ====
abbrev S8x4352x1024 : Shape := ⟨3, ![8, 4352, 1024]⟩
abbrev S8x4352x256 : Shape := ⟨3, ![8, 4352, 256]⟩
abbrev S_ : Shape := ⟨0, ![]⟩

class Facts : Prop where
  bcast_S_S8x4352x1024 : S_.BroadcastsInDim S8x4352x1024 (![] : Fin 0 → Fin S8x4352x1024.rank)
  reducesTo_S8x4352x1024_S_d0_1_2 : S8x4352x1024.ReducesTo [0, 1, 2] S_
  h_S_ : 0 < S_.numel
  bcast_S_S8x4352x256 : S_.BroadcastsInDim S8x4352x256 (![] : Fin 0 → Fin S8x4352x256.rank)
  reducesTo_S8x4352x256_S_d0_1_2 : S8x4352x256.ReducesTo [0, 1, 2] S_

variable [Facts]

def fn {F : FTy → Type} [FloatOps F] (main_arg0 : FVec F S8x4352x1024 .f32) (main_arg1 : FVec F S8x4352x256 .f32) (main_arg2 : FVec F S8x4352x256 .f32) : IVec S_ 1 :=
  let main_v0 : FVec F S8x4352x1024 .f32 := Host.absf main_arg0
  let main_cst : FVec F S_ .f32 := constant S_ .f32 0x7F800000#32
  let main_v1 : FVec F S8x4352x1024 .f32 := broadcastInDim S8x4352x1024 ![] bcast_S_S8x4352x1024 main_cst
  let main_v2 : IVec S8x4352x1024 1 := cmpf .olt main_v0 main_v1
  let main_c : IVec S_ 1 := constantI S_ 1 1#1
  let main_v3 : IVec S_ 1 := (fun x v => Host.reduce IntOp.andi x v reducesTo_S8x4352x1024_S_d0_1_2 h_S_) main_v2 main_c
  let main_v4 : FVec F S8x4352x256 .f32 := Host.absf main_arg1
  let main_cst_0 : FVec F S_ .f32 := constant S_ .f32 0x7F800000#32
  let main_v5 : FVec F S8x4352x256 .f32 := broadcastInDim S8x4352x256 ![] bcast_S_S8x4352x256 main_cst_0
  let main_v6 : IVec S8x4352x256 1 := cmpf .olt main_v4 main_v5
  let main_c_1 : IVec S_ 1 := constantI S_ 1 1#1
  let main_v7 : IVec S_ 1 := (fun x v => Host.reduce IntOp.andi x v reducesTo_S8x4352x256_S_d0_1_2 h_S_) main_v6 main_c_1
  let main_v8 : IVec S_ 1 := andi main_v3 main_v7
  main_v8
-- ==== Kernel.lean ====
abbrev S8x4352x1024 : Shape := ⟨3, ![8, 4352, 1024]⟩
abbrev S8x4352x256 : Shape := ⟨3, ![8, 4352, 256]⟩
abbrev S_ : Shape := ⟨0, ![]⟩
abbrev S1x256x512 : Shape := ⟨3, ![1, 256, 512]⟩
abbrev S1x4352x128 : Shape := ⟨3, ![1, 4352, 128]⟩
abbrev S1x256x128 : Shape := ⟨3, ![1, 256, 128]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x4352x1024, .f32⟩
  | .hbm, ⟨1, _⟩ => ⟨S8x4352x256, .f32⟩
  | .hbm, ⟨2, _⟩ => ⟨S8x4352x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4352x1024, .f32⟩
  | .hbm, ⟨8, _⟩ => ⟨S8x4352x1024, .f32⟩
  | .hbm, ⟨9, _⟩ => ⟨S8x4352x1024, .bf16⟩
  | .hbm, ⟨10, _⟩ => ⟨S8x4352x256, .bf16⟩
  | .hbm, ⟨11, _⟩ => ⟨S8x4352x256, .bf16⟩
  | .hbm, ⟨12, _⟩ => ⟨S8x4352x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .bf16⟩
  | .local _ .vmem, ⟨7, _⟩ => ⟨S1x256x512, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 17], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32_0 : BitVec 32 := 1#32
  let v3 : BitVec 1 := Scalar.cmpi .sge arg2 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4352x1024 : Shape := ⟨3, ![8, 4352, 1024]⟩
abbrev S8x4352x256 : Shape := ⟨3, ![8, 4352, 256]⟩
abbrev S8x4352x2x4x128 : Shape := ⟨5, ![8, 4352, 2, 4, 128]⟩
abbrev S8x4352x2x128 : Shape := ⟨4, ![8, 4352, 2, 128]⟩
abbrev S8x256x2x4x128 : Shape := ⟨5, ![8, 256, 2, 4, 128]⟩
abbrev S8x256x2x128 : Shape := ⟨4, ![8, 256, 2, 128]⟩
abbrev S8x2x256x256x4 : Shape := ⟨5, ![8, 2, 256, 256, 4]⟩
abbrev S8x2x4x256x256 : Shape := ⟨5, ![8, 2, 4, 256, 256]⟩
abbrev S_ : Shape := ⟨0, ![]⟩
abbrev S8x2x4x256 : Shape := ⟨4, ![8, 2, 4, 256]⟩
abbrev S8x2x4x256x1 : Shape := ⟨5, ![8, 2, 4, 256, 1]⟩
abbrev S8x2x128x4x256 : Shape := ⟨5, ![8, 2, 128, 4, 256]⟩
abbrev S8x256x1024 : Shape := ⟨3, ![8, 256, 1024]⟩
abbrev S8x4096x2x4x128 : Shape := ⟨5, ![8, 4096, 2, 4, 128]⟩
abbrev S8x2x4352x4096x4 : Shape := ⟨5, ![8, 2, 4352, 4096, 4]⟩
abbrev S8x2x4x4096x4352 : Shape := ⟨5, ![8, 2, 4, 4096, 4352]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩
abbrev S8x4096x1024 : Shape := ⟨3, ![8, 4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x256, .f32⟩
  | .hbm, ⟨2, _⟩ => ⟨S8x4352x256, .f32⟩
  | .hbm, ⟨3, _⟩ => ⟨S8x4352x2x4x128, .f32⟩
  | .hbm, ⟨4, _⟩ => ⟨S8x4352x2x128, .f32⟩
  | .hbm, ⟨5, _⟩ => ⟨S8x4352x2x128, .f32⟩
  | .hbm, ⟨6, _⟩ => ⟨S8x256x2x4x128, .f32⟩
  | .hbm, ⟨7, _⟩ => ⟨S8x256x2x128, .f32⟩
  | .hbm, ⟨8, _⟩ => ⟨S8x256x2x128, .f32⟩
  | .hbm, ⟨9, _⟩ => ⟨S8x2x256x256x4, .f32⟩
  | .hbm, ⟨10, _⟩ => ⟨S8x2x4x256x256, .f32⟩
  | .hbm, ⟨11, _⟩ => ⟨S_, .f32⟩
  | .hbm, ⟨12, _⟩ => ⟨S8x2x4x256x256, .f32⟩
  | .hbm, ⟨13, _⟩ => ⟨S8x2x4x256x256, .f32⟩
  | .hbm, ⟨14, _⟩ => ⟨S_, .f32⟩
  | .hbm, ⟨15, _⟩ => ⟨S8x2x4x256, .f32⟩
  | .hbm, ⟨16, _⟩ => ⟨S_, .f32⟩
  | .hbm, ⟨17, _⟩ => ⟨S8x2x4x256, .f32⟩
  | .hbm, ⟨18, _⟩ => ⟨S8x2x4x256, .f32⟩
  | .hbm, ⟨19, _⟩ => ⟨S8x2x4x256x1, .f32⟩
  | .hbm, ⟨20, _⟩ => ⟨S8x2x4x256x256, .f32⟩
  | .hbm, ⟨21, _⟩ => ⟨S8x2x4x256x256, .f32⟩
  | .hbm, ⟨22, _⟩ => ⟨S8x2x4x256x256, .f32⟩
  | .hbm, ⟨23, _⟩ => ⟨S_, .f32⟩
  | .hbm, ⟨24, _⟩ => ⟨S8x2x4x256, .f32⟩
  | .hbm, ⟨25, _⟩ => ⟨S8x2x4x256x1, .f32⟩
  | .hbm, ⟨26, _⟩ => ⟨S8x2x4x256x256, .f32⟩
  | .hbm, ⟨27, _⟩ => ⟨S8x2x4x256x256, .f32⟩
  | .hbm, ⟨28, _⟩ => ⟨S8x2x128x4x256, .f32⟩
  | .hbm, ⟨29, _⟩ => ⟨S8x256x2x4x128, .f32⟩
  | .hbm, ⟨30, _⟩ => ⟨S8x256x1024, .f32⟩
  | .hbm, ⟨31, _⟩ => ⟨S8x4096x2x4x128, .f32⟩
  | .hbm, ⟨32, _⟩ => ⟨S8x2x4352x4096x4, .f32⟩
  | .hbm, ⟨33, _⟩ => ⟨S8x2x4x4096x4352, .f32⟩
  | .hbm, ⟨34, _⟩ => ⟨S_, .f32⟩
  | .hbm, ⟨35, _⟩ => ⟨S8x2x4x4096x4352, .f32⟩
  | .hbm, ⟨36, _⟩ => ⟨S8x2x4x4096x4352, .f32⟩
  | .hbm, ⟨37, _⟩ => ⟨S_, .f32⟩
  | .hbm, ⟨38, _⟩ => ⟨S8x2x4x4096, .f32⟩
  | .hbm, ⟨39, _⟩ => ⟨S_, .f32⟩
  | .hbm, ⟨40, _⟩ => ⟨S8x2x4x4096, .f32⟩
  | .hbm, ⟨41, _⟩ => ⟨S8x2x4x4096, .f32⟩
  | .hbm, ⟨42, _⟩ => ⟨S8x2x4x4096x1, .f32⟩
  | .hbm, ⟨43, _⟩ => ⟨S8x2x4x4096x4352, .f32⟩
  | .hbm, ⟨44, _⟩ => ⟨S8x2x4x4096x4352, .f32⟩
  | .hbm, ⟨45, _⟩ => ⟨S8x2x4x4096x4352, .f32⟩
  | .hbm, ⟨46, _⟩ => ⟨S_, .f32⟩
  | .hbm, ⟨47, _⟩ => ⟨S8x2x4x4096, .f32⟩
  | .hbm, ⟨48, _⟩ => ⟨S8x2x4x4096x1, .f32⟩
  | .hbm, ⟨49, _⟩ => ⟨S8x2x4x4096x4352, .f32⟩
  | .hbm, ⟨50, _⟩ => ⟨S8x2x4x4096x4352, .f32⟩
  | .hbm, ⟨51, _⟩ => ⟨S8x2x128x4x4096, .f32⟩
  | .hbm, ⟨52, _⟩ => ⟨S8x4096x2x4x128, .f32⟩
  | .hbm, ⟨53, _⟩ => ⟨S8x4096x1024, .f32⟩
  | .hbm, ⟨54, _⟩ => ⟨S8x4352x1024, .f32⟩
  | .hbm, ⟨55, _⟩ => ⟨S8x4352x1024, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S16x6144 : Shape := ⟨2, ![16, 6144]⟩
abbrev S1024 : Shape := ⟨1, ![1024]⟩
abbrev S1024x10112 : Shape := ⟨2, ![1024, 10112]⟩
abbrev S136 : Shape := ⟨1, ![136]⟩
abbrev S8x4352x1024 : Shape := ⟨3, ![8, 4352, 1024]⟩
abbrev S16x6x1024 : Shape := ⟨3, ![16, 6, 1024]⟩
abbrev S_ : Shape := ⟨0, ![]⟩
abbrev S136x1 : Shape := ⟨2, ![136, 1]⟩
abbrev S1 : Shape := ⟨1, ![1]⟩
abbrev S1x1 : Shape := ⟨2, ![1, 1]⟩
abbrev S136x6x1024 : Shape := ⟨3, ![136, 6, 1024]⟩
abbrev S1024x1536 : Shape := ⟨2, ![1024, 1536]⟩
abbrev S1024x2048 : Shape := ⟨2, ![1024, 2048]⟩
abbrev S1024x3072 : Shape := ⟨2, ![1024, 3072]⟩
abbrev S1024x384 : Shape := ⟨2, ![1024, 384]⟩
abbrev S1024x128 : Shape := ⟨2, ![1024, 128]⟩
abbrev S1024x10240 : Shape := ⟨2, ![1024, 10240]⟩
abbrev S34816x1024 : Shape := ⟨2, ![34816, 1024]⟩
abbrev S1x1024 : Shape := ⟨2, ![1, 1024]⟩
abbrev S34816x10240 : Shape := ⟨2, ![34816, 10240]⟩
abbrev S1024x1024 : Shape := ⟨2, ![1024, 1024]⟩
abbrev S4x6x1024 : Shape := ⟨3, ![4, 6, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 43
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S16x6144, .f32⟩
  | .hbm, ⟨3, _⟩ => ⟨S1024, .f32⟩
  | .hbm, ⟨4, _⟩ => ⟨S1024x10112, .f32⟩
  | .hbm, ⟨5, _⟩ => ⟨S136, .i32⟩
  | .hbm, ⟨6, _⟩ => ⟨S8x4352x1024, .f32⟩
  | .hbm, ⟨7, _⟩ => ⟨S16x6x1024, .f32⟩
  | .hbm, ⟨8, _⟩ => ⟨S_, .i32⟩
  | .hbm, ⟨9, _⟩ => ⟨S136, .i32⟩
  | .hbm, ⟨10, _⟩ => ⟨S136, .i1⟩
  | .hbm, ⟨11, _⟩ => ⟨S_, .i32⟩
  | .hbm, ⟨12, _⟩ => ⟨S136, .i32⟩
  | .hbm, ⟨13, _⟩ => ⟨S136, .i32⟩
  | .hbm, ⟨14, _⟩ => ⟨S136, .i32⟩
  | .hbm, ⟨15, _⟩ => ⟨S136x1, .i32⟩
  | .hbm, ⟨16, _⟩ => ⟨S1, .i32⟩
  | .hbm, ⟨17, _⟩ => ⟨S_, .i32⟩
  | .hbm, ⟨18, _⟩ => ⟨S136x1, .i32⟩
  | .hbm, ⟨19, _⟩ => ⟨S136x1, .i1⟩
  | .hbm, ⟨20, _⟩ => ⟨S1x1, .i32⟩
  | .hbm, ⟨21, _⟩ => ⟨S136x1, .i32⟩
  | .hbm, ⟨22, _⟩ => ⟨S136x1, .i1⟩
  | .hbm, ⟨23, _⟩ => ⟨S136x1, .i1⟩
  | .hbm, ⟨24, _⟩ => ⟨S_, .i1⟩
  | .hbm, ⟨25, _⟩ => ⟨S136, .i1⟩
  | .hbm, ⟨26, _⟩ => ⟨S136x6x1024, .f32⟩
  | .hbm, ⟨27, _⟩ => ⟨S136x6x1024, .i1⟩
  | .hbm, ⟨28, _⟩ => ⟨S_, .f32⟩
  | .hbm, ⟨29, _⟩ => ⟨S136x6x1024, .f32⟩
  | .hbm, ⟨30, _⟩ => ⟨S136x6x1024, .f32⟩
  | .hbm, ⟨31, _⟩ => ⟨S1024x1536, .f32⟩
  | .hbm, ⟨32, _⟩ => ⟨S1024x2048, .f32⟩
  | .hbm, ⟨33, _⟩ => ⟨S1024x3072, .f32⟩
  | .hbm, ⟨34, _⟩ => ⟨S1024x384, .f32⟩
  | .hbm, ⟨35, _⟩ => ⟨S1024x3072, .f32⟩
  | .hbm, ⟨36, _⟩ => ⟨S_, .f32⟩
  | .hbm, ⟨37, _⟩ => ⟨S1024x128, .f32⟩
  | .hbm, ⟨38, _⟩ => ⟨S1024x10240, .f32⟩
  | .hbm, ⟨39, _⟩ => ⟨S1024x10240, .bf16⟩
  | .hbm, ⟨40, _⟩ => ⟨S34816x1024, .f32⟩
  | .hbm, ⟨41, _⟩ => ⟨S1x1024, .f32⟩
  | .hbm, ⟨42, _⟩ => ⟨S34816x10240, .f32⟩
  | .local _ .vmem, ⟨0, _⟩ => ⟨S1024x1024, .f32⟩
  | .local _ .vmem, ⟨1, _⟩ => ⟨S1024x1024, .f32⟩
  | .local _ .vmem, ⟨2, _⟩ => ⟨S4x6x1024, .f32⟩
  | .local _ .vmem, ⟨3, _⟩ => ⟨S4x6x1024, .f32⟩
  | .local _ .vmem, ⟨4, _⟩ => ⟨S1x1024, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![34, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x4096x1024 : Shape := ⟨3, ![8, 4096, 1024]⟩
abbrev S8x256x1024 : Shape := ⟨3, ![8, 256, 1024]⟩
abbrev S16x6144 : Shape := ⟨2, ![16, 6144]⟩
abbrev S1024 : Shape := ⟨1, ![1024]⟩
abbrev S1024x10112 : Shape := ⟨2, ![1024, 10112]⟩
abbrev S8x6144 : Shape := ⟨2, ![8, 6144]⟩
abbrev S8x1x6144 : Shape := ⟨3, ![8, 1, 6144]⟩
abbrev S8x1x1024 : Shape := ⟨3, ![8, 1, 1024]⟩
abbrev S1x6144 : Shape := ⟨2, ![1, 6144]⟩
abbrev S6144 : Shape := ⟨1, ![6144]⟩
abbrev S1x1x6144 : Shape := ⟨3, ![1, 1, 6144]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x256x10112 : Shape := ⟨3, ![8, 256, 10112]⟩
abbrev S8x4096x10112 : Shape := ⟨3, ![8, 4096, 10112]⟩
abbrev S8x4352x10112 : Shape := ⟨3, ![8, 4352, 10112]⟩
abbrev S8x4352x1536 : Shape := ⟨3, ![8, 4352, 1536]⟩
abbrev S8x4352x384 : Shape := ⟨3, ![8, 4352, 384]⟩
abbrev S8x4352x128 : Shape := ⟨3, ![8, 4352, 128]⟩
abbrev S8x4352x2048 : Shape := ⟨3, ![8, 4352, 2048]⟩
abbrev S8x4352x3072 : Shape := ⟨3, ![8, 4352, 3072]⟩
abbrev S8x4352x10240 : Shape := ⟨3, ![8, 4352, 10240]⟩
abbrev S34816x10240 : Shape := ⟨2, ![34816, 10240]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S16x6144, .f32⟩
  | .hbm, ⟨3, _⟩ => ⟨S1024, .f32⟩
  | .hbm, ⟨4, _⟩ => ⟨S1024x10112, .f32⟩
  | .hbm, ⟨5, _⟩ => ⟨S8x6144, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1x6144, .f32⟩
  | .hbm, ⟨14, _⟩ => ⟨S6144, .f32⟩
  | .hbm, ⟨15, _⟩ => ⟨S1x1x6144, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x256x1024, .f32⟩
  | .hbm, ⟨46, _⟩ => ⟨S_, .f32⟩
  | .hbm, ⟨47, _⟩ => ⟨S8x256, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S_, .f32⟩
  | .hbm, ⟨53, _⟩ => ⟨S8x256x1, .f32⟩
  | .hbm, ⟨54, _⟩ => ⟨S8x256x1, .f32⟩
  | .hbm, ⟨55, _⟩ => ⟨S8x256x1, .f32⟩
  | .hbm, ⟨56, _⟩ => ⟨S8x256x1024, .f32⟩
  | .hbm, ⟨57, _⟩ => ⟨S8x256x1024, .f32⟩
  | .hbm, ⟨58, _⟩ => ⟨S1x1x1024, .f32⟩
  | .hbm, ⟨59, _⟩ => ⟨S8x256x1024, .f32⟩
  | .hbm, ⟨60, _⟩ => ⟨S8x256x1024, .f32⟩
  | .hbm, ⟨61, _⟩ => ⟨S_, .f32⟩
  | .hbm, ⟨62, _⟩ => ⟨S1x1x1024, .f32⟩
  | .hbm, ⟨63, _⟩ => ⟨S1x1x1024, .f32⟩
  | .hbm, ⟨64, _⟩ => ⟨S8x256x1024, .f32⟩
  | .hbm, ⟨65, _⟩ => ⟨S8x256x1024, .f32⟩
  | .hbm, ⟨66, _⟩ => ⟨S8x256x1024, .f32⟩
  | .hbm, ⟨67, _⟩ => ⟨S8x256x1024, .f32⟩
  | .hbm, ⟨68, _⟩ => ⟨S8x256x10112, .f32⟩
  | .hbm, ⟨69, _⟩ => ⟨S8x4096x10112, .f32⟩
  | .hbm, ⟨70, _⟩ => ⟨S8x4352x10112, .f32⟩
  | .hbm, ⟨71, _⟩ => ⟨S8x4352x1536, .f32⟩
  | .hbm, ⟨72, _⟩ => ⟨S8x4352x384, .f32⟩
  | .hbm, ⟨73, _⟩ => ⟨S_, .f32⟩
  | .hbm, ⟨74, _⟩ => ⟨S8x4352x128, .f32⟩
  | .hbm, ⟨75, _⟩ => ⟨S8x4352x2048, .f32⟩
  | .hbm, ⟨76, _⟩ => ⟨S8x4352x3072, .f32⟩
  | .hbm, ⟨77, _⟩ => ⟨S8x4352x3072, .f32⟩
  | .hbm, ⟨78, _⟩ => ⟨S8x4352x10240, .f32⟩
  | .hbm, ⟨79, _⟩ => ⟨S34816x10240, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Kernel3.lean ====
abbrev S8x4352x1024 : Shape := ⟨3, ![8, 4352, 1024]⟩
abbrev S16x6144 : Shape := ⟨2, ![16, 6144]⟩
abbrev S1024 : Shape := ⟨1, ![1024]⟩
abbrev S1024x5632 : Shape := ⟨2, ![1024, 5632]⟩
abbrev S136 : Shape := ⟨1, ![136]⟩
abbrev S16x6x1024 : Shape := ⟨3, ![16, 6, 1024]⟩
abbrev S_ : Shape := ⟨0, ![]⟩
abbrev S136x1 : Shape := ⟨2, ![136, 1]⟩
abbrev S1 : Shape := ⟨1, ![1]⟩
abbrev S1x1 : Shape := ⟨2, ![1, 1]⟩
abbrev S136x6x1024 : Shape := ⟨3, ![136, 6, 1024]⟩
abbrev S34816x1024 : Shape := ⟨2, ![34816, 1024]⟩
abbrev S1x1024 : Shape := ⟨2, ![1, 1024]⟩
abbrev S34816x5632 : Shape := ⟨2, ![34816, 5632]⟩
abbrev S1024x1024 : Shape := ⟨2, ![1024, 1024]⟩
abbrev S4x6x1024 : Shape := ⟨3, ![4, 6, 1024]⟩
abbrev S1024x1408 : Shape := ⟨2, ![1024, 1408]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 33
  | .vmem => 10
  | .smem => 0
  | _ => 0

abbrev bufTy : (tb : Table) → Fin (tcTables nBuf tb) → BufTy
  | .hbm, ⟨0, _⟩ => ⟨S8x4352x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S136, .i32⟩
  | .hbm, ⟨5, _⟩ => ⟨S16x6x1024, .f32⟩
  | .hbm, ⟨6, _⟩ => ⟨S_, .i32⟩
  | .hbm, ⟨7, _⟩ => ⟨S136, .i32⟩
  | .hbm, ⟨8, _⟩ => ⟨S136, .i1⟩
  | .hbm, ⟨9, _⟩ => ⟨S_, .i32⟩
  | .hbm, ⟨10, _⟩ => ⟨S136, .i32⟩
  | .hbm, ⟨11, _⟩ => ⟨S136, .i32⟩
  | .hbm, ⟨12, _⟩ => ⟨S136, .i32⟩
  | .hbm, ⟨13, _⟩ => ⟨S136x1, .i32⟩
  | .hbm, ⟨14, _⟩ => ⟨S1, .i32⟩
  | .hbm, ⟨15, _⟩ => ⟨S_, .i32⟩
  | .hbm, ⟨16, _⟩ => ⟨S136x1, .i32⟩
  | .hbm, ⟨17, _⟩ => ⟨S136x1, .i1⟩
  | .hbm, ⟨18, _⟩ => ⟨S1x1, .i32⟩
  | .hbm, ⟨19, _⟩ => ⟨S136x1, .i32⟩
  | .hbm, ⟨20, _⟩ => ⟨S136x1, .i1⟩
  | .hbm, ⟨21, _⟩ => ⟨S136x1, .i1⟩
  | .hbm, ⟨22, _⟩ => ⟨S_, .i1⟩
  | .hbm, ⟨23, _⟩ => ⟨S136, .i1⟩
  | .hbm, ⟨24, _⟩ => ⟨S136x6x1024, .f32⟩
  | .hbm, ⟨25, _⟩ => ⟨S136x6x1024, .i1⟩
  | .hbm, ⟨26, _⟩ => ⟨S_, .f32⟩
  | .hbm, ⟨27, _⟩ => ⟨S136x6x1024, .f32⟩
  | .hbm, ⟨28, _⟩ => ⟨S136x6x1024, .f32⟩
  | .hbm, ⟨29, _⟩ => ⟨S1024x5632, .bf16⟩
  | .hbm, ⟨30, _⟩ => ⟨S34816x1024, .f32⟩
  | .hbm, ⟨31, _⟩ => ⟨S1x1024, .f32⟩
  | .hbm, ⟨32, _⟩ => ⟨S34816x5632, .f32⟩
  | .local _ .vmem, ⟨0, _⟩ => ⟨S1024x1024, .f32⟩
  | .local _ .vmem, ⟨1, _⟩ => ⟨S1024x1024, .f32⟩
  | .local _ .vmem, ⟨2, _⟩ => ⟨S4x6x1024, .f32⟩
  | .local _ .vmem, ⟨3, _⟩ => ⟨S4x6x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .f32⟩
  | .local _ .vmem, ⟨8, _⟩ => ⟨S1024x1408, .f32⟩
  | .local _ .vmem, ⟨9, _⟩ => ⟨S1024x1024, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8x4352x1024 : Shape := ⟨3, ![8, 4352, 1024]⟩
abbrev S16x6144 : Shape := ⟨2, ![16, 6144]⟩
abbrev S1024 : Shape := ⟨1, ![1024]⟩
abbrev S1024x5632 : Shape := ⟨2, ![1024, 5632]⟩
abbrev S8x256x1024 : Shape := ⟨3, ![8, 256, 1024]⟩
abbrev S8x4096x1024 : Shape := ⟨3, ![8, 4096, 1024]⟩
abbrev S8x6144 : Shape := ⟨2, ![8, 6144]⟩
abbrev S8x1x6144 : Shape := ⟨3, ![8, 1, 6144]⟩
abbrev S8x1x1024 : Shape := ⟨3, ![8, 1, 1024]⟩
abbrev S1x6144 : Shape := ⟨2, ![1, 6144]⟩
abbrev S6144 : Shape := ⟨1, ![6144]⟩
abbrev S1x1x6144 : Shape := ⟨3, ![1, 1, 6144]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x256x5632 : Shape := ⟨3, ![8, 256, 5632]⟩
abbrev S8x4096x5632 : Shape := ⟨3, ![8, 4096, 5632]⟩
abbrev S8x4352x5632 : Shape := ⟨3, ![8, 4352, 5632]⟩
abbrev S34816x5632 : Shape := ⟨2, ![34816, 5632]⟩

abbrev nBuf : Space → Nat
  | .hbm => 73
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S8x256x1024, .f32⟩
  | .hbm, ⟨5, _⟩ => ⟨S8x4096x1024, .f32⟩
  | .hbm, ⟨6, _⟩ => ⟨S8x6144, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1x6144, .f32⟩
  | .hbm, ⟨15, _⟩ => ⟨S6144, .f32⟩
  | .hbm, ⟨16, _⟩ => ⟨S1x1x6144, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x256x1024, .f32⟩
  | .hbm, ⟨47, _⟩ => ⟨S_, .f32⟩
  | .hbm, ⟨48, _⟩ => ⟨S8x256, .f32⟩
  | .hbm, ⟨49, _⟩ => ⟨S8x256x1, .f32⟩
  | .hbm, ⟨50, _⟩ => ⟨S_, .f32⟩
  | .hbm, ⟨51, _⟩ => ⟨S8x256x1, .f32⟩
  | .hbm, ⟨52, _⟩ => ⟨S8x256x1, .f32⟩
  | .hbm, ⟨53, _⟩ => ⟨S_, .f32⟩
  | .hbm, ⟨54, _⟩ => ⟨S8x256x1, .f32⟩
  | .hbm, ⟨55, _⟩ => ⟨S8x256x1, .f32⟩
  | .hbm, ⟨56, _⟩ => ⟨S8x256x1, .f32⟩
  | .hbm, ⟨57, _⟩ => ⟨S8x256x1024, .f32⟩
  | .hbm, ⟨58, _⟩ => ⟨S8x256x1024, .f32⟩
  | .hbm, ⟨59, _⟩ => ⟨S1x1x1024, .f32⟩
  | .hbm, ⟨60, _⟩ => ⟨S8x256x1024, .f32⟩
  | .hbm, ⟨61, _⟩ => ⟨S8x256x1024, .f32⟩
  | .hbm, ⟨62, _⟩ => ⟨S_, .f32⟩
  | .hbm, ⟨63, _⟩ => ⟨S1x1x1024, .f32⟩
  | .hbm, ⟨64, _⟩ => ⟨S1x1x1024, .f32⟩
  | .hbm, ⟨65, _⟩ => ⟨S8x256x1024, .f32⟩
  | .hbm, ⟨66, _⟩ => ⟨S8x256x1024, .f32⟩
  | .hbm, ⟨67, _⟩ => ⟨S8x256x1024, .f32⟩
  | .hbm, ⟨68, _⟩ => ⟨S8x256x1024, .f32⟩
  | .hbm, ⟨69, _⟩ => ⟨S8x256x5632, .f32⟩
  | .hbm, ⟨70, _⟩ => ⟨S8x4096x5632, .f32⟩
  | .hbm, ⟨71, _⟩ => ⟨S8x4352x5632, .f32⟩
  | .hbm, ⟨72, _⟩ => ⟨S34816x5632, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel4.lean ====
abbrev S8x4352x1024 : Shape := ⟨3, ![8, 4352, 1024]⟩
abbrev S8x4352x5632 : Shape := ⟨3, ![8, 4352, 5632]⟩
abbrev S3x5632 : Shape := ⟨2, ![3, 5632]⟩
abbrev S16x6144 : Shape := ⟨2, ![16, 6144]⟩
abbrev S1024 : Shape := ⟨1, ![1024]⟩
abbrev S2816x1024 : Shape := ⟨2, ![2816, 1024]⟩
abbrev S16x6x1024 : Shape := ⟨3, ![16, 6, 1024]⟩
abbrev S1x1024 : Shape := ⟨2, ![1, 1024]⟩
abbrev S1x256x1024 : Shape := ⟨3, ![1, 256, 1024]⟩
abbrev S1x256x5632 : Shape := ⟨3, ![1, 256, 5632]⟩
abbrev S1x8x5632 : Shape := ⟨3, ![1, 8, 5632]⟩
abbrev S1x6x1024 : Shape := ⟨3, ![1, 6, 1024]⟩
abbrev S256x1 : Shape := ⟨2, ![256, 1]⟩
abbrev S1x256x2816 : Shape := ⟨3, ![1, 256, 2816]⟩
abbrev S256x2816 : Shape := ⟨2, ![256, 2816]⟩
abbrev S1x1x2816 : Shape := ⟨3, ![1, 1, 2816]⟩
abbrev S1x2816 : Shape := ⟨2, ![1, 2816]⟩
abbrev S256x1024 : Shape := ⟨2, ![256, 1024]⟩
abbrev S256 : Shape := ⟨1, ![256]⟩
abbrev S1x1x1024 : Shape := ⟨3, ![1, 1, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8x4352x1024, .f32⟩
  | .hbm, ⟨1, _⟩ => ⟨S8x4352x5632, .f32⟩
  | .hbm, ⟨2, _⟩ => ⟨S3x5632, .f32⟩
  | .hbm, ⟨3, _⟩ => ⟨S16x6144, .f32⟩
  | .hbm, ⟨4, _⟩ => ⟨S1024, .f32⟩
  | .hbm, ⟨5, _⟩ => ⟨S2816x1024, .f32⟩
  | .hbm, ⟨6, _⟩ => ⟨S16x6x1024, .f32⟩
  | .hbm, ⟨7, _⟩ => ⟨S2816x1024, .bf16⟩
  | .hbm, ⟨8, _⟩ => ⟨S1x1024, .f32⟩
  | .hbm, ⟨9, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x5632, .f32⟩
  | .local _ .vmem, ⟨3, _⟩ => ⟨S1x256x5632, .f32⟩
  | .local _ .vmem, ⟨4, _⟩ => ⟨S1x8x5632, .f32⟩
  | .local _ .vmem, ⟨5, _⟩ => ⟨S1x8x5632, .f32⟩
  | .local _ .vmem, ⟨6, _⟩ => ⟨S1x8x5632, .f32⟩
  | .local _ .vmem, ⟨7, _⟩ => ⟨S1x8x5632, .f32⟩
  | .local _ .vmem, ⟨8, _⟩ => ⟨S3x5632, .f32⟩
  | .local _ .vmem, ⟨9, _⟩ => ⟨S1x6x1024, .f32⟩
  | .local _ .vmem, ⟨10, _⟩ => ⟨S1x6x1024, .f32⟩
  | .local _ .vmem, ⟨11, _⟩ => ⟨S1x1024, .f32⟩
  | .local _ .vmem, ⟨12, _⟩ => ⟨S2816x1024, .bf16⟩
  | .local _ .vmem, ⟨13, _⟩ => ⟨S1x256x1024, .f32⟩
  | .local _ .vmem, ⟨14, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.addi v0 c1_i32
  let c32_i32 : BitVec 32 := 32#32
  let v2 : BitVec 32 := Scalar.muli v1 c32_i32
  let c543_i32 : BitVec 32 := 543#32
  let v3 : BitVec 32 := Scalar.minsi v2 c543_i32
  let c0_i32_0 : BitVec 32 := 0#32
  let c0_i32_1 : BitVec 32 := 0#32
  ![arg0.toNat, v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x4352x1024 : Shape := ⟨3, ![8, 4352, 1024]⟩
abbrev S8x4352x5632 : Shape := ⟨3, ![8, 4352, 5632]⟩
abbrev S3x5632 : Shape := ⟨2, ![3, 5632]⟩
abbrev S16x6144 : Shape := ⟨2, ![16, 6144]⟩
abbrev S1024 : Shape := ⟨1, ![1024]⟩
abbrev S2816x1024 : Shape := ⟨2, ![2816, 1024]⟩
abbrev S8x256x5632 : Shape := ⟨3, ![8, 256, 5632]⟩
abbrev S_ : Shape := ⟨0, ![]⟩
abbrev S8x258x5632 : Shape := ⟨3, ![8, 258, 5632]⟩
abbrev S1x5632 : Shape := ⟨2, ![1, 5632]⟩
abbrev S1x1x5632 : Shape := ⟨3, ![1, 1, 5632]⟩
abbrev S8x4096x5632 : Shape := ⟨3, ![8, 4096, 5632]⟩
abbrev S8x4098x5632 : Shape := ⟨3, ![8, 4098, 5632]⟩
abbrev S8x4352x2816 : Shape := ⟨3, ![8, 4352, 2816]⟩
abbrev S8x1024 : Shape := ⟨2, ![8, 1024]⟩
abbrev S8x1x1024 : Shape := ⟨3, ![8, 1, 1024]⟩
abbrev S8x4096x1024 : Shape := ⟨3, ![8, 4096, 1024]⟩
abbrev S1x1024 : Shape := ⟨2, ![1, 1024]⟩
abbrev S1x1x1024 : Shape := ⟨3, ![1, 1, 1024]⟩
abbrev S8x256x1024 : Shape := ⟨3, ![8, 256, 1024]⟩
abbrev S8x4352 : Shape := ⟨2, ![8, 4352]⟩
abbrev S8x4352x1 : Shape := ⟨3, ![8, 4352, 1]⟩

abbrev nBuf : Space → Nat
  | .hbm => 87
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x5632, .f32⟩
  | .hbm, ⟨2, _⟩ => ⟨S3x5632, .f32⟩
  | .hbm, ⟨3, _⟩ => ⟨S16x6144, .f32⟩
  | .hbm, ⟨4, _⟩ => ⟨S1024, .f32⟩
  | .hbm, ⟨5, _⟩ => ⟨S2816x1024, .f32⟩
  | .hbm, ⟨6, _⟩ => ⟨S8x256x5632, .f32⟩
  | .hbm, ⟨7, _⟩ => ⟨S_, .i32⟩
  | .hbm, ⟨8, _⟩ => ⟨S_, .f32⟩
  | .hbm, ⟨9, _⟩ => ⟨S8x258x5632, .f32⟩
  | .hbm, ⟨10, _⟩ => ⟨S8x256x5632, .f32⟩
  | .hbm, ⟨11, _⟩ => ⟨S1x5632, .f32⟩
  | .hbm, ⟨12, _⟩ => ⟨S1x1x5632, .f32⟩
  | .hbm, ⟨13, _⟩ => ⟨S8x256x5632, .f32⟩
  | .hbm, ⟨14, _⟩ => ⟨S8x256x5632, .f32⟩
  | .hbm, ⟨15, _⟩ => ⟨S8x256x5632, .f32⟩
  | .hbm, ⟨16, _⟩ => ⟨S1x5632, .f32⟩
  | .hbm, ⟨17, _⟩ => ⟨S1x1x5632, .f32⟩
  | .hbm, ⟨18, _⟩ => ⟨S8x256x5632, .f32⟩
  | .hbm, ⟨19, _⟩ => ⟨S8x256x5632, .f32⟩
  | .hbm, ⟨20, _⟩ => ⟨S8x256x5632, .f32⟩
  | .hbm, ⟨21, _⟩ => ⟨S8x256x5632, .f32⟩
  | .hbm, ⟨22, _⟩ => ⟨S1x5632, .f32⟩
  | .hbm, ⟨23, _⟩ => ⟨S1x1x5632, .f32⟩
  | .hbm, ⟨24, _⟩ => ⟨S8x256x5632, .f32⟩
  | .hbm, ⟨25, _⟩ => ⟨S8x256x5632, .f32⟩
  | .hbm, ⟨26, _⟩ => ⟨S8x256x5632, .f32⟩
  | .hbm, ⟨27, _⟩ => ⟨S8x4096x5632, .f32⟩
  | .hbm, ⟨28, _⟩ => ⟨S_, .i32⟩
  | .hbm, ⟨29, _⟩ => ⟨S_, .f32⟩
  | .hbm, ⟨30, _⟩ => ⟨S8x4098x5632, .f32⟩
  | .hbm, ⟨31, _⟩ => ⟨S8x4096x5632, .f32⟩
  | .hbm, ⟨32, _⟩ => ⟨S1x5632, .f32⟩
  | .hbm, ⟨33, _⟩ => ⟨S1x1x5632, .f32⟩
  | .hbm, ⟨34, _⟩ => ⟨S8x4096x5632, .f32⟩
  | .hbm, ⟨35, _⟩ => ⟨S8x4096x5632, .f32⟩
  | .hbm, ⟨36, _⟩ => ⟨S8x4096x5632, .f32⟩
  | .hbm, ⟨37, _⟩ => ⟨S1x5632, .f32⟩
  | .hbm, ⟨38, _⟩ => ⟨S1x1x5632, .f32⟩
  | .hbm, ⟨39, _⟩ => ⟨S8x4096x5632, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S1x5632, .f32⟩
  | .hbm, ⟨44, _⟩ => ⟨S1x1x5632, .f32⟩
  | .hbm, ⟨45, _⟩ => ⟨S8x4096x5632, .f32⟩
  | .hbm, ⟨46, _⟩ => ⟨S8x4096x5632, .f32⟩
  | .hbm, ⟨47, _⟩ => ⟨S8x4096x5632, .f32⟩
  | .hbm, ⟨48, _⟩ => ⟨S8x4352x5632, .f32⟩
  | .hbm, ⟨49, _⟩ => ⟨S8x4352x2816, .f32⟩
  | .hbm, ⟨50, _⟩ => ⟨S8x4352x2816, .f32⟩
  | .hbm, ⟨51, _⟩ => ⟨S8x4352x2816, .f32⟩
  | .hbm, ⟨52, _⟩ => ⟨S8x4352x2816, .f32⟩
  | .hbm, ⟨53, _⟩ => ⟨S_, .f32⟩
  | .hbm, ⟨54, _⟩ => ⟨S8x4352x2816, .f32⟩
  | .hbm, ⟨55, _⟩ => ⟨S8x4352x2816, .f32⟩
  | .hbm, ⟨56, _⟩ => ⟨S_, .f32⟩
  | .hbm, ⟨57, _⟩ => ⟨S8x4352x2816, .f32⟩
  | .hbm, ⟨58, _⟩ => ⟨S8x4352x2816, .f32⟩
  | .hbm, ⟨59, _⟩ => ⟨S8x4352x2816, .f32⟩
  | .hbm, ⟨60, _⟩ => ⟨S8x4352x2816, .f32⟩
  | .hbm, ⟨61, _⟩ => ⟨S8x4352x1024, .f32⟩
  | .hbm, ⟨62, _⟩ => ⟨S8x1024, .f32⟩
  | .hbm, ⟨63, _⟩ => ⟨S8x1x1024, .f32⟩
  | .hbm, ⟨64, _⟩ => ⟨S8x4096x1024, .f32⟩
  | .hbm, ⟨65, _⟩ => ⟨S1x1024, .f32⟩
  | .hbm, ⟨66, _⟩ => ⟨S1x1x1024, .f32⟩
  | .hbm, ⟨67, _⟩ => ⟨S8x256x1024, .f32⟩
  | .hbm, ⟨68, _⟩ => ⟨S8x4352x1024, .f32⟩
  | .hbm, ⟨69, _⟩ => ⟨S8x4352x1024, .f32⟩
  | .hbm, ⟨70, _⟩ => ⟨S_, .f32⟩
  | .hbm, ⟨71, _⟩ => ⟨S8x4352, .f32⟩
  | .hbm, ⟨72, _⟩ => ⟨S8x4352x1, .f32⟩
  | .hbm, ⟨73, _⟩ => ⟨S_, .f32⟩
  | .hbm, ⟨74, _⟩ => ⟨S8x4352x1, .f32⟩
  | .hbm, ⟨75, _⟩ => ⟨S8x4352x1, .f32⟩
  | .hbm, ⟨76, _⟩ => ⟨S_, .f32⟩
  | .hbm, ⟨77, _⟩ => ⟨S8x4352x1, .f32⟩
  | .hbm, ⟨78, _⟩ => ⟨S8x4352x1, .f32⟩
  | .hbm, ⟨79, _⟩ => ⟨S8x4352x1, .f32⟩
  | .hbm, ⟨80, _⟩ => ⟨S8x4352x1024, .f32⟩
  | .hbm, ⟨81, _⟩ => ⟨S8x4352x1024, .f32⟩
  | .hbm, ⟨82, _⟩ => ⟨S1x1x1024, .f32⟩
  | .hbm, ⟨83, _⟩ => ⟨S8x4352x1024, .f32⟩
  | .hbm, ⟨84, _⟩ => ⟨S8x4352x1024, .f32⟩
  | .hbm, ⟨85, _⟩ => ⟨S8x4352x1024, .f32⟩
  | .hbm, ⟨86, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst : Ref sig .tc := ⟨.hbm, 70, rfl⟩
abbrev main_v52 : Ref sig .tc := ⟨.hbm, 71, rfl⟩
abbrev main_v53 : Ref sig .tc := ⟨.hbm, 72, rfl⟩
abbrev main_cst_1 : Ref sig .tc := ⟨.hbm, 73, rfl⟩
abbrev main_v54 : Ref sig .tc := ⟨.hbm, 74, rfl⟩
abbrev main_v55 : Ref sig .tc := ⟨.hbm, 75, rfl⟩
abbrev main_cst_2 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel5.lean ====
abbrev S8x4352x1024 : Shape := ⟨3, ![8, 4352, 1024]⟩
abbrev S8x4352x256 : Shape := ⟨3, ![8, 4352, 256]⟩
abbrev S_ : Shape := ⟨0, ![]⟩
abbrev S8x4096x1024 : Shape := ⟨3, ![8, 4096, 1024]⟩
abbrev S1x256x512 : Shape := ⟨3, ![1, 256, 512]⟩
abbrev S1x4352x128 : Shape := ⟨3, ![1, 4352, 128]⟩
abbrev S1x256x128 : Shape := ⟨3, ![1, 256, 128]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x4352x1024, .f32⟩
  | .hbm, ⟨1, _⟩ => ⟨S8x4352x256, .f32⟩
  | .hbm, ⟨2, _⟩ => ⟨S8x4352x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4352x1024, .f32⟩
  | .hbm, ⟨8, _⟩ => ⟨S8x4352x1024, .f32⟩
  | .hbm, ⟨9, _⟩ => ⟨S8x4352x1024, .bf16⟩
  | .hbm, ⟨10, _⟩ => ⟨S8x4352x256, .bf16⟩
  | .hbm, ⟨11, _⟩ => ⟨S8x4352x256, .bf16⟩
  | .hbm, ⟨12, _⟩ => ⟨S8x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .bf16⟩
  | .local _ .vmem, ⟨7, _⟩ => ⟨S1x256x512, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S8x4352x1024 : Shape := ⟨3, ![8, 4352, 1024]⟩
abbrev S8x4352x256 : Shape := ⟨3, ![8, 4352, 256]⟩
abbrev S8x4352x2x4x128 : Shape := ⟨5, ![8, 4352, 2, 4, 128]⟩
abbrev S8x4352x2x128 : Shape := ⟨4, ![8, 4352, 2, 128]⟩
abbrev S8x4096x2x4x128 : Shape := ⟨5, ![8, 4096, 2, 4, 128]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩
abbrev S8x4096x1024 : Shape := ⟨3, ![8, 4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x256, .f32⟩
  | .hbm, ⟨2, _⟩ => ⟨S8x4352x256, .f32⟩
  | .hbm, ⟨3, _⟩ => ⟨S8x4352x2x4x128, .f32⟩
  | .hbm, ⟨4, _⟩ => ⟨S8x4352x2x128, .f32⟩
  | .hbm, ⟨5, _⟩ => ⟨S8x4352x2x128, .f32⟩
  | .hbm, ⟨6, _⟩ => ⟨S8x4096x2x4x128, .f32⟩
  | .hbm, ⟨7, _⟩ => ⟨S8x2x4352x4096x4, .f32⟩
  | .hbm, ⟨8, _⟩ => ⟨S8x2x4x4096x4352, .f32⟩
  | .hbm, ⟨9, _⟩ => ⟨S_, .f32⟩
  | .hbm, ⟨10, _⟩ => ⟨S8x2x4x4096x4352, .f32⟩
  | .hbm, ⟨11, _⟩ => ⟨S8x2x4x4096x4352, .f32⟩
  | .hbm, ⟨12, _⟩ => ⟨S_, .f32⟩
  | .hbm, ⟨13, _⟩ => ⟨S8x2x4x4096, .f32⟩
  | .hbm, ⟨14, _⟩ => ⟨S_, .f32⟩
  | .hbm, ⟨15, _⟩ => ⟨S8x2x4x4096, .f32⟩
  | .hbm, ⟨16, _⟩ => ⟨S8x2x4x4096, .f32⟩
  | .hbm, ⟨17, _⟩ => ⟨S8x2x4x4096x1, .f32⟩
  | .hbm, ⟨18, _⟩ => ⟨S8x2x4x4096x4352, .f32⟩
  | .hbm, ⟨19, _⟩ => ⟨S8x2x4x4096x4352, .f32⟩
  | .hbm, ⟨20, _⟩ => ⟨S8x2x4x4096x4352, .f32⟩
  | .hbm, ⟨21, _⟩ => ⟨S_, .f32⟩
  | .hbm, ⟨22, _⟩ => ⟨S8x2x4x4096, .f32⟩
  | .hbm, ⟨23, _⟩ => ⟨S8x2x4x4096x1, .f32⟩
  | .hbm, ⟨24, _⟩ => ⟨S8x2x4x4096x4352, .f32⟩
  | .hbm, ⟨25, _⟩ => ⟨S8x2x4x4096x4352, .f32⟩
  | .hbm, ⟨26, _⟩ => ⟨S8x2x128x4x4096, .f32⟩
  | .hbm, ⟨27, _⟩ => ⟨S8x4096x2x4x128, .f32⟩
  | .hbm, ⟨28, _⟩ => ⟨S8x4096x1024, .f32⟩
  | .hbm, ⟨29, _⟩ => ⟨S8x4096x1024, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel6.lean ====
abbrev S8x4096x1024 : Shape := ⟨3, ![8, 4096, 1024]⟩
abbrev S16x6144 : Shape := ⟨2, ![16, 6144]⟩
abbrev S1024 : Shape := ⟨1, ![1024]⟩
abbrev S1024x5632 : Shape := ⟨2, ![1024, 5632]⟩
abbrev S128 : Shape := ⟨1, ![128]⟩
abbrev S16x6x1024 : Shape := ⟨3, ![16, 6, 1024]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x6x1024 : Shape := ⟨3, ![128, 6, 1024]⟩
abbrev S32768x1024 : Shape := ⟨2, ![32768, 1024]⟩
abbrev S1x1024 : Shape := ⟨2, ![1, 1024]⟩
abbrev S32768x5632 : Shape := ⟨2, ![32768, 5632]⟩
abbrev S1024x1024 : Shape := ⟨2, ![1024, 1024]⟩
abbrev S4x6x1024 : Shape := ⟨3, ![4, 6, 1024]⟩
abbrev S1024x1408 : Shape := ⟨2, ![1024, 1408]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 33
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S128, .i32⟩
  | .hbm, ⟨5, _⟩ => ⟨S16x6x1024, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S1, .i32⟩
  | .hbm, ⟨15, _⟩ => ⟨S_, .i32⟩
  | .hbm, ⟨16, _⟩ => ⟨S128x1, .i32⟩
  | .hbm, ⟨17, _⟩ => ⟨S128x1, .i1⟩
  | .hbm, ⟨18, _⟩ => ⟨S1x1, .i32⟩
  | .hbm, ⟨19, _⟩ => ⟨S128x1, .i32⟩
  | .hbm, ⟨20, _⟩ => ⟨S128x1, .i1⟩
  | .hbm, ⟨21, _⟩ => ⟨S128x1, .i1⟩
  | .hbm, ⟨22, _⟩ => ⟨S_, .i1⟩
  | .hbm, ⟨23, _⟩ => ⟨S128, .i1⟩
  | .hbm, ⟨24, _⟩ => ⟨S128x6x1024, .f32⟩
  | .hbm, ⟨25, _⟩ => ⟨S128x6x1024, .i1⟩
  | .hbm, ⟨26, _⟩ => ⟨S_, .f32⟩
  | .hbm, ⟨27, _⟩ => ⟨S128x6x1024, .f32⟩
  | .hbm, ⟨28, _⟩ => ⟨S128x6x1024, .f32⟩
  | .hbm, ⟨29, _⟩ => ⟨S1024x5632, .bf16⟩
  | .hbm, ⟨30, _⟩ => ⟨S32768x1024, .f32⟩
  | .hbm, ⟨31, _⟩ => ⟨S1x1024, .f32⟩
  | .hbm, ⟨32, _⟩ => ⟨S32768x5632, .f32⟩
  | .local _ .vmem, ⟨0, _⟩ => ⟨S1024x1024, .f32⟩
  | .local _ .vmem, ⟨1, _⟩ => ⟨S1024x1024, .f32⟩
  | .local _ .vmem, ⟨2, _⟩ => ⟨S4x6x1024, .f32⟩
  | .local _ .vmem, ⟨3, _⟩ => ⟨S4x6x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .f32⟩
  | .local _ .vmem, ⟨8, _⟩ => ⟨S1024x1408, .f32⟩
  | .local _ .vmem, ⟨9, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8x4096x1024 : Shape := ⟨3, ![8, 4096, 1024]⟩
abbrev S16x6144 : Shape := ⟨2, ![16, 6144]⟩
abbrev S1024 : Shape := ⟨1, ![1024]⟩
abbrev S1024x5632 : Shape := ⟨2, ![1024, 5632]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S32768x5632 : Shape := ⟨2, ![32768, 5632]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S8x6144, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x5632, .f32⟩
  | .hbm, ⟨36, _⟩ => ⟨S32768x5632, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel7.lean ====
abbrev S8x4096x1024 : Shape := ⟨3, ![8, 4096, 1024]⟩
abbrev S8x4096x5632 : Shape := ⟨3, ![8, 4096, 5632]⟩
abbrev S3x5632 : Shape := ⟨2, ![3, 5632]⟩
abbrev S16x6144 : Shape := ⟨2, ![16, 6144]⟩
abbrev S1024 : Shape := ⟨1, ![1024]⟩
abbrev S2816x1024 : Shape := ⟨2, ![2816, 1024]⟩
abbrev S16x6x1024 : Shape := ⟨3, ![16, 6, 1024]⟩
abbrev S1x1024 : Shape := ⟨2, ![1, 1024]⟩
abbrev S1x256x1024 : Shape := ⟨3, ![1, 256, 1024]⟩
abbrev S1x256x5632 : Shape := ⟨3, ![1, 256, 5632]⟩
abbrev S1x8x5632 : Shape := ⟨3, ![1, 8, 5632]⟩
abbrev S1x6x1024 : Shape := ⟨3, ![1, 6, 1024]⟩
abbrev S256x1 : Shape := ⟨2, ![256, 1]⟩
abbrev S1x256x2816 : Shape := ⟨3, ![1, 256, 2816]⟩
abbrev S256x2816 : Shape := ⟨2, ![256, 2816]⟩
abbrev S1x1x2816 : Shape := ⟨3, ![1, 1, 2816]⟩
abbrev S1x2816 : Shape := ⟨2, ![1, 2816]⟩
abbrev S256x1024 : Shape := ⟨2, ![256, 1024]⟩
abbrev S256 : Shape := ⟨1, ![256]⟩
abbrev S1x1x1024 : Shape := ⟨3, ![1, 1, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x5632, .f32⟩
  | .hbm, ⟨2, _⟩ => ⟨S3x5632, .f32⟩
  | .hbm, ⟨3, _⟩ => ⟨S16x6144, .f32⟩
  | .hbm, ⟨4, _⟩ => ⟨S1024, .f32⟩
  | .hbm, ⟨5, _⟩ => ⟨S2816x1024, .f32⟩
  | .hbm, ⟨6, _⟩ => ⟨S16x6x1024, .f32⟩
  | .hbm, ⟨7, _⟩ => ⟨S2816x1024, .bf16⟩
  | .hbm, ⟨8, _⟩ => ⟨S1x1024, .f32⟩
  | .hbm, ⟨9, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x5632, .f32⟩
  | .local _ .vmem, ⟨3, _⟩ => ⟨S1x256x5632, .f32⟩
  | .local _ .vmem, ⟨4, _⟩ => ⟨S1x8x5632, .f32⟩
  | .local _ .vmem, ⟨5, _⟩ => ⟨S1x8x5632, .f32⟩
  | .local _ .vmem, ⟨6, _⟩ => ⟨S1x8x5632, .f32⟩
  | .local _ .vmem, ⟨7, _⟩ => ⟨S1x8x5632, .f32⟩
  | .local _ .vmem, ⟨8, _⟩ => ⟨S3x5632, .f32⟩
  | .local _ .vmem, ⟨9, _⟩ => ⟨S1x6x1024, .f32⟩
  | .local _ .vmem, ⟨10, _⟩ => ⟨S1x6x1024, .f32⟩
  | .local _ .vmem, ⟨11, _⟩ => ⟨S1x1024, .f32⟩
  | .local _ .vmem, ⟨12, _⟩ => ⟨S2816x1024, .bf16⟩
  | .local _ .vmem, ⟨13, _⟩ => ⟨S1x256x1024, .f32⟩
  | .local _ .vmem, ⟨14, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.addi v0 c1_i32
  let c32_i32 : BitVec 32 := 32#32
  let v2 : BitVec 32 := Scalar.muli v1 c32_i32
  let c511_i32 : BitVec 32 := 511#32
  let v3 : BitVec 32 := Scalar.minsi v2 c511_i32
  let c0_i32_0 : BitVec 32 := 0#32
  let c0_i32_1 : BitVec 32 := 0#32
  ![arg0.toNat, v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8x4096x1024 : Shape := ⟨3, ![8, 4096, 1024]⟩
abbrev S8x4096x5632 : Shape := ⟨3, ![8, 4096, 5632]⟩
abbrev S3x5632 : Shape := ⟨2, ![3, 5632]⟩
abbrev S16x6144 : Shape := ⟨2, ![16, 6144]⟩
abbrev S1024 : Shape := ⟨1, ![1024]⟩
abbrev S2816x1024 : Shape := ⟨2, ![2816, 1024]⟩
abbrev S_ : Shape := ⟨0, ![]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S8x1024 : Shape := ⟨2, ![8, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x5632, .f32⟩
  | .hbm, ⟨2, _⟩ => ⟨S3x5632, .f32⟩
  | .hbm, ⟨3, _⟩ => ⟨S16x6144, .f32⟩
  | .hbm, ⟨4, _⟩ => ⟨S1024, .f32⟩
  | .hbm, ⟨5, _⟩ => ⟨S2816x1024, .f32⟩
  | .hbm, ⟨6, _⟩ => ⟨S_, .i32⟩
  | .hbm, ⟨7, _⟩ => ⟨S_, .f32⟩
  | .hbm, ⟨8, _⟩ => ⟨S8x4098x5632, .f32⟩
  | .hbm, ⟨9, _⟩ => ⟨S8x4096x5632, .f32⟩
  | .hbm, ⟨10, _⟩ => ⟨S1x5632, .f32⟩
  | .hbm, ⟨11, _⟩ => ⟨S1x1x5632, .f32⟩
  | .hbm, ⟨12, _⟩ => ⟨S8x4096x5632, .f32⟩
  | .hbm, ⟨13, _⟩ => ⟨S8x4096x5632, .f32⟩
  | .hbm, ⟨14, _⟩ => ⟨S8x4096x5632, .f32⟩
  | .hbm, ⟨15, _⟩ => ⟨S1x5632, .f32⟩
  | .hbm, ⟨16, _⟩ => ⟨S1x1x5632, .f32⟩
  | .hbm, ⟨17, _⟩ => ⟨S8x4096x5632, .f32⟩
  | .hbm, ⟨18, _⟩ => ⟨S8x4096x5632, .f32⟩
  | .hbm, ⟨19, _⟩ => ⟨S8x4096x5632, .f32⟩
  | .hbm, ⟨20, _⟩ => ⟨S8x4096x5632, .f32⟩
  | .hbm, ⟨21, _⟩ => ⟨S1x5632, .f32⟩
  | .hbm, ⟨22, _⟩ => ⟨S1x1x5632, .f32⟩
  | .hbm, ⟨23, _⟩ => ⟨S8x4096x5632, .f32⟩
  | .hbm, ⟨24, _⟩ => ⟨S8x4096x5632, .f32⟩
  | .hbm, ⟨25, _⟩ => ⟨S8x4096x5632, .f32⟩
  | .hbm, ⟨26, _⟩ => ⟨S8x4096x2816, .f32⟩
  | .hbm, ⟨27, _⟩ => ⟨S8x4096x2816, .f32⟩
  | .hbm, ⟨28, _⟩ => ⟨S8x4096x2816, .f32⟩
  | .hbm, ⟨29, _⟩ => ⟨S8x4096x2816, .f32⟩
  | .hbm, ⟨30, _⟩ => ⟨S_, .f32⟩
  | .hbm, ⟨31, _⟩ => ⟨S8x4096x2816, .f32⟩
  | .hbm, ⟨32, _⟩ => ⟨S8x4096x2816, .f32⟩
  | .hbm, ⟨33, _⟩ => ⟨S_, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x1024, .f32⟩
  | .hbm, ⟨39, _⟩ => ⟨S8x1024, .f32⟩
  | .hbm, ⟨40, _⟩ => ⟨S8x1x1024, .f32⟩
  | .hbm, ⟨41, _⟩ => ⟨S8x4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_cst_0 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel8.lean ====
abbrev S8x4352x1024 : Shape := ⟨3, ![8, 4352, 1024]⟩
abbrev S2x8x4352x1024 : Shape := ⟨4, ![2, 8, 4352, 1024]⟩
abbrev S8x4352x10240 : Shape := ⟨3, ![8, 4352, 10240]⟩
abbrev S16x6144 : Shape := ⟨2, ![16, 6144]⟩
abbrev S1024 : Shape := ⟨1, ![1024]⟩
abbrev S16x64 : Shape := ⟨2, ![16, 64]⟩
abbrev S128x1024 : Shape := ⟨2, ![128, 1024]⟩
abbrev S1024x1024 : Shape := ⟨2, ![1024, 1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S16x6x1024 : Shape := ⟨3, ![16, 6, 1024]⟩
abbrev S1x1024 : Shape := ⟨2, ![1, 1024]⟩
abbrev S1x256x1024 : Shape := ⟨3, ![1, 256, 1024]⟩
abbrev S2x1x256x1024 : Shape := ⟨4, ![2, 1, 256, 1024]⟩
abbrev S1x256x512 : Shape := ⟨3, ![1, 256, 512]⟩
abbrev S1x6x1024 : Shape := ⟨3, ![1, 6, 1024]⟩
abbrev S1x1x256x1024 : Shape := ⟨4, ![1, 1, 256, 1024]⟩
abbrev S256x1024 : Shape := ⟨2, ![256, 1024]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x1x1024 : Shape := ⟨3, ![1, 1, 1024]⟩

abbrev nBuf : Space → Nat
  | .hbm => 58
  | .vmem => 37
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S2x8x4352x1024, .f32⟩
  | .hbm, ⟨4, _⟩ => ⟨S8x4352x1024, .f32⟩
  | .hbm, ⟨5, _⟩ => ⟨S8x4352x1024, .f32⟩
  | .hbm, ⟨6, _⟩ => ⟨S2x8x4352x1024, .f32⟩
  | .hbm, ⟨7, _⟩ => ⟨S8x4352x10240, .f32⟩
  | .hbm, ⟨8, _⟩ => ⟨S16x6144, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S16x64, .f32⟩
  | .hbm, ⟨13, _⟩ => ⟨S128x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024, .i32⟩
  | .hbm, ⟨19, _⟩ => ⟨S_, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S128, .i32⟩
  | .hbm, ⟨39, _⟩ => ⟨S1x128, .i32⟩
  | .hbm, ⟨40, _⟩ => ⟨S1024x128, .i32⟩
  | .hbm, ⟨41, _⟩ => ⟨S1024x128, .i32⟩
  | .hbm, ⟨42, _⟩ => ⟨S1024x128, .i1⟩
  | .hbm, ⟨43, _⟩ => ⟨S1024x128, .bf16⟩
  | .hbm, ⟨44, _⟩ => ⟨S128x1024, .bf16⟩
  | .hbm, ⟨45, _⟩ => ⟨S16x6x1024, .f32⟩
  | .hbm, ⟨46, _⟩ => ⟨S8x4352x1024, .bf16⟩
  | .hbm, ⟨47, _⟩ => ⟨S8x4352x1024, .bf16⟩
  | .hbm, ⟨48, _⟩ => ⟨S128x1024, .bf16⟩
  | .hbm, ⟨49, _⟩ => ⟨S1024x1024, .bf16⟩
  | .hbm, ⟨50, _⟩ => ⟨S1024x1024, .bf16⟩
  | .hbm, ⟨51, _⟩ => ⟨S1024x1024, .bf16⟩
  | .hbm, ⟨52, _⟩ => ⟨S1024x1024, .bf16⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S2x1x256x1024, .f32⟩
  | .local _ .vmem, ⟨7, _⟩ => ⟨S2x1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S2x1x256x1024, .f32⟩
  | .local _ .vmem, ⟨13, _⟩ => ⟨S2x1x256x1024, .f32⟩
  | .local _ .vmem, ⟨14, _⟩ => ⟨S1x256x512, .f32⟩
  | .local _ .vmem, ⟨15, _⟩ => ⟨S1x256x512, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x6x1024, .f32⟩
  | .local _ .vmem, ⟨23, _⟩ => ⟨S1x6x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S128x1024, .bf16⟩
  | .local _ .vmem, ⟨29, _⟩ => ⟨S1024x128, .bf16⟩
  | .local _ .vmem, ⟨30, _⟩ => ⟨S128x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1x256x1024, .f32⟩
  | .local _ .vmem, ⟨36, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg23_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, arg0.toNat, v0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, arg0.toNat, v0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c0_i32_0 : BitVec 32 := 0#32
  ![arg0.toNat, v0.toNat, c3_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c7_i32 : BitVec 32 := 7#32
  let c0_i32_0 : BitVec 32 := 0#32
  ![arg0.toNat, v0.toNat, c7_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c8_i32 : BitVec 32 := 8#32
  let c0_i32_0 : BitVec 32 := 0#32
  ![arg0.toNat, v0.toNat, c8_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c9_i32 : BitVec 32 := 9#32
  let c0_i32_0 : BitVec 32 := 0#32
  ![arg0.toNat, v0.toNat, c9_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference8Ideal.lean ====
abbrev S8x4352x1024 : Shape := ⟨3, ![8, 4352, 1024]⟩
abbrev S2x8x4352x1024 : Shape := ⟨4, ![2, 8, 4352, 1024]⟩
abbrev S8x4352x10240 : Shape := ⟨3, ![8, 4352, 10240]⟩
abbrev S16x6144 : Shape := ⟨2, ![16, 6144]⟩
abbrev S1024 : Shape := ⟨1, ![1024]⟩
abbrev S16x64 : Shape := ⟨2, ![16, 64]⟩
abbrev S128x1024 : Shape := ⟨2, ![128, 1024]⟩
abbrev S1024x1024 : Shape := ⟨2, ![1024, 1024]⟩
abbrev S8x1024 : Shape := ⟨2, ![8, 1024]⟩
abbrev S8x1x1024 : Shape := ⟨3, ![8, 1, 1024]⟩
abbrev S8x4096x1024 : Shape := ⟨3, ![8, 4096, 1024]⟩
abbrev S1x1024 : Shape := ⟨2, ![1, 1024]⟩
abbrev S1x1x1024 : Shape := ⟨3, ![1, 1, 1024]⟩
abbrev S8x256x1024 : Shape := ⟨3, ![8, 256, 1024]⟩
abbrev S1x8x4352x1024 : Shape := ⟨4, ![1, 8, 4352, 1024]⟩
abbrev S8x4352x16x64 : Shape := ⟨4, ![8, 4352, 16, 64]⟩
abbrev S8x4352x128 : Shape := ⟨3, ![8, 4352, 128]⟩
abbrev S_ : Shape := ⟨0, ![]⟩
abbrev S8x4352x16 : Shape := ⟨3, ![8, 4352, 16]⟩
abbrev S8x4352x16x1 : Shape := ⟨4, ![8, 4352, 16, 1]⟩
abbrev S1x1x16x64 : Shape := ⟨4, ![1, 1, 16, 64]⟩
abbrev S8x4352x3072 : Shape := ⟨3, ![8, 4352, 3072]⟩
abbrev S8x4352 : Shape := ⟨2, ![8, 4352]⟩
abbrev S8x4352x1 : Shape := ⟨3, ![8, 4352, 1]⟩

abbrev nBuf : Space → Nat
  | .hbm => 138
  | .vmem => 0
  | .smem => 0
  | _ => 0

abbrev hbmTy0_0 (i : Nat) : BufTy := match i % 128 with
  | 0 => ⟨S8x4352x1024, .f32⟩
  | 1 => ⟨S8x4352x1024, .f32⟩
  | 2 => ⟨S8x4352x1024, .f32⟩
  | 3 => ⟨S2x8x4352x1024, .f32⟩
  | 4 => ⟨S8x4352x1024, .f32⟩
  | 5 => ⟨S8x4352x1024, .f32⟩
  | 6 => ⟨S2x8x4352x1024, .f32⟩
  | 7 => ⟨S8x4352x10240, .f32⟩
  | 8 => ⟨S16x6144, .f32⟩
  | 9 => ⟨S1024, .f32⟩
  | 10 => ⟨S1024, .f32⟩
  | 11 => ⟨S1024, .f32⟩
  | 12 => ⟨S16x64, .f32⟩
  | 13 => ⟨S128x1024, .f32⟩
  | 14 => ⟨S1024x1024, .f32⟩
  | 15 => ⟨S1024x1024, .f32⟩
  | 16 => ⟨S1024x1024, .f32⟩
  | 17 => ⟨S1024x1024, .f32⟩
  | 18 => ⟨S8x1024, .f32⟩
  | 19 => ⟨S8x1x1024, .f32⟩
  | 20 => ⟨S8x4096x1024, .f32⟩
  | 21 => ⟨S1x1024, .f32⟩
  | 22 => ⟨S1x1x1024, .f32⟩
  | 23 => ⟨S8x256x1024, .f32⟩
  | 24 => ⟨S8x4352x1024, .f32⟩
  | 25 => ⟨S1x8x4352x1024, .f32⟩
  | 26 => ⟨S8x4352x1024, .f32⟩
  | 27 => ⟨S1x8x4352x1024, .f32⟩
  | 28 => ⟨S8x4352x1024, .f32⟩
  | 29 => ⟨S8x4352x1024, .f32⟩
  | 30 => ⟨S8x4352x16x64, .f32⟩
  | 31 => ⟨S8x4352x16x64, .f32⟩
  | 32 => ⟨S8x4352x16x64, .f32⟩
  | 33 => ⟨S1x8x4352x1024, .f32⟩
  | 34 => ⟨S8x4352x1024, .f32⟩
  | 35 => ⟨S8x4352x16x64, .f32⟩
  | 36 => ⟨S1x8x4352x1024, .f32⟩
  | 37 => ⟨S8x4352x1024, .f32⟩
  | 38 => ⟨S8x4352x16x64, .f32⟩
  | 39 => ⟨S8x4352x128, .f32⟩
  | 40 => ⟨S_, .f32⟩
  | 41 => ⟨S8x4352x16, .f32⟩
  | 42 => ⟨S8x4352x16x1, .f32⟩
  | 43 => ⟨S_, .f32⟩
  | 44 => ⟨S8x4352x16x1, .f32⟩
  | 45 => ⟨S8x4352x16x1, .f32⟩
  | 46 => ⟨S8x4352x16x64, .f32⟩
  | 47 => ⟨S8x4352x16x64, .f32⟩
  | 48 => ⟨S8x4352x16x64, .f32⟩
  | 49 => ⟨S_, .f32⟩
  | 50 => ⟨S8x4352x16, .f32⟩
  | 51 => ⟨S8x4352x16x1, .f32⟩
  | 52 => ⟨S_, .f32⟩
  | 53 => ⟨S8x4352x16x1, .f32⟩
  | 54 => ⟨S8x4352x16x1, .f32⟩
  | 55 => ⟨S8x4352x16x64, .f32⟩
  | 56 => ⟨S8x4352x16x64, .f32⟩
  | 57 => ⟨S_, .f32⟩
  | 58 => ⟨S8x4352x16x1, .f32⟩
  | 59 => ⟨S8x4352x16x1, .f32⟩
  | 60 => ⟨S8x4352x16x1, .f32⟩
  | 61 => ⟨S8x4352x16x64, .f32⟩
  | 62 => ⟨S8x4352x16x64, .f32⟩
  | 63 => ⟨S8x4352x1024, .f32⟩
  | 64 => ⟨S1x1x1024, .f32⟩
  | 65 => ⟨S8x4352x1024, .f32⟩
  | 66 => ⟨S8x4352x1024, .f32⟩
  | 67 => ⟨S1x1x1024, .f32⟩
  | 68 => ⟨S8x4352x1024, .f32⟩
  | 69 => ⟨S8x4352x1024, .f32⟩
  | 70 => ⟨S8x4352x16x64, .f32⟩
  | 71 => ⟨S1x1x16x64, .f32⟩
  | 72 => ⟨S8x4352x16x64, .f32⟩
  | 73 => ⟨S8x4352x16x64, .f32⟩
  | 74 => ⟨S_, .f32⟩
  | 75 => ⟨S8x4352x16, .f32⟩
  | 76 => ⟨S8x4352x16x1, .f32⟩
  | 77 => ⟨S8x4352x16x64, .f32⟩
  | 78 => ⟨S1x1x16x64, .f32⟩
  | 79 => ⟨S8x4352x16x64, .f32⟩
  | 80 => ⟨S8x4352x16x64, .f32⟩
  | 81 => ⟨S_, .f32⟩
  | 82 => ⟨S8x4352x16, .f32⟩
  | 83 => ⟨S8x4352x16x1, .f32⟩
  | 84 => ⟨S8x4352x16x1, .f32⟩
  | 85 => ⟨S8x4352x16x64, .f32⟩
  | 86 => ⟨S8x4352x16x64, .f32⟩
  | 87 => ⟨S8x4352x128, .f32⟩
  | 88 => ⟨S8x4352x128, .f32⟩
  | 89 => ⟨S_, .f32⟩
  | 90 => ⟨S8x4352x128, .f32⟩
  | 91 => ⟨S8x4352x128, .f32⟩
  | 92 => ⟨S_, .f32⟩
  | 93 => ⟨S8x4352x128, .f32⟩
  | 94 => ⟨S8x4352x128, .f32⟩
  | 95 => ⟨S8x4352x1024, .f32⟩
  | 96 => ⟨S8x4352x1024, .f32⟩
  | 97 => ⟨S8x4352x1024, .f32⟩
  | 98 => ⟨S8x4352x1024, .f32⟩
  | 99 => ⟨S8x4352x3072, .f32⟩
  | 100 => ⟨S8x4352x3072, .f32⟩
  | 101 => ⟨S8x4352x3072, .f32⟩
  | 102 => ⟨S_, .f32⟩
  | 103 => ⟨S8x4352x3072, .f32⟩
  | 104 => ⟨S8x4352x3072, .f32⟩
  | 105 => ⟨S_, .f32⟩
  | 106 => ⟨S8x4352x3072, .f32⟩
  | 107 => ⟨S8x4352x3072, .f32⟩
  | 108 => ⟨S8x4352x1024, .f32⟩
  | 109 => ⟨S8x4352x1024, .f32⟩
  | 110 => ⟨S8x4352x1024, .f32⟩
  | 111 => ⟨S8x4352x1024, .f32⟩
  | 112 => ⟨S8x4352x1024, .f32⟩
  | 113 => ⟨S8x4352x1024, .f32⟩
  | 114 => ⟨S8x4352x1024, .f32⟩
  | 115 => ⟨S8x4352x1024, .f32⟩
  | 116 => ⟨S8x4352x1024, .f32⟩
  | 117 => ⟨S8x4352x1024, .f32⟩
  | 118 => ⟨S8x4352x1024, .f32⟩
  | 119 => ⟨S8x4352x1024, .f32⟩
  | 120 => ⟨S8x4352x1024, .f32⟩
  | 121 => ⟨S_, .f32⟩
  | 122 => ⟨S8x4352, .f32⟩
  | 123 => ⟨S8x4352x1, .f32⟩
  | 124 => ⟨S_, .f32⟩
  | 125 => ⟨S8x4352x1, .f32⟩
  | 126 => ⟨S8x4352x1, .f32⟩
  | 127 => ⟨S_, .f32⟩
  | _ => ⟨S8x4352x1024, .f32⟩

abbrev hbmTy0_1 (i : Nat) : BufTy := match i % 128 with
  | 0 => ⟨S8x4352x1, .f32⟩
  | 1 => ⟨S8x4352x1, .f32⟩
  | 2 => ⟨S8x4352x1, .f32⟩
  | 3 => ⟨S8x4352x1024, .f32⟩
  | 4 => ⟨S8x4352x1024, .f32⟩
  | 5 => ⟨S1x1x1024, .f32⟩
  | 6 => ⟨S8x4352x1024, .f32⟩
  | 7 => ⟨S8x4352x1024, .f32⟩
  | 8 => ⟨S8x4352x1024, .f32⟩
  | 9 => ⟨S8x4352x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_1 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_4 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_6 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_8 : Ref sig .tc := ⟨.hbm, 102, rfl⟩
abbrev main_v75 : Ref sig .tc := ⟨.hbm, 103, rfl⟩
abbrev main_v76 : Ref sig .tc := ⟨.hbm, 104, rfl⟩
abbrev main_cst_9 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_10 : Ref sig .tc := ⟨.hbm, 121, rfl⟩
abbrev main_v92 : Ref sig .tc := ⟨.hbm, 122, rfl⟩
abbrev main_v93 : Ref sig .tc := ⟨.hbm, 123, rfl⟩
abbrev main_cst_11 : Ref sig .tc := ⟨.hbm, 124, rfl⟩
abbrev main_v94 : Ref sig .tc := ⟨.hbm, 125, rfl⟩
abbrev main_v95 : Ref sig .tc := ⟨.hbm, 126, rfl⟩
abbrev main_cst_12 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩

abbrev nD : Nat := 1
abbrev τ : Topo := Topo.v7x

variable {F : FTy → Type} [FloatOps F]
-- ==== Kernel9.lean ====
abbrev S8x4352x1024 : Shape := ⟨3, ![8, 4352, 1024]⟩
abbrev S8x4096x1024 : Shape := ⟨3, ![8, 4096, 1024]⟩
abbrev S2x8x4352x1024 : Shape := ⟨4, ![2, 8, 4352, 1024]⟩
abbrev S8x4352x10240 : Shape := ⟨3, ![8, 4352, 10240]⟩
abbrev S16x6144 : Shape := ⟨2, ![16, 6144]⟩
abbrev S1024 : Shape := ⟨1, ![1024]⟩
abbrev S16x64 : Shape := ⟨2, ![16, 64]⟩
abbrev S128x1024 : Shape := ⟨2, ![128, 1024]⟩
abbrev S1024x1024 : Shape := ⟨2, ![1024, 1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S16x6x1024 : Shape := ⟨3, ![16, 6, 1024]⟩
abbrev S1x1024 : Shape := ⟨2, ![1, 1024]⟩
abbrev S1x256x1024 : Shape := ⟨3, ![1, 256, 1024]⟩
abbrev S2x1x256x1024 : Shape := ⟨4, ![2, 1, 256, 1024]⟩
abbrev S1x256x512 : Shape := ⟨3, ![1, 256, 512]⟩
abbrev S1x6x1024 : Shape := ⟨3, ![1, 6, 1024]⟩
abbrev S1x1x256x1024 : Shape := ⟨4, ![1, 1, 256, 1024]⟩
abbrev S256x1024 : Shape := ⟨2, ![256, 1024]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x1x1024 : Shape := ⟨3, ![1, 1, 1024]⟩

abbrev nBuf : Space → Nat
  | .hbm => 58
  | .vmem => 37
  | .smem => 0
  | _ => 0

abbrev bufTy : (tb : Table) → Fin (tcTables nBuf tb) → BufTy
  | .hbm, ⟨0, _⟩ => ⟨S8x4352x1024, .f32⟩
  | .hbm, ⟨1, _⟩ => ⟨S8x4096x1024, .f32⟩
  | .hbm, ⟨2, _⟩ => ⟨S8x4096x1024, .f32⟩
  | .hbm, ⟨3, _⟩ => ⟨S2x8x4352x1024, .f32⟩
  | .hbm, ⟨4, _⟩ => ⟨S8x4352x1024, .f32⟩
  | .hbm, ⟨5, _⟩ => ⟨S8x4352x1024, .f32⟩
  | .hbm, ⟨6, _⟩ => ⟨S2x8x4352x1024, .f32⟩
  | .hbm, ⟨7, _⟩ => ⟨S8x4352x10240, .f32⟩
  | .hbm, ⟨8, _⟩ => ⟨S16x6144, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S16x64, .f32⟩
  | .hbm, ⟨13, _⟩ => ⟨S128x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024, .i32⟩
  | .hbm, ⟨19, _⟩ => ⟨S_, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S128, .i32⟩
  | .hbm, ⟨39, _⟩ => ⟨S1x128, .i32⟩
  | .hbm, ⟨40, _⟩ => ⟨S1024x128, .i32⟩
  | .hbm, ⟨41, _⟩ => ⟨S1024x128, .i32⟩
  | .hbm, ⟨42, _⟩ => ⟨S1024x128, .i1⟩
  | .hbm, ⟨43, _⟩ => ⟨S1024x128, .bf16⟩
  | .hbm, ⟨44, _⟩ => ⟨S128x1024, .bf16⟩
  | .hbm, ⟨45, _⟩ => ⟨S16x6x1024, .f32⟩
  | .hbm, ⟨46, _⟩ => ⟨S8x4096x1024, .bf16⟩
  | .hbm, ⟨47, _⟩ => ⟨S8x4096x1024, .bf16⟩
  | .hbm, ⟨48, _⟩ => ⟨S128x1024, .bf16⟩
  | .hbm, ⟨49, _⟩ => ⟨S1024x1024, .bf16⟩
  | .hbm, ⟨50, _⟩ => ⟨S1024x1024, .bf16⟩
  | .hbm, ⟨51, _⟩ => ⟨S1024x1024, .bf16⟩
  | .hbm, ⟨52, _⟩ => ⟨S1024x1024, .bf16⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S2x1x256x1024, .f32⟩
  | .local _ .vmem, ⟨7, _⟩ => ⟨S2x1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S2x1x256x1024, .f32⟩
  | .local _ .vmem, ⟨13, _⟩ => ⟨S2x1x256x1024, .f32⟩
  | .local _ .vmem, ⟨14, _⟩ => ⟨S1x256x512, .f32⟩
  | .local _ .vmem, ⟨15, _⟩ => ⟨S1x256x512, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x6x1024, .f32⟩
  | .local _ .vmem, ⟨23, _⟩ => ⟨S1x6x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S128x1024, .bf16⟩
  | .local _ .vmem, ⟨29, _⟩ => ⟨S1024x128, .bf16⟩
  | .local _ .vmem, ⟨30, _⟩ => ⟨S128x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1x256x1024, .f32⟩
  | .local _ .vmem, ⟨36, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg23_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let c0_i32 : BitVec 32 := 0#32
  ![arg0.toNat, v0.toNat, c3_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let c0_i32 : BitVec 32 := 0#32
  ![arg0.toNat, v0.toNat, c7_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let c0_i32 : BitVec 32 := 0#32
  ![arg0.toNat, v0.toNat, c8_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c9_i32 : BitVec 32 := 9#32
  let c0_i32 : BitVec 32 := 0#32
  ![arg0.toNat, v0.toNat, c9_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference9Ideal.lean ====
abbrev S8x4352x1024 : Shape := ⟨3, ![8, 4352, 1024]⟩
abbrev S8x4096x1024 : Shape := ⟨3, ![8, 4096, 1024]⟩
abbrev S2x8x4352x1024 : Shape := ⟨4, ![2, 8, 4352, 1024]⟩
abbrev S8x4352x10240 : Shape := ⟨3, ![8, 4352, 10240]⟩
abbrev S16x6144 : Shape := ⟨2, ![16, 6144]⟩
abbrev S1024 : Shape := ⟨1, ![1024]⟩
abbrev S16x64 : Shape := ⟨2, ![16, 64]⟩
abbrev S128x1024 : Shape := ⟨2, ![128, 1024]⟩
abbrev S1024x1024 : Shape := ⟨2, ![1024, 1024]⟩
abbrev S2x8x4096x1024 : Shape := ⟨4, ![2, 8, 4096, 1024]⟩
abbrev S8x4096x10240 : Shape := ⟨3, ![8, 4096, 10240]⟩
abbrev S8x1024 : Shape := ⟨2, ![8, 1024]⟩
abbrev S8x1x1024 : Shape := ⟨3, ![8, 1, 1024]⟩
abbrev S1x8x4096x1024 : Shape := ⟨4, ![1, 8, 4096, 1024]⟩
abbrev S8x4096x16x64 : Shape := ⟨4, ![8, 4096, 16, 64]⟩
abbrev S8x4096x128 : Shape := ⟨3, ![8, 4096, 128]⟩
abbrev S_ : Shape := ⟨0, ![]⟩
abbrev S8x4096x16 : Shape := ⟨3, ![8, 4096, 16]⟩
abbrev S8x4096x16x1 : Shape := ⟨4, ![8, 4096, 16, 1]⟩
abbrev S1x1x1024 : Shape := ⟨3, ![1, 1, 1024]⟩
abbrev S1x1x16x64 : Shape := ⟨4, ![1, 1, 16, 64]⟩
abbrev S8x4096x3072 : Shape := ⟨3, ![8, 4096, 3072]⟩
abbrev S8x4096 : Shape := ⟨2, ![8, 4096]⟩
abbrev S8x4096x1 : Shape := ⟨3, ![8, 4096, 1]⟩

abbrev nBuf : Space → Nat
  | .hbm => 140
  | .vmem => 0
  | .smem => 0
  | _ => 0

abbrev hbmTy0_0 (i : Nat) : BufTy := match i % 128 with
  | 0 => ⟨S8x4352x1024, .f32⟩
  | 1 => ⟨S8x4096x1024, .f32⟩
  | 2 => ⟨S8x4096x1024, .f32⟩
  | 3 => ⟨S2x8x4352x1024, .f32⟩
  | 4 => ⟨S8x4352x1024, .f32⟩
  | 5 => ⟨S8x4352x1024, .f32⟩
  | 6 => ⟨S2x8x4352x1024, .f32⟩
  | 7 => ⟨S8x4352x10240, .f32⟩
  | 8 => ⟨S16x6144, .f32⟩
  | 9 => ⟨S1024, .f32⟩
  | 10 => ⟨S1024, .f32⟩
  | 11 => ⟨S1024, .f32⟩
  | 12 => ⟨S16x64, .f32⟩
  | 13 => ⟨S128x1024, .f32⟩
  | 14 => ⟨S1024x1024, .f32⟩
  | 15 => ⟨S1024x1024, .f32⟩
  | 16 => ⟨S1024x1024, .f32⟩
  | 17 => ⟨S1024x1024, .f32⟩
  | 18 => ⟨S8x4096x1024, .f32⟩
  | 19 => ⟨S2x8x4096x1024, .f32⟩
  | 20 => ⟨S8x4096x1024, .f32⟩
  | 21 => ⟨S8x4096x1024, .f32⟩
  | 22 => ⟨S2x8x4096x1024, .f32⟩
  | 23 => ⟨S8x4096x10240, .f32⟩
  | 24 => ⟨S8x1024, .f32⟩
  | 25 => ⟨S8x1x1024, .f32⟩
  | 26 => ⟨S1x8x4096x1024, .f32⟩
  | 27 => ⟨S8x4096x1024, .f32⟩
  | 28 => ⟨S1x8x4096x1024, .f32⟩
  | 29 => ⟨S8x4096x1024, .f32⟩
  | 30 => ⟨S8x4096x1024, .f32⟩
  | 31 => ⟨S8x4096x16x64, .f32⟩
  | 32 => ⟨S8x4096x16x64, .f32⟩
  | 33 => ⟨S8x4096x16x64, .f32⟩
  | 34 => ⟨S1x8x4096x1024, .f32⟩
  | 35 => ⟨S8x4096x1024, .f32⟩
  | 36 => ⟨S8x4096x16x64, .f32⟩
  | 37 => ⟨S1x8x4096x1024, .f32⟩
  | 38 => ⟨S8x4096x1024, .f32⟩
  | 39 => ⟨S8x4096x16x64, .f32⟩
  | 40 => ⟨S8x4096x128, .f32⟩
  | 41 => ⟨S_, .f32⟩
  | 42 => ⟨S8x4096x16, .f32⟩
  | 43 => ⟨S8x4096x16x1, .f32⟩
  | 44 => ⟨S_, .f32⟩
  | 45 => ⟨S8x4096x16x1, .f32⟩
  | 46 => ⟨S8x4096x16x1, .f32⟩
  | 47 => ⟨S8x4096x16x64, .f32⟩
  | 48 => ⟨S8x4096x16x64, .f32⟩
  | 49 => ⟨S8x4096x16x64, .f32⟩
  | 50 => ⟨S_, .f32⟩
  | 51 => ⟨S8x4096x16, .f32⟩
  | 52 => ⟨S8x4096x16x1, .f32⟩
  | 53 => ⟨S_, .f32⟩
  | 54 => ⟨S8x4096x16x1, .f32⟩
  | 55 => ⟨S8x4096x16x1, .f32⟩
  | 56 => ⟨S8x4096x16x64, .f32⟩
  | 57 => ⟨S8x4096x16x64, .f32⟩
  | 58 => ⟨S_, .f32⟩
  | 59 => ⟨S8x4096x16x1, .f32⟩
  | 60 => ⟨S8x4096x16x1, .f32⟩
  | 61 => ⟨S8x4096x16x1, .f32⟩
  | 62 => ⟨S8x4096x16x64, .f32⟩
  | 63 => ⟨S8x4096x16x64, .f32⟩
  | 64 => ⟨S8x4096x1024, .f32⟩
  | 65 => ⟨S1x1x1024, .f32⟩
  | 66 => ⟨S8x4096x1024, .f32⟩
  | 67 => ⟨S8x4096x1024, .f32⟩
  | 68 => ⟨S1x1x1024, .f32⟩
  | 69 => ⟨S8x4096x1024, .f32⟩
  | 70 => ⟨S8x4096x1024, .f32⟩
  | 71 => ⟨S8x4096x16x64, .f32⟩
  | 72 => ⟨S1x1x16x64, .f32⟩
  | 73 => ⟨S8x4096x16x64, .f32⟩
  | 74 => ⟨S8x4096x16x64, .f32⟩
  | 75 => ⟨S_, .f32⟩
  | 76 => ⟨S8x4096x16, .f32⟩
  | 77 => ⟨S8x4096x16x1, .f32⟩
  | 78 => ⟨S8x4096x16x64, .f32⟩
  | 79 => ⟨S1x1x16x64, .f32⟩
  | 80 => ⟨S8x4096x16x64, .f32⟩
  | 81 => ⟨S8x4096x16x64, .f32⟩
  | 82 => ⟨S_, .f32⟩
  | 83 => ⟨S8x4096x16, .f32⟩
  | 84 => ⟨S8x4096x16x1, .f32⟩
  | 85 => ⟨S8x4096x16x1, .f32⟩
  | 86 => ⟨S8x4096x16x64, .f32⟩
  | 87 => ⟨S8x4096x16x64, .f32⟩
  | 88 => ⟨S8x4096x128, .f32⟩
  | 89 => ⟨S8x4096x128, .f32⟩
  | 90 => ⟨S_, .f32⟩
  | 91 => ⟨S8x4096x128, .f32⟩
  | 92 => ⟨S8x4096x128, .f32⟩
  | 93 => ⟨S_, .f32⟩
  | 94 => ⟨S8x4096x128, .f32⟩
  | 95 => ⟨S8x4096x128, .f32⟩
  | 96 => ⟨S8x4096x1024, .f32⟩
  | 97 => ⟨S8x4096x1024, .f32⟩
  | 98 => ⟨S8x4096x1024, .f32⟩
  | 99 => ⟨S8x4096x1024, .f32⟩
  | 100 => ⟨S8x4096x3072, .f32⟩
  | 101 => ⟨S8x4096x3072, .f32⟩
  | 102 => ⟨S8x4096x3072, .f32⟩
  | 103 => ⟨S_, .f32⟩
  | 104 => ⟨S8x4096x3072, .f32⟩
  | 105 => ⟨S8x4096x3072, .f32⟩
  | 106 => ⟨S_, .f32⟩
  | 107 => ⟨S8x4096x3072, .f32⟩
  | 108 => ⟨S8x4096x3072, .f32⟩
  | 109 => ⟨S8x4096x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S8x4096x1024, .f32⟩
  | 116 => ⟨S8x4096x1024, .f32⟩
  | 117 => ⟨S8x4096x1024, .f32⟩
  | 118 => ⟨S8x4096x1024, .f32⟩
  | 119 => ⟨S8x4096x1024, .f32⟩
  | 120 => ⟨S8x4096x1024, .f32⟩
  | 121 => ⟨S8x4096x1024, .f32⟩
  | 122 => ⟨S_, .f32⟩
  | 123 => ⟨S8x4096, .f32⟩
  | 124 => ⟨S8x4096x1, .f32⟩
  | 125 => ⟨S_, .f32⟩
  | 126 => ⟨S8x4096x1, .f32⟩
  | 127 => ⟨S8x4096x1, .f32⟩
  | _ => ⟨S8x4352x1024, .f32⟩

abbrev hbmTy0_1 (i : Nat) : BufTy := match i % 128 with
  | 0 => ⟨S_, .f32⟩
  | 1 => ⟨S8x4096x1, .f32⟩
  | 2 => ⟨S8x4096x1, .f32⟩
  | 3 => ⟨S8x4096x1, .f32⟩
  | 4 => ⟨S8x4096x1024, .f32⟩
  | 5 => ⟨S8x4096x1024, .f32⟩
  | 6 => ⟨S1x1x1024, .f32⟩
  | 7 => ⟨S8x4096x1024, .f32⟩
  | 8 => ⟨S8x4096x1024, .f32⟩
  | 9 => ⟨S8x4096x1024, .f32⟩
  | 10 => ⟨S8x4096x1024, .f32⟩
  | 11 => ⟨S8x4096x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_cst_0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_6 : Ref sig .tc := ⟨.hbm, 90, rfl⟩
abbrev main_v65 : Ref sig .tc := ⟨.hbm, 91, rfl⟩
abbrev main_v66 : Ref sig .tc := ⟨.hbm, 92, rfl⟩
abbrev main_cst_7 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_8 : Ref sig .tc := ⟨.hbm, 103, rfl⟩
abbrev main_v76 : Ref sig .tc := ⟨.hbm, 104, rfl⟩
abbrev main_v77 : Ref sig .tc := ⟨.hbm, 105, rfl⟩
abbrev main_cst_9 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_10 : Ref sig .tc := ⟨.hbm, 122, rfl⟩
abbrev main_v93 : Ref sig .tc := ⟨.hbm, 123, rfl⟩
abbrev main_v94 : Ref sig .tc := ⟨.hbm, 124, rfl⟩
abbrev main_cst_11 : Ref sig .tc := ⟨.hbm, 125, rfl⟩
abbrev main_v95 : Ref sig .tc := ⟨.hbm, 126, rfl⟩
abbrev main_v96 : Ref sig .tc := ⟨.hbm, 127, rfl⟩
abbrev main_cst_12 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩

abbrev nD : Nat := 1
abbrev τ : Topo := Topo.v7x

variable {F : FTy → Type} [FloatOps F]
-- ==== Proof.Softmax.lean ====
/- Softmax over the extended reals: an online softmax (running maximum, rescaled sums) has the value of the plain one when
   the scores are real; the values weighted may be infinite. Nothing here speaks of a program. -/
module

public import Idealize.ShloMosaic.PureOps.Ideal
public import Idealize.ShloMosaic.Lib.Pointwise

@[expose] public section

noncomputable section

namespace Cert.Softmax

open Idealize.ShloMosaic

/-- A real factor that is not negative distributes over a sum of extended reals, infinite ones among them. -/
theorem coe_mul_sum {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A sum of reals, taken in the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals, folded from `⊥`, is a real. -/
theorem fold_max_real {ι : Type*} (s : Finset ι) (hs : s.Nonempty) (f : ι → ℝ) :
    ∃ r : ℝ, Finset.fold max (⊥ : EReal) (fun i => (f i : EReal)) s = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- Division by a real that is not zero multiplies by its inverse. -/
theorem div_real (x : EReal) {r : ℝ} (hr : r ≠ 0) : Ideal.div x (r : EReal) = ((r⁻¹ : ℝ) : EReal) * x := by
  rw [Ideal.div, if_neg (by exact_mod_cast hr), mul_comm, ← EReal.coe_inv]

/-- Two to a difference of reals. -/
theorem exp2_sub (a b : ℝ) : Ideal.exp2 ((a : EReal) - (b : EReal)) = (((2 : ℝ) ^ (a - b) : ℝ) : EReal) := by
  rw [← EReal.coe_sub, Ideal.exp2_coe]; rfl

/-- The plain weighted mean with the weights `w`, over their sum. -/
def mean {ι : Type*} (s : Finset ι) (w : ι → ℝ) (v : ι → EReal) : EReal :=
  ∑ i ∈ s, ((w i / ∑ k ∈ s, w k : ℝ) : EReal) * v i

/-- Scaling every weight by one positive factor leaves the mean. -/
theorem mean_scale {ι : Type*} (s : Finset ι) (w w' : ι → ℝ) (v : ι → EReal) {c : ℝ} (hc : c ≠ 0)
    (h : ∀ i ∈ s, w' i = w i * c) : mean s w' v = mean s w v := by
  unfold mean
  rw [Finset.sum_congr rfl h, ← Finset.sum_mul]
  exact Finset.sum_congr rfl fun i hi => by rw [h i hi, mul_div_mul_right _ _ hc]

/-- The plain softmax as a program writes it: each exponential, above any real bound `μ`, over their sum, times its value. -/
theorem plain {ι : Type*} (s : Finset ι) (τ : ι → ℝ) (v : ι → EReal) (μ : ℝ) (hs : s.Nonempty) :
    ∑ i ∈ s, Ideal.div (Ideal.exp ((τ i : EReal) - (μ : EReal))) (∑ k ∈ s, Ideal.exp ((τ k : EReal) - (μ : EReal))) * v i
      = mean s (fun i => Real.exp (τ i)) v := by
  have he : ∀ i, Ideal.exp ((τ i : EReal) - (μ : EReal)) = ((Real.exp (τ i - μ) : ℝ) : EReal) := fun i => by
    rw [← EReal.coe_sub, Ideal.exp_coe]
  have hpos : 0 < ∑ k ∈ s, Real.exp (τ k - μ) := Finset.sum_pos (fun _ _ => Real.exp_pos _) hs
  simp only [he, coe_sum, div_real _ hpos.ne']
  rw [← mean_scale s (fun i => Real.exp (τ i)) (fun i => Real.exp (τ i - μ)) v (Real.exp_pos (-μ)).ne'
    (fun i _ => by rw [← Real.exp_add, sub_eq_add_neg])]
  exact Finset.sum_congr rfl fun i _ => by rw [← EReal.coe_mul, div_eq_inv_mul]

/-- A sum in spans of `J` is the sum over the whole range. -/
theorem sum_spans {M : Type*} [AddCommMonoid M] (J N : ℕ) (f : ℕ → M) :
    ∑ i ∈ Finset.range N, ∑ j : Fin J, f (J * i + (j : ℕ)) = ∑ k ∈ Finset.range (J * N), f k := by
  induction N with
  | zero => simp
  | succ N ih => rw [Finset.sum_range_succ, ih, Nat.mul_succ, Finset.sum_range_add, Finset.sum_range (fun x => f (J * N + x))]

/-- A mean in spans of `J` is the mean over the whole range. -/
theorem mean_spans (J N : ℕ) (w : ℕ → ℝ) (v : ℕ → EReal) :
    mean (Finset.range N ×ˢ (Finset.univ : Finset (Fin J))) (fun x => w (J * x.1 + (x.2 : ℕ))) (fun x => v (J * x.1 + (x.2 : ℕ)))
      = mean (Finset.range (J * N)) w v := by
  unfold mean
  rw [Finset.sum_product, Finset.sum_product, sum_spans J N w]
  exact sum_spans J N fun k => ((w k / ∑ k ∈ Finset.range (J * N), w k : ℝ) : EReal) * v k

/-- A mean over `Fin K` of functions of the number is the mean over the range. -/
theorem mean_fin (K : ℕ) (w : ℕ → ℝ) (v : ℕ → EReal) :
    mean (Finset.univ : Finset (Fin K)) (fun k => w k) (fun k => v k) = mean (Finset.range K) w v := by
  unfold mean
  rw [Finset.sum_range, Finset.sum_range w]

/-- The word of minus infinity. -/
theorem bits_bot : Ideal.ofBits .f32 0xFF800000#32 = ⊥ := by simp [Ideal.ofBits, Ideal.ieee]

/-- The word of zero. -/
theorem bits_zero : Ideal.ofBits .f32 0x00000000#32 = 0 := by simp [Ideal.ofBits, Ideal.ieee]

/-- The word of plus infinity. -/
theorem bits_top : Ideal.ofBits .f32 0x7F800000#32 = ⊤ := by simp [Ideal.ofBits, Ideal.ieee]

section Online

variable {J : ℕ} (σ : ℕ → Fin J → ℝ) (v : ℕ → Fin J → EReal) (μ : ℕ → ℝ)

/-- The running sum of weights of an online softmax in base two, its running maxima `μ`. -/
theorem online_sum (L : ℕ → EReal)
    (h0 : L 0 = ∑ j, Ideal.exp2 ((σ 0 j : EReal) - (μ 0 : EReal)))
    (hs : ∀ n, L (n + 1) = Ideal.exp2 ((μ n : EReal) - (μ (n + 1) : EReal)) * L n
      + ∑ j, Ideal.exp2 ((σ (n + 1) j : EReal) - (μ (n + 1) : EReal))) (n : ℕ) :
    L n = ((∑ i ∈ Finset.range (n + 1), ∑ j, (2 : ℝ) ^ (σ i j - μ n) : ℝ) : EReal) := by
  induction n with
  | zero => rw [h0]; simp only [exp2_sub, coe_sum, zero_add, Finset.range_one, Finset.sum_singleton]
  | succ n ih =>
    rw [hs, ih]
    simp only [exp2_sub, coe_sum]
    rw [← EReal.coe_mul, ← EReal.coe_add, Finset.sum_range_succ _ (n + 1), Finset.mul_sum]
    congr 2
    refine Finset.sum_congr rfl fun i _ => ?_
    rw [Finset.mul_sum]
    exact Finset.sum_congr rfl fun j _ => by rw [← Real.rpow_add two_pos]; congr 1; ring

/-- The running weighted sum of the values. -/
theorem online_acc (A : ℕ → EReal)
    (h0 : A 0 = ∑ j, Ideal.exp2 ((σ 0 j : EReal) - (μ 0 : EReal)) * v 0 j)
    (hs : ∀ n, A (n + 1) = Ideal.exp2 ((μ n : EReal) - (μ (n + 1) : EReal)) * A n
      + ∑ j, Ideal.exp2 ((σ (n + 1) j : EReal) - (μ (n + 1) : EReal)) * v (n + 1) j) (n : ℕ) :
    A n = ∑ i ∈ Finset.range (n + 1), ∑ j, (((2 : ℝ) ^ (σ i j - μ n) : ℝ) : EReal) * v i j := by
  induction n with
  | zero => rw [h0]; simp only [exp2_sub, zero_add, Finset.range_one, Finset.sum_singleton]
  | succ n ih =>
    rw [hs, ih]
    simp only [exp2_sub]
    rw [Finset.sum_range_succ _ (n + 1), coe_mul_sum _ _ (Real.rpow_nonneg two_pos.le _)]
    congr 1
    refine Finset.sum_congr rfl fun i _ => ?_
    rw [coe_mul_sum _ _ (Real.rpow_nonneg two_pos.le _)]
    exact Finset.sum_congr rfl fun j _ => by
      rw [← mul_assoc, ← EReal.coe_mul, ← Real.rpow_add two_pos]; congr 3; ring

/-- The online softmax, its last quotient taken: the mean of the values under the weights `2 ^ σ`. -/
theorem online (L A : ℕ → EReal) (hJ : 0 < J)
    (hL0 : L 0 = ∑ j, Ideal.exp2 ((σ 0 j : EReal) - (μ 0 : EReal)))
    (hLs : ∀ n, L (n + 1) = Ideal.exp2 ((μ n : EReal) - (μ (n + 1) : EReal)) * L n
      + ∑ j, Ideal.exp2 ((σ (n + 1) j : EReal) - (μ (n + 1) : EReal)))
    (hA0 : A 0 = ∑ j, Ideal.exp2 ((σ 0 j : EReal) - (μ 0 : EReal)) * v 0 j)
    (hAs : ∀ n, A (n + 1) = Ideal.exp2 ((μ n : EReal) - (μ (n + 1) : EReal)) * A n
      + ∑ j, Ideal.exp2 ((σ (n + 1) j : EReal) - (μ (n + 1) : EReal)) * v (n + 1) j) (n : ℕ) :
    Ideal.div (A n) (L n)
      = mean (Finset.range (n + 1) ×ˢ Finset.univ) (fun x => (2 : ℝ) ^ σ x.1 x.2) (fun x => v x.1 x.2) := by
  haveI : Nonempty (Fin J) := ⟨⟨0, hJ⟩⟩
  rw [online_sum σ μ L hL0 hLs, online_acc σ v μ A hA0 hAs]
  have hpos : 0 < ∑ i ∈ Finset.range (n + 1), ∑ j : Fin J, (2 : ℝ) ^ (σ i j - μ n) :=
    Finset.sum_pos (fun _ _ => Finset.sum_pos (fun _ _ => Real.rpow_pos_of_pos two_pos _) Finset.univ_nonempty)
      (Finset.nonempty_range_iff.mpr (Nat.succ_ne_zero n))
  rw [div_real _ hpos.ne', coe_mul_sum _ _ (inv_nonneg.mpr hpos.le)]
  rw [← mean_scale _ (fun x : ℕ × Fin J => (2 : ℝ) ^ σ x.1 x.2) (fun x => (2 : ℝ) ^ (σ x.1 x.2 - μ n)) _
    (Real.rpow_pos_of_pos two_pos (-μ n)).ne' (fun x _ => by rw [← Real.rpow_add two_pos, sub_eq_add_neg])]
  unfold mean
  rw [Finset.sum_product, Finset.sum_product]
  refine Finset.sum_congr rfl fun i _ => ?_
  rw [coe_mul_sum _ _ (inv_nonneg.mpr hpos.le)]
  exact Finset.sum_congr rfl fun j _ => by rw [← mul_assoc, ← EReal.coe_mul, div_eq_inv_mul]

end Online

end Cert.Softmax

end
-- ==== Proof.Rows.lean ====
/- The attention body as a chain of uniform steps, one per span of 256 keys, and each step read at a row of its block. -/
module

public import proofs.«01_k».proof.Proof.Gen.KernelIdeal.Value
public import proofs.«01_k».proof.Proof.Softmax
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Cert.KernelIdeal.Facts Cert.Softmax

/-- The four query heads of a tile, one below another. -/
def heads (a b c d : Vec Ideal S1x256x128 .bf16) : FVec Ideal S1024x128 .bf16 :=
  concatenate S1024x128 0 [⟨S256x128, shapeCast S256x128 a shapeCasts_S1x256x128_S256x128⟩,
    ⟨S256x128, shapeCast S256x128 b shapeCasts_S1x256x128_S256x128⟩,
    ⟨S256x128, shapeCast S256x128 c shapeCasts_S1x256x128_S256x128⟩,
    ⟨S256x128, shapeCast S256x128 d shapeCasts_S1x256x128_S256x128⟩]
    concatenates_S256x128_S256x128_S256x128_S256x128_S1024x128_d0

/-- The scores of the queries against one span of keys. -/
def scores (q : FVec Ideal S1024x128 .bf16) (k : Vec Ideal S1x256x128 .bf16) : FVec Ideal S1024x256 .f32 :=
  matmul dot_S1024x128_S256x128_S1024x256_1_1_0_0_n_n none (φ₂ := .bf16) q (shapeCast S256x128 k shapeCasts_S1x256x128_S256x128)
    (constant S1024x256 .f32 0x00000000#32)

/-- A row's greatest score in a span. -/
def top (s : FVec Ideal S1024x256 .f32) : FVec Ideal S1024x1 .f32 :=
  shapeCast S1024x1 (multiReduction .maximumf [1] S1024 s 0xFF800000#32 reduces_S1024x256_S1024 (.inl rfl) rfl)
    shapeCasts_S1024_S1024x1

/-- The unnormalised weights of a span, below the maximum `m`. -/
def wts (s : FVec Ideal S1024x256 .f32) (m : FVec Ideal S1024x1 .f32) : FVec Ideal S1024x256 .f32 :=
  exp2 (subf s (broadcastTo S1024x256 m broadcasts_S1024x1_S1024x256))

/-- A row's sum of weights. -/
def tot (p : FVec Ideal S1024x256 .f32) : FVec Ideal S1024x1 .f32 :=
  shapeCast S1024x1 (multiReduction .add [1] S1024 p 0x00000000#32 reduces_S1024x256_S1024 (.inl rfl) rfl)
    shapeCasts_S1024_S1024x1

/-- The weights against a span of values. -/
def wv (p : FVec Ideal S1024x256 .f32) (v : Vec Ideal S1x256x128 .bf16) : FVec Ideal S1024x128 .f32 :=
  matmul dot_S1024x256_S256x128_S1024x128_1_0_0_1_n_n none (φ₂ := .bf16) (truncf .bf16 p bitsLt_bf16_f32)
    (shapeCast S256x128 v shapeCasts_S1x256x128_S256x128) (constant S1024x128 .f32 0x00000000#32)

/-- The running maximum after span `n`. -/
def runM (q : FVec Ideal S1024x128 .bf16) (k : ℕ → Vec Ideal S1x256x128 .bf16) : ℕ → FVec Ideal S1024x1 .f32
  | 0 => top (scores q (k 0))
  | n + 1 => maximumf (runM q k n) (top (scores q (k (n + 1))))

/-- The running sum of weights after span `n`. -/
def runL (q : FVec Ideal S1024x128 .bf16) (k : ℕ → Vec Ideal S1x256x128 .bf16) : ℕ → FVec Ideal S1024x1 .f32
  | 0 => tot (wts (scores q (k 0)) (runM q k 0))
  | n + 1 => addf (mulf (exp2 (subf (runM q k n) (runM q k (n + 1)))) (runL q k n))
      (tot (wts (scores q (k (n + 1))) (runM q k (n + 1))))

/-- The running weighted sum of the values after span `n`. -/
def runA (q : FVec Ideal S1024x128 .bf16) (k v : ℕ → Vec Ideal S1x256x128 .bf16) : ℕ → FVec Ideal S1024x128 .f32
  | 0 => wv (wts (scores q (k 0)) (runM q k 0)) (v 0)
  | n + 1 => addf (mulf (broadcastTo S1024x128 (exp2 (subf (runM q k n) (runM q k (n + 1)))) broadcasts_S1024x1_S1024x128)
        (runA q k v n))
      (wv (wts (scores q (k (n + 1))) (runM q k (n + 1))) (v (n + 1)))

/-- The tile's result after span `n`: the weighted sum over the sum of weights. -/
def res (q : FVec Ideal S1024x128 .bf16) (k v : ℕ → Vec Ideal S1x256x128 .bf16) (n : ℕ) : FVec Ideal S1024x128 .f32 :=
  divf (runA q k v n) (broadcastTo S1024x128 (runL q k n) broadcasts_S1024x1_S1024x128)

/-- Rows `256 n …` of a key or value block. -/
def span (x : Vec Ideal S1x4352x128 .bf16) (n : ℕ) : Vec Ideal S1x256x128 .bf16 :=
  fun y => x (ix3 0 ⟨(256 * n + (y 1 : ℕ)) % 4352, Nat.mod_lt _ (by norm_num)⟩ (y 2))

/-- Head `g`'s columns of a query block. -/
def qhead (x : Vec Ideal S1x256x512 .bf16) (g : ℕ) : Vec Ideal S1x256x128 .bf16 :=
  fun y => x (ix3 0 (y 1) ⟨(128 * g + (y 2 : ℕ)) % 512, Nat.mod_lt _ (by norm_num)⟩)

/-- The query block's heads, one below another. -/
def qcat (x : Vec Ideal S1x256x512 .bf16) : FVec Ideal S1024x128 .bf16 :=
  heads (qhead x 0) (qhead x 1) (qhead x 2) (qhead x 3)

/-- A load of a span is that span. -/
theorem ld_span (x : Vec Ideal S1x4352x128 .bf16) (n o : ℕ) (ho : o = 256 * n) (h) :
    View.ld x (Rect.unit ![0, o, 0] ![1, 256, 128] h) = span x n := by
  subst ho
  have h1 : 256 * n + 256 ≤ 4352 := h 1
  funext y
  unfold span
  pointwise []
  blk_ext

/-- A load of a head's columns is that head. -/
theorem ld_head (x : Vec Ideal S1x256x512 .bf16) (n o : ℕ) (ho : o = 128 * n) (h) :
    View.ld x (Rect.unit ![0, 0, o] ![1, 256, 128] h) = qhead x n := by
  subst ho
  have h1 : 128 * n + 128 ≤ 512 := h 2
  funext y
  unfold qhead
  pointwise []
  blk_ext

theorem scores_apply (q k) (r : Fin 1024) (j : Fin 256) :
    scores q k (ix2 r j) = ∑ d : Fin 128, q (ix2 r d) * k (ix3 0 j d) := by
  pointwise [scores]

theorem top_apply (s) (r : Fin 1024) : top s (ix2 r 0) = Finset.fold max ⊥ (fun j : Fin 256 => s (ix2 r j)) Finset.univ := by
  pointwise [top]
  rw [bits_bot]

theorem wts_apply (s m) (r : Fin 1024) (j : Fin 256) :
    wts s m (ix2 r j) = Ideal.exp2 (s (ix2 r j) - m (ix2 r 0)) := by
  pointwise [wts]
  rfl

theorem tot_apply (p) (r : Fin 1024) : tot p (ix2 r 0) = ∑ j : Fin 256, p (ix2 r j) := by
  pointwise [tot]

theorem wv_apply (p v) (r : Fin 1024) (d : Fin 128) :
    wv p v (ix2 r d) = ∑ j : Fin 256, p (ix2 r j) * v (ix3 0 j d) := by
  pointwise [wv]

theorem res_apply (q k v) (n : ℕ) (r : Fin 1024) (d : Fin 128) :
    res q k v n (ix2 r d) = Ideal.div (runA q k v n (ix2 r d)) (runL q k n (ix2 r 0)) := by
  pointwise [res]

/-- A stacked row of the queries is its row of its head. -/
theorem qcat_apply (x) (r : Fin 1024) (d : Fin 128) :
    qcat x (ix2 r d) = x (ix3 0 ⟨(r : ℕ) % 256, Nat.mod_lt _ (by norm_num)⟩ ⟨128 * ((r : ℕ) / 256) + (d : ℕ), by omega⟩) := by
  pointwise [qcat, heads, qhead]
  blk_point []

section Row

variable (q : FVec Ideal S1024x128 .bf16) (k v : ℕ → Vec Ideal S1x256x128 .bf16) (r : Fin 1024) (σ : ℕ → Fin 256 → ℝ)
variable (hσ : ∀ n j, scores q (k n) (ix2 r j) = (σ n j : EReal))

include hσ in
/-- A row's running maximum is real when its scores are. -/
theorem runM_real (n : ℕ) : ∃ μ : ℝ, runM q k n (ix2 r 0) = (μ : EReal) := by
  have ht : ∀ n, ∃ μ : ℝ, top (scores q (k n)) (ix2 r 0) = (μ : EReal) := fun n => by
    rw [top_apply]; simp only [hσ]; exact fold_max_real _ Finset.univ_nonempty _
  induction n with
  | zero => exact ht 0
  | succ n ih =>
    obtain ⟨a, ha⟩ := ih
    obtain ⟨b, hb⟩ := ht (n + 1)
    refine ⟨max a b, ?_⟩
    show max (runM q k n (ix2 r 0)) (top (scores q (k (n + 1))) (ix2 r 0)) = _
    rw [ha, hb]; exact (EReal.coe_strictMono.monotone.map_max).symm

include hσ in
/-- A row of a tile's result: the mean of the values under the weights `2 ^ σ`. -/
theorem res_row (n : ℕ) (d : Fin 128) :
    res q k v n (ix2 r d)
      = mean (Finset.range (n + 1) ×ˢ Finset.univ) (fun x => (2 : ℝ) ^ σ x.1 x.2) (fun x => v x.1 (ix3 0 x.2 d)) := by
  choose μ hμ using runM_real q k r σ hσ
  rw [res_apply]
  refine online σ (fun n j => v n (ix3 0 j d)) μ (fun n => runL q k n (ix2 r 0)) (fun n => runA q k v n (ix2 r d))
    (by norm_num) ?_ (fun n => ?_) ?_ (fun n => ?_) n
  · show tot (wts (scores q (k 0)) (runM q k 0)) (ix2 r 0) = _
    rw [tot_apply]; simp only [wts_apply, hσ, hμ]
  · show addf (mulf (exp2 (subf (runM q k n) (runM q k (n + 1)))) (runL q k n))
      (tot (wts (scores q (k (n + 1))) (runM q k (n + 1)))) (ix2 r 0) = _
    pointwise []
    rw [tot_apply]; simp only [wts_apply, hσ, hμ]
    rfl
  · show wv (wts (scores q (k 0)) (runM q k 0)) (v 0) (ix2 r d) = _
    rw [wv_apply]; simp only [wts_apply, hσ, hμ]
  · show addf (mulf (broadcastTo S1024x128 (exp2 (subf (runM q k n) (runM q k (n + 1)))) broadcasts_S1024x1_S1024x128)
        (runA q k v n)) (wv (wts (scores q (k (n + 1))) (runM q k (n + 1))) (v (n + 1))) (ix2 r d) = _
    pointwise []
    rw [wv_apply]; simp only [wts_apply, hσ, hμ]
    rfl

end Row

end Cert.KernelIdeal.Hand

end
-- ==== Proof.Spec.lean ====
/- The attention of the layer as one formula of its queries, keys and values: softmax weights of the scaled inner products, a
   query among the first 256 tokens seeing those alone, and query heads 4h … 4h + 3 reading key and value head h. -/
module

public import proofs.«01_k».proof.Proof.Softmax

@[expose] public section

noncomputable section

namespace Cert.Spec

open Idealize.ShloMosaic Cert.Softmax

abbrev SQ : Shape := ⟨3, ![8, 4352, 1024]⟩
abbrev SK : Shape := ⟨3, ![8, 4352, 256]⟩

/-- The real that the f32 constant nearest `1 / √128` denotes. -/
def unit : ℝ := (Ideal.ofBits .f32 0x3DB504F3#32).toReal

theorem unit_eq : Ideal.ofBits .f32 0x3DB504F3#32 = (unit : EReal) := by
  have h : ∃ r : ℝ, Ideal.ofBits .f32 0x3DB504F3#32 = (r : EReal) := by
    simp only [Ideal.ofBits, Ideal.ieee]
    simp
    exact ⟨_, (EReal.coe_mul _ _).symm⟩
  obtain ⟨r, hr⟩ := h
  rw [unit, hr, EReal.toReal_coe]

theorem two_eq : Ideal.ofBits .f32 0x40000000#32 = ((2 : ℝ) : EReal) := by
  simp [Ideal.ofBits, Ideal.ieee]
  rw [← EReal.coe_mul]
  norm_num

theorem log_two : Ideal.log ((2 : ℝ) : EReal) = ((Real.log 2 : ℝ) : EReal) := by
  rw [Ideal.log_coe, if_neg (by norm_num)]

/-- The host's scale, `unit / log 2`, is a real. -/
theorem scale_eq : Ideal.div (Ideal.ofBits .f32 0x3DB504F3#32) (Ideal.log (Ideal.ofBits .f32 0x40000000#32))
    = ((unit / Real.log 2 : ℝ) : EReal) := by
  rw [unit_eq, two_eq, log_two, div_real _ (Real.log_pos one_lt_two).ne', ← EReal.coe_mul, div_eq_inv_mul]

/-- Two to the power `x / log 2` is the exponential of `x`. -/
theorem two_rpow (x : ℝ) : (2 : ℝ) ^ (x / Real.log 2) = Real.exp x := by
  rw [Real.rpow_def_of_pos two_pos, mul_div_cancel₀ _ (Real.log_pos one_lt_two).ne']

/-- Every element is a real. -/
def Reals {S : Shape} (x : FVec Ideal S .f32) : Prop := ∀ i, x i = ((x i).toReal : EReal)

/-- The scaled score of the query that output element `i` belongs to against key `n`. -/
def tau (q : FVec Ideal SQ .f32) (k : FVec Ideal SK .f32) (i : SQ.Idx) (n : ℕ) : ℝ :=
  (∑ d : Fin 128, (q (ix3 (i 0) (i 1) ⟨128 * ((i 2 : ℕ) / 128) + (d : ℕ), by have h : (i 2 : ℕ) < 1024 := (i 2).isLt; omega⟩)).toReal
    * (k (ix3 (i 0) ⟨n % 4352, Nat.mod_lt _ (by norm_num)⟩
        ⟨128 * ((i 2 : ℕ) / 512) + (d : ℕ), by have h : (i 2 : ℕ) < 1024 := (i 2).isLt; omega⟩)).toReal) * unit

/-- The value that key `n` contributes to output element `i`. -/
def val (v : FVec Ideal SK .f32) (i : SQ.Idx) (n : ℕ) : EReal :=
  v (ix3 (i 0) ⟨n % 4352, Nat.mod_lt _ (by norm_num)⟩
    ⟨128 * ((i 2 : ℕ) / 512) + (i 2 : ℕ) % 128, by have h : (i 2 : ℕ) < 1024 := (i 2).isLt; omega⟩)

/-- The attention at output element `i`, over the first `N` keys. -/
def attn (q : FVec Ideal SQ .f32) (k v : FVec Ideal SK .f32) (N : ℕ) (i : SQ.Idx) : EReal :=
  mean (Finset.range N) (fun n => Real.exp (tau q k i n)) (val v i)

/-- The layer's attention: the first 256 tokens see one another, the rest see all 4352. -/
def G (q : FVec Ideal SQ .f32) (k v : FVec Ideal SK .f32) : FVec Ideal SQ .bf16 :=
  fun i => attn q k v (if (i 1 : ℕ) < 256 then 256 else 4352) i

/-- The tokens after the first 256. -/
abbrev SL : Shape := ⟨3, ![8, 4096, 1024]⟩

/-- The attention of those tokens, which see all 4352 keys. -/
def later (q : FVec Ideal SQ .f32) (k v : FVec Ideal SK .f32) : FVec Ideal SL .bf16 :=
  fun i => attn q k v 4352 (ix3 (i 0) ⟨256 + (i 1 : ℕ), by have h : (i 1 : ℕ) < 4096 := (i 1).isLt; omega⟩ (i 2))

end Cert.Spec

end
-- ==== Proof.Block.lean ====
/- What a grid point of the attention call leaves in its block: the result of the chain of steps, one span for a context
   tile and seventeen for the others, and that result as a mean of values. -/
module

public import proofs.«01_k».proof.Proof.Rows
public import proofs.«01_k».proof.Proof.Spec

@[expose] public section

set_option maxRecDepth 16384

noncomputable section

namespace Cert.KernelIdeal.Hand

open Cert.KernelIdeal Cert.KernelIdeal.Gen Idealize.ShloMosaic Idealize.ShloMosaic.TcCoe Idealize.SL.Sem
open Cert.KernelIdeal.Facts Cert.Softmax Cert.Spec

variable (m : (ℓ : Loc nD τ sig) → Buf (Elt Ideal) ℓ)

theorem row_lt (y : S1x256x512.Idx) : 256 * ((y 2 : ℕ) / 128) + (y 1 : ℕ) < 1024 := by
  have h1 : (y 1 : ℕ) < 256 := (y 1).isLt
  have h2 : (y 2 : ℕ) < 512 := (y 2).isLt
  omega

/-- A context tile attends to the first span. -/
theorem out_ctx (c : Dev nD) (t : Fin cfg0.N) (ha : t.val % 17 = 0) (hb : ¬1 ≤ t.val % 17) (y : S1x256x512.Idx) :
    outsAt0 m c t.val t.isLt y
      = res (qcat (iblk m c 0 t)) (span (iblk m c 1 t)) (span (iblk m c 2 t)) 0
          (ix2 ⟨256 * ((y 2 : ℕ) / 128) + (y 1 : ℕ), row_lt y⟩ ⟨(y 2 : ℕ) % 128, Nat.mod_lt _ (by norm_num)⟩) := by
  rw [outsAt0_A m c t ha hb]
  frame_out
  canon_tiles x h
  all_goals simp only [ld_head _ 0 0 rfl, ld_head _ 1 128 rfl, ld_head _ 2 256 rfl, ld_head _ 3 384 rfl, ld_span _ 0 0 rfl, ld_span _
    1 256 rfl, ld_span _ 2 512 rfl, ld_span _ 3 768 rfl, ld_span _ 4 1024 rfl, ld_span _ 5 1280 rfl, ld_span _ 6
    1536 rfl, ld_span _ 7 1792 rfl, ld_span _ 8 2048 rfl, ld_span _ 9 2304 rfl, ld_span _ 10 2560 rfl, ld_span _
    11 2816 rfl, ld_span _ 12 3072 rfl, ld_span _ 13 3328 rfl, ld_span _ 14 3584 rfl, ld_span _ 15 3840 rfl,
    ld_span _ 16 4096 rfl]
  case piece0 =>
    change shapeCast S1x256x128 (truncf .bf16 (extractStridedSlice S256x128 ![768, 0]
      (res (qcat (iblk m c 0 t)) (span (iblk m c 1 t)) (span (iblk m c 2 t)) 0) slices_S1024x128_o768_0_S256x128)
      bitsLt_bf16_f32) shapeCasts_S256x128_S1x256x128 x = _
    generalize res (qcat (iblk m c 0 t)) (span (iblk m c 1 t)) (span (iblk m c 2 t)) 0 = R
    pointwise []
    blk_ext
  case piece1 =>
    change shapeCast S1x256x128 (truncf .bf16 (extractStridedSlice S256x128 ![512, 0]
      (res (qcat (iblk m c 0 t)) (span (iblk m c 1 t)) (span (iblk m c 2 t)) 0) slices_S1024x128_o512_0_S256x128)
      bitsLt_bf16_f32) shapeCasts_S256x128_S1x256x128 x = _
    generalize res (qcat (iblk m c 0 t)) (span (iblk m c 1 t)) (span (iblk m c 2 t)) 0 = R
    pointwise []
    blk_ext
  case piece2 =>
    change shapeCast S1x256x128 (truncf .bf16 (extractStridedSlice S256x128 ![256, 0]
      (res (qcat (iblk m c 0 t)) (span (iblk m c 1 t)) (span (iblk m c 2 t)) 0) slices_S1024x128_o256_0_S256x128)
      bitsLt_bf16_f32) shapeCasts_S256x128_S1x256x128 x = _
    generalize res (qcat (iblk m c 0 t)) (span (iblk m c 1 t)) (span (iblk m c 2 t)) 0 = R
    pointwise []
    blk_ext
  case piece3 =>
    change shapeCast S1x256x128 (truncf .bf16 (extractStridedSlice S256x128 ![0, 0]
      (res (qcat (iblk m c 0 t)) (span (iblk m c 1 t)) (span (iblk m c 2 t)) 0) slices_S1024x128_o0_0_S256x128)
      bitsLt_bf16_f32) shapeCasts_S256x128_S1x256x128 x = _
    generalize res (qcat (iblk m c 0 t)) (span (iblk m c 1 t)) (span (iblk m c 2 t)) 0 = R
    pointwise []
    blk_ext

/-- Another tile attends to all seventeen spans. -/
theorem out_lat (c : Dev nD) (t : Fin cfg0.N) (ha : ¬t.val % 17 = 0) (hb : 1 ≤ t.val % 17) (y : S1x256x512.Idx) :
    outsAt0 m c t.val t.isLt y
      = res (qcat (iblk m c 0 t)) (span (iblk m c 1 t)) (span (iblk m c 2 t)) 16
          (ix2 ⟨256 * ((y 2 : ℕ) / 128) + (y 1 : ℕ), row_lt y⟩ ⟨(y 2 : ℕ) % 128, Nat.mod_lt _ (by norm_num)⟩) := by
  rw [outsAt0_B m c t ha hb]
  frame_out
  canon_tiles x h
  all_goals simp only [ld_head _ 0 0 rfl, ld_head _ 1 128 rfl, ld_head _ 2 256 rfl, ld_head _ 3 384 rfl, ld_span _ 0 0 rfl, ld_span _
    1 256 rfl, ld_span _ 2 512 rfl, ld_span _ 3 768 rfl, ld_span _ 4 1024 rfl, ld_span _ 5 1280 rfl, ld_span _ 6
    1536 rfl, ld_span _ 7 1792 rfl, ld_span _ 8 2048 rfl, ld_span _ 9 2304 rfl, ld_span _ 10 2560 rfl, ld_span _
    11 2816 rfl, ld_span _ 12 3072 rfl, ld_span _ 13 3328 rfl, ld_span _ 14 3584 rfl, ld_span _ 15 3840 rfl,
    ld_span _ 16 4096 rfl]
  case piece0 =>
    change shapeCast S1x256x128 (truncf .bf16 (extractStridedSlice S256x128 ![768, 0]
      (res (qcat (iblk m c 0 t)) (span (iblk m c 1 t)) (span (iblk m c 2 t)) 16) slices_S1024x128_o768_0_S256x128)
      bitsLt_bf16_f32) shapeCasts_S256x128_S1x256x128 x = _
    generalize res (qcat (iblk m c 0 t)) (span (iblk m c 1 t)) (span (iblk m c 2 t)) 16 = R
    pointwise []
    blk_ext
  case piece1 =>
    change shapeCast S1x256x128 (truncf .bf16 (extractStridedSlice S256x128 ![512, 0]
      (res (qcat (iblk m c 0 t)) (span (iblk m c 1 t)) (span (iblk m c 2 t)) 16) slices_S1024x128_o512_0_S256x128)
      bitsLt_bf16_f32) shapeCasts_S256x128_S1x256x128 x = _
    generalize res (qcat (iblk m c 0 t)) (span (iblk m c 1 t)) (span (iblk m c 2 t)) 16 = R
    pointwise []
    blk_ext
  case piece2 =>
    change shapeCast S1x256x128 (truncf .bf16 (extractStridedSlice S256x128 ![256, 0]
      (res (qcat (iblk m c 0 t)) (span (iblk m c 1 t)) (span (iblk m c 2 t)) 16) slices_S1024x128_o256_0_S256x128)
      bitsLt_bf16_f32) shapeCasts_S256x128_S1x256x128 x = _
    generalize res (qcat (iblk m c 0 t)) (span (iblk m c 1 t)) (span (iblk m c 2 t)) 16 = R
    pointwise []
    blk_ext
  case piece3 =>
    change shapeCast S1x256x128 (truncf .bf16 (extractStridedSlice S256x128 ![0, 0]
      (res (qcat (iblk m c 0 t)) (span (iblk m c 1 t)) (span (iblk m c 2 t)) 16) slices_S1024x128_o0_0_S256x128)
      bitsLt_bf16_f32) shapeCasts_S256x128_S1x256x128 x = _
    generalize res (qcat (iblk m c 0 t)) (span (iblk m c 1 t)) (span (iblk m c 2 t)) 16 = R
    pointwise []
    blk_ext

theorem idx : ∀ t : Fin cfg0.N, win0_0.index t = ![t.val / 34, t.val % 17, t.val / 17 % 2]
    ∧ win0_1.index t = ![t.val / 34, 0, t.val / 17 % 2] ∧ win0_2.index t = ![t.val / 34, 0, t.val / 17 % 2]
    ∧ win0_3.index t = ![t.val / 34, t.val % 17, t.val / 17 % 2] :=
  (by decide +kernel : ∀ t : Fin grid0.N, _)

/-- The arguments: queries, keys and values. -/
abbrev argQ (c : Dev nD) : FVec Ideal SQ .f32 := m ((c : Thread nD τ).loc main_arg0)
abbrev argK (c : Dev nD) : FVec Ideal SK .f32 := m ((c : Thread nD τ).loc main_arg1)
abbrev argV (c : Dev nD) : FVec Ideal SK .f32 := m ((c : Thread nD τ).loc main_arg2)

theorem q_read (c : Dev nD) (t : Fin cfg0.N) (x : S1x256x512.Idx) (i : SQ.Idx)
    (h0 : (i 0 : ℕ) = t.val / 34) (h1 : (i 1 : ℕ) = 256 * (t.val % 17) + x 1) (h2 : (i 2 : ℕ) = 512 * (t.val / 17 % 2) + x 2) :
    (show FVec Ideal S1x256x512 .bf16 from iblk m c 0 t) x = argQ m c i * ((unit / Real.log 2 : ℝ) : EReal) := by
  rw [← scale_eq]
  blk_point [iblk, V, idx t]

theorem k_read (c : Dev nD) (t : Fin cfg0.N) (x : S1x4352x128.Idx) (i : SK.Idx)
    (h0 : (i 0 : ℕ) = t.val / 34) (h1 : (i 1 : ℕ) = x 1) (h2 : (i 2 : ℕ) = 128 * (t.val / 17 % 2) + x 2) :
    (show FVec Ideal S1x4352x128 .bf16 from iblk m c 1 t) x = argK m c i := by
  blk_point [iblk, V, idx t]

theorem v_read (c : Dev nD) (t : Fin cfg0.N) (x : S1x4352x128.Idx) (i : SK.Idx)
    (h0 : (i 0 : ℕ) = t.val / 34) (h1 : (i 1 : ℕ) = x 1) (h2 : (i 2 : ℕ) = 128 * (t.val / 17 % 2) + x 2) :
    (show FVec Ideal S1x4352x128 .bf16 from iblk m c 2 t) x = argV m c i := by
  blk_point [iblk, V, idx t]

/-- A tile's result after span `n`, at element `y` of the block, is the attention over the first `256 (n + 1)` keys at the
    element `i` of the query array, when the tile's blocks are those of sequence `b`, token tile `p` and key head `h`. -/
theorem tile_attn (q : FVec Ideal SQ .f32) (k v : FVec Ideal SK .f32) (hq : Reals q) (hk : Reals k) (X : Vec Ideal S1x256x512 .bf16)
    (Y Z : Vec Ideal S1x4352x128 .bf16) (b p h : ℕ)
    (hX : ∀ (x : S1x256x512.Idx) (i : SQ.Idx), (i 0 : ℕ) = b → (i 1 : ℕ) = 256 * p + x 1 → (i 2 : ℕ) = 512 * h + x 2 →
      X x = q i * ((unit / Real.log 2 : ℝ) : EReal))
    (hY : ∀ (x : S1x4352x128.Idx) (i : SK.Idx), (i 0 : ℕ) = b → (i 1 : ℕ) = x 1 → (i 2 : ℕ) = 128 * h + x 2 → Y x = k i)
    (hZ : ∀ (x : S1x4352x128.Idx) (i : SK.Idx), (i 0 : ℕ) = b → (i 1 : ℕ) = x 1 → (i 2 : ℕ) = 128 * h + x 2 → Z x = v i)
    (y : S1x256x512.Idx) (i : SQ.Idx) (h0 : (i 0 : ℕ) = b) (h1 : (i 1 : ℕ) = 256 * p + y 1) (h2 : (i 2 : ℕ) = 512 * h + y 2)
    (n : ℕ) :
    res (qcat X) (span Y) (span Z) n
        (ix2 ⟨256 * ((y 2 : ℕ) / 128) + (y 1 : ℕ), row_lt y⟩ ⟨(y 2 : ℕ) % 128, Nat.mod_lt _ (by norm_num)⟩)
      = attn q k v (256 * (n + 1)) i := by
  have hy1 : (y 1 : ℕ) < 256 := (y 1).isLt
  have hy2 : (y 2 : ℕ) < 512 := (y 2).isLt
  rw [res_row _ _ _ _ (fun n j => tau q k i (256 * n + (j : ℕ)) / Real.log 2) (fun n j => ?_)]
  · simp only [two_rpow]
    unfold attn
    rw [← mean_spans]
    congr 1
    funext x
    refine hZ _ _ ?_ ?_ ?_
    · exact h0
    · rfl
    · show 128 * ((i 2 : ℕ) / 512) + (i 2 : ℕ) % 128 = 128 * h + (y 2 : ℕ) % 128
      omega
  · rw [scores_apply]
    unfold tau
    rw [div_eq_mul_inv, mul_assoc, Finset.sum_mul, ← coe_sum]
    refine Finset.sum_congr rfl fun d _ => ?_
    rw [qcat_apply]
    refine (congrArg₂ (fun a b : EReal => a * b)
      ((hX _ (ix3 (i 0) (i 1) ⟨128 * ((i 2 : ℕ) / 128) + (d : ℕ), by
        have h : (i 2 : ℕ) < 1024 := (i 2).isLt; omega⟩) h0 ?_ ?_).trans (congrArg (· * _) (hq _)))
      ((hY _ (ix3 (i 0) ⟨(256 * n + (j : ℕ)) % 4352, Nat.mod_lt _ (by norm_num)⟩
        ⟨128 * ((i 2 : ℕ) / 512) + (d : ℕ), by have h : (i 2 : ℕ) < 1024 := (i 2).isLt; omega⟩) h0 rfl ?_).trans (hk _))).trans ?_
    · show (i 1 : ℕ) = 256 * p + (256 * ((y 2 : ℕ) / 128) + (y 1 : ℕ)) % 256
      omega
    · show 128 * ((i 2 : ℕ) / 128) + (d : ℕ) = 512 * h + (128 * ((256 * ((y 2 : ℕ) / 128) + (y 1 : ℕ)) / 256) + (d : ℕ))
      omega
    · show 128 * ((i 2 : ℕ) / 512) + (d : ℕ) = 128 * h + (d : ℕ)
      omega
    · rw [← EReal.coe_mul, ← EReal.coe_mul]
      congr 1
      rw [div_eq_mul_inv]
      ring

/-- The first layer's call: what a tile's result is at a grid point. -/
theorem res_attn (c : Dev nD) (t : Fin cfg0.N) (hq : Reals (argQ m c)) (hk : Reals (argK m c)) (y : S1x256x512.Idx) (i : SQ.Idx)
    (h0 : (i 0 : ℕ) = t.val / 34) (h1 : (i 1 : ℕ) = 256 * (t.val % 17) + y 1) (h2 : (i 2 : ℕ) = 512 * (t.val / 17 % 2) + y 2)
    (n : ℕ) :
    res (qcat (iblk m c 0 t)) (span (iblk m c 1 t)) (span (iblk m c 2 t)) n
        (ix2 ⟨256 * ((y 2 : ℕ) / 128) + (y 1 : ℕ), row_lt y⟩ ⟨(y 2 : ℕ) % 128, Nat.mod_lt _ (by norm_num)⟩)
      = attn (argQ m c) (argK m c) (argV m c) (256 * (n + 1)) i :=
  tile_attn _ _ _ hq hk _ _ _ _ _ _ (q_read m c t) (k_read m c t) (v_read m c t) y i h0 h1 h2 n

/-- The array the call leaves is the layer's attention of its arguments. -/
theorem final (c : Dev nD) (hq : Reals (argQ m c)) (hk : Reals (argK m c)) :
    (dats m 0 c).arrAt 3 cfg0.N = G (argQ m c) (argK m c) (argV m c) := by
  refine (dats m 0 c).arrAt_eq_of_covers 3 _ (by decide +kernel) fun t _ y => ?_
  blk_simp
  rw [after0_3]
  have ht : t.val < 272 := lt_of_lt_of_eq t.isLt N_0
  obtain_idx i : SQ := [t.val / 34, 256 * (t.val % 17) + (y 1 : ℕ), 512 * (t.val / 17 % 2) + (y 2 : ℕ)] with hi
  have he : (win0_3.blk t).view.emb y = i := by
    blk_ext [idx t]
  rw [he]
  have hs : (i 1 : ℕ) < 256 ↔ t.val % 17 = 0 := by
    have hy1 : (y 1 : ℕ) < 256 := (y 1).isLt
    omega
  by_cases ha : t.val % 17 = 0
  · refine (out_ctx m c t ha (by omega) y).trans ((res_attn m c t hq hk y i hi0 hi1 hi2 0).trans ?_)
    unfold G
    rw [if_pos (hs.mpr ha)]
  · refine (out_lat m c t ha (by omega) y).trans ((res_attn m c t hq hk y i hi0 hi1 hi2 16).trans ?_)
    unfold G
    rw [if_neg (fun h => ha (hs.mp h))]

end Cert.KernelIdeal.Hand

end
-- ==== Proof.RefRow.lean ====
/- The reference's result is the layer's attention: its scores, the rows' greatest scores, the softmax weights, the weighted
   sums and the two halves put together. -/
module

public import proofs.«01_k».proof.Proof.Gen.ReferenceIdeal.Read
public import proofs.«01_k».proof.Proof.Spec
public import Idealize.ShloMosaic.PureOps.Ideal.Laws
public import Idealize.ShloMosaic.Lib.Pointwise

@[expose] public section

set_option maxRecDepth 16384

noncomputable section

namespace Cert.ReferenceIdeal.Hand

open Idealize.ShloMosaic Cert.ReferenceIdeal Cert.ReferenceIdeal.Gen Cert.ReferenceIdeal.Read Cert.Softmax Cert.Spec

variable (q : FVec Ideal SQ .f32) (k v : FVec Ideal SK .f32)

/-- Two indices of rank three with equal coordinates are equal. -/
theorem ext3 {a b c : ℕ} (x y : (⟨3, ![a, b, c]⟩ : Shape).Idx) (h0 : (x 0 : ℕ) = y 0) (h1 : (x 1 : ℕ) = y 1)
    (h2 : (x 2 : ℕ) = y 2) : x = y :=
  funext fun d => Fin.ext (match d with | ⟨0, _⟩ => h0 | ⟨1, _⟩ => h1 | ⟨2, _⟩ => h2)

/-- Two indices of rank four with equal coordinates are equal. -/
theorem ext4 {a b c d : ℕ} (x y : (⟨4, ![a, b, c, d]⟩ : Shape).Idx) (h0 : (x 0 : ℕ) = y 0) (h1 : (x 1 : ℕ) = y 1)
    (h2 : (x 2 : ℕ) = y 2) (h3 : (x 3 : ℕ) = y 3) : x = y :=
  funext fun e => Fin.ext (match e with | ⟨0, _⟩ => h0 | ⟨1, _⟩ => h1 | ⟨2, _⟩ => h2 | ⟨3, _⟩ => h3)

/-- A score of a query among the first 256 tokens. -/
theorem score_ctx (hq : Reals q) (hk : Reals k) (I : S8x2x4x256x256.Idx) (i : SQ.Idx) (h0 : (i 0 : ℕ) = I 0)
    (h1 : (i 1 : ℕ) = (I 3 : ℕ)) (h2 : (i 2 : ℕ) / 128 = 4 * (I 1 : ℕ) + (I 2 : ℕ)) :
    val_main_v9 (F := Ideal) q k I = ((tau q k i (I 4) : ℝ) : EReal) := by
  have b0 : (I 0 : ℕ) < 8 := (I 0).isLt
  have b1 : (I 1 : ℕ) < 2 := (I 1).isLt
  have b2 : (I 2 : ℕ) < 4 := (I 2).isLt
  have b3 : (I 3 : ℕ) < 256 := (I 3).isLt
  have b4 : (I 4 : ℕ) < 256 := (I 4).isLt
  rw [val_main_v9_apply, val_main_v7_apply, val_main_v6_apply, val_main_v8_apply, val_main_cst_apply]
  unfold tau
  rw [EReal.coe_mul, ← coe_sum, ← unit_eq]
  refine congrArg (· * _) (Finset.sum_congr rfl fun d _ => ?_)
  have bd : (d : ℕ) < 128 := d.isLt
  rw [val_main_v4_apply, val_main_v1_apply, val_main_v3_apply, val_main_v0_apply, EReal.coe_mul, ← hq, ← hk, mul_comm]
  refine congrArg₂ (fun a b : EReal => a * b) (congrArg q (ext3 _ _ ?_ ?_ ?_)) (congrArg k (ext3 _ _ ?_ ?_ ?_))
  all_goals simp only [ix3]
  all_goals omega

/-- Such a query's greatest score is a real. -/
theorem top_ctx (hq : Reals q) (hk : Reals k) (J : S8x2x4x256.Idx) : ∃ μ : ℝ, val_main_v12 (F := Ideal) q k J = (μ : EReal) := by
  have b1 : (J 1 : ℕ) < 2 := (J 1).isLt
  have b2 : (J 2 : ℕ) < 4 := (J 2).isLt
  have b3 : (J 3 : ℕ) < 256 := (J 3).isLt
  obtain ⟨r, hr⟩ := fold_max_real (Finset.univ : Finset (Fin 256)) ⟨⟨0, by norm_num⟩, Finset.mem_univ _⟩
    (fun n => tau q k (ix3 (J 0) ⟨(J 3 : ℕ), by omega⟩ ⟨128 * (4 * (J 1 : ℕ) + (J 2 : ℕ)), by omega⟩) n)
  refine ⟨r, ?_⟩
  rw [val_main_v12_apply, val_main_v11_apply, val_main_cst_1_apply, ← hr]
  pointwise [val_main_v10]
  rw [val_main_cst_0_apply, show (FloatOps.ofBits .f32 0xFF800000#32 : Ideal .f32) = ⊥ from bits_bot,
    show Ideal.ofBits .f32 0xFF800000#32 = ⊥ from bits_bot, max_eq_right bot_le]
  refine Finset.fold_congr fun n _ => ?_
  exact score_ctx q k hq hk (ix5 (J 0) (J 1) (J 2) (J 3) n) _ rfl rfl (Nat.mul_div_cancel_left _ (by norm_num))

/-- The exponential of such a query's score less the greatest. -/
theorem exp_ctx (hq : Reals q) (hk : Reals k) (I : S8x2x4x256x256.Idx) (i : SQ.Idx) (h0 : (i 0 : ℕ) = I 0)
    (h1 : (i 1 : ℕ) = (I 3 : ℕ)) (h2 : (i 2 : ℕ) / 128 = 4 * (I 1 : ℕ) + (I 2 : ℕ)) (J : S8x2x4x256.Idx)
    (j0 : (I 0 : ℕ) = J 0) (j1 : (I 1 : ℕ) = J 1) (j2 : (I 2 : ℕ) = J 2) (j3 : (I 3 : ℕ) = J 3) (μ : ℝ)
    (hμ : val_main_v12 (F := Ideal) q k J = (μ : EReal)) :
    val_main_v16 (F := Ideal) q k I = Ideal.exp (((tau q k i (I 4) : ℝ) : EReal) - (μ : EReal)) := by
  rw [val_main_v16_apply, val_main_v15_apply, val_main_v14_apply, val_main_v13_apply, score_ctx q k hq hk I i h0 h1 h2,
    ext4 (idx_main_v13 (idx_main_v14 I)) J j0 j1 j2 j3, hμ]
  rfl

/-- The weighted sum of such a query is its attention. -/
theorem row_ctx (hq : Reals q) (hk : Reals k) (J : S8x2x128x4x256.Idx) (i : SQ.Idx) (h0 : (i 0 : ℕ) = J 0)
    (h1 : (i 1 : ℕ) = (J 4 : ℕ)) (h2 : (i 2 : ℕ) = 512 * (J 1 : ℕ) + 128 * (J 3 : ℕ) + (J 2 : ℕ)) :
    val_main_v21 (F := Ideal) q k v J = attn q k v 256 i := by
  have b0 : (J 0 : ℕ) < 8 := (J 0).isLt
  have b1 : (J 1 : ℕ) < 2 := (J 1).isLt
  have b2 : (J 2 : ℕ) < 128 := (J 2).isLt
  have b3 : (J 3 : ℕ) < 4 := (J 3).isLt
  have h3 : (i 2 : ℕ) / 128 = 4 * (J 1 : ℕ) + (J 3 : ℕ) := by omega
  obtain ⟨μ, hμ⟩ := top_ctx q k hq hk (ix4 (J 0) (J 1) (J 3) (J 4))
  rw [val_main_v21_apply]
  unfold attn
  rw [← mean_fin, ← plain _ _ _ μ ⟨⟨0, by norm_num⟩, Finset.mem_univ _⟩]
  refine Finset.sum_congr rfl fun n _ => ?_
  have bn : (n : ℕ) < 256 := n.isLt
  rw [mul_comm]
  refine congrArg₂ (fun a b : EReal => a * b) ?_ ?_
  · rw [val_main_v20_apply, val_main_v19_apply, val_main_v18_apply, val_main_v17_apply,
      exp_ctx q k hq hk (ridx_main_v21 J n) i h0 h1 h3 (ix4 (J 0) (J 1) (J 3) (J 4)) rfl rfl rfl rfl μ hμ]
    refine congrArg (Ideal.div _) ?_
    rw [val_main_cst_2_apply]
    refine (congrArg (· + _) (show (FloatOps.ofBits .f32 0x00000000#32 : Ideal .f32) = (0 : EReal) from bits_zero)).trans ((zero_add _).trans ?_)
    refine Finset.sum_congr rfl fun x _ => ?_
    exact exp_ctx q k hq hk _ i h0 h1 h3 (ix4 (J 0) (J 1) (J 3) (J 4)) rfl rfl rfl rfl μ hμ
  · unfold val
    rw [val_main_v5_apply, val_main_v2_apply]
    refine congrArg v (ext3 _ _ ?_ ?_ ?_)
    all_goals simp only [ix3]
    all_goals omega

/-- This half of the reference, as it is put together. -/
theorem half_ctx (hq : Reals q) (hk : Reals k) (J : S8x256x1024.Idx) (i : SQ.Idx) (h0 : (i 0 : ℕ) = J 0)
    (h1 : (i 1 : ℕ) = (J 1 : ℕ)) (h2 : (i 2 : ℕ) = J 2) :
    val_main_v23 (F := Ideal) q k v J = attn q k v 256 i := by
  have b0 : (J 0 : ℕ) < 8 := (J 0).isLt
  have b1 : (J 1 : ℕ) < 256 := (J 1).isLt
  have b2 : (J 2 : ℕ) < 1024 := (J 2).isLt
  rw [val_main_v23_apply, val_main_v22_apply]
  refine row_ctx q k v hq hk _ i ?_ ?_ ?_
  · show (i 0 : ℕ) = (((J 0 : ℕ) * 256 + (J 1 : ℕ)) * 1024 + (J 2 : ℕ)) / 262144
    omega
  · show (i 1 : ℕ) = ((((J 0 : ℕ) * 256 + (J 1 : ℕ)) * 1024 + (J 2 : ℕ)) / 1024 % 256)
    omega
  · show (i 2 : ℕ) = 512 * ((((J 0 : ℕ) * 256 + (J 1 : ℕ)) * 1024 + (J 2 : ℕ)) / 512 % 2)
      + 128 * ((((J 0 : ℕ) * 256 + (J 1 : ℕ)) * 1024 + (J 2 : ℕ)) / 128 % 4) + (((J 0 : ℕ) * 256 + (J 1 : ℕ)) * 1024 + (J 2 : ℕ)) % 128
    omega

/-- A score of a query after the first 256 tokens. -/
theorem score_lat (hq : Reals q) (hk : Reals k) (I : S8x2x4x4096x4352.Idx) (i : SQ.Idx) (h0 : (i 0 : ℕ) = I 0)
    (h1 : (i 1 : ℕ) = 256 + (I 3 : ℕ)) (h2 : (i 2 : ℕ) / 128 = 4 * (I 1 : ℕ) + (I 2 : ℕ)) :
    val_main_v28 (F := Ideal) q k I = ((tau q k i (I 4) : ℝ) : EReal) := by
  have b0 : (I 0 : ℕ) < 8 := (I 0).isLt
  have b1 : (I 1 : ℕ) < 2 := (I 1).isLt
  have b2 : (I 2 : ℕ) < 4 := (I 2).isLt
  have b3 : (I 3 : ℕ) < 4096 := (I 3).isLt
  have b4 : (I 4 : ℕ) < 4352 := (I 4).isLt
  rw [val_main_v28_apply, val_main_v26_apply, val_main_v25_apply, val_main_v27_apply, val_main_cst_3_apply]
  unfold tau
  rw [EReal.coe_mul, ← coe_sum, ← unit_eq]
  refine congrArg (· * _) (Finset.sum_congr rfl fun d _ => ?_)
  have bd : (d : ℕ) < 128 := d.isLt
  rw [val_main_v1_apply, val_main_v24_apply, val_main_v0_apply, EReal.coe_mul, ← hq, ← hk, mul_comm]
  refine congrArg₂ (fun a b : EReal => a * b) (congrArg q (ext3 _ _ ?_ ?_ ?_)) (congrArg k (ext3 _ _ ?_ ?_ ?_))
  all_goals simp only [ix3]
  all_goals omega

/-- Such a query's greatest score is a real. -/
theorem top_lat (hq : Reals q) (hk : Reals k) (J : S8x2x4x4096.Idx) : ∃ μ : ℝ, val_main_v31 (F := Ideal) q k J = (μ : EReal) := by
  have b1 : (J 1 : ℕ) < 2 := (J 1).isLt
  have b2 : (J 2 : ℕ) < 4 := (J 2).isLt
  have b3 : (J 3 : ℕ) < 4096 := (J 3).isLt
  obtain ⟨r, hr⟩ := fold_max_real (Finset.univ : Finset (Fin 4352)) ⟨⟨0, by norm_num⟩, Finset.mem_univ _⟩
    (fun n => tau q k (ix3 (J 0) ⟨256 + (J 3 : ℕ), by omega⟩ ⟨128 * (4 * (J 1 : ℕ) + (J 2 : ℕ)), by omega⟩) n)
  refine ⟨r, ?_⟩
  rw [val_main_v31_apply, val_main_v30_apply, val_main_cst_5_apply, ← hr]
  pointwise [val_main_v29]
  rw [val_main_cst_4_apply, show (FloatOps.ofBits .f32 0xFF800000#32 : Ideal .f32) = ⊥ from bits_bot,
    show Ideal.ofBits .f32 0xFF800000#32 = ⊥ from bits_bot, max_eq_right bot_le]
  refine Finset.fold_congr fun n _ => ?_
  exact score_lat q k hq hk (ix5 (J 0) (J 1) (J 2) (J 3) n) _ rfl rfl (Nat.mul_div_cancel_left _ (by norm_num))

/-- The exponential of such a query's score less the greatest. -/
theorem exp_lat (hq : Reals q) (hk : Reals k) (I : S8x2x4x4096x4352.Idx) (i : SQ.Idx) (h0 : (i 0 : ℕ) = I 0)
    (h1 : (i 1 : ℕ) = 256 + (I 3 : ℕ)) (h2 : (i 2 : ℕ) / 128 = 4 * (I 1 : ℕ) + (I 2 : ℕ)) (J : S8x2x4x4096.Idx)
    (j0 : (I 0 : ℕ) = J 0) (j1 : (I 1 : ℕ) = J 1) (j2 : (I 2 : ℕ) = J 2) (j3 : (I 3 : ℕ) = J 3) (μ : ℝ)
    (hμ : val_main_v31 (F := Ideal) q k J = (μ : EReal)) :
    val_main_v35 (F := Ideal) q k I = Ideal.exp (((tau q k i (I 4) : ℝ) : EReal) - (μ : EReal)) := by
  rw [val_main_v35_apply, val_main_v34_apply, val_main_v33_apply, val_main_v32_apply, score_lat q k hq hk I i h0 h1 h2,
    ext4 (idx_main_v32 (idx_main_v33 I)) J j0 j1 j2 j3, hμ]
  rfl

/-- The weighted sum of such a query is its attention. -/
theorem row_lat (hq : Reals q) (hk : Reals k) (J : S8x2x128x4x4096.Idx) (i : SQ.Idx) (h0 : (i 0 : ℕ) = J 0)
    (h1 : (i 1 : ℕ) = 256 + (J 4 : ℕ)) (h2 : (i 2 : ℕ) = 512 * (J 1 : ℕ) + 128 * (J 3 : ℕ) + (J 2 : ℕ)) :
    val_main_v40 (F := Ideal) q k v J = attn q k v 4352 i := by
  have b0 : (J 0 : ℕ) < 8 := (J 0).isLt
  have b1 : (J 1 : ℕ) < 2 := (J 1).isLt
  have b2 : (J 2 : ℕ) < 128 := (J 2).isLt
  have b3 : (J 3 : ℕ) < 4 := (J 3).isLt
  have h3 : (i 2 : ℕ) / 128 = 4 * (J 1 : ℕ) + (J 3 : ℕ) := by omega
  obtain ⟨μ, hμ⟩ := top_lat q k hq hk (ix4 (J 0) (J 1) (J 3) (J 4))
  rw [val_main_v40_apply]
  unfold attn
  rw [← mean_fin, ← plain _ _ _ μ ⟨⟨0, by norm_num⟩, Finset.mem_univ _⟩]
  refine Finset.sum_congr rfl fun n _ => ?_
  have bn : (n : ℕ) < 4352 := n.isLt
  rw [mul_comm]
  refine congrArg₂ (fun a b : EReal => a * b) ?_ ?_
  · rw [val_main_v39_apply, val_main_v38_apply, val_main_v37_apply, val_main_v36_apply,
      exp_lat q k hq hk (ridx_main_v40 J n) i h0 h1 h3 (ix4 (J 0) (J 1) (J 3) (J 4)) rfl rfl rfl rfl μ hμ]
    refine congrArg (Ideal.div _) ?_
    rw [val_main_cst_6_apply]
    refine (congrArg (· + _) (show (FloatOps.ofBits .f32 0x00000000#32 : Ideal .f32) = (0 : EReal) from bits_zero)).trans ((zero_add _).trans ?_)
    refine Finset.sum_congr rfl fun x _ => ?_
    exact exp_lat q k hq hk _ i h0 h1 h3 (ix4 (J 0) (J 1) (J 3) (J 4)) rfl rfl rfl rfl μ hμ
  · unfold val
    rw [val_main_v2_apply]
    refine congrArg v (ext3 _ _ ?_ ?_ ?_)
    all_goals simp only [ix3]
    all_goals omega

/-- This half of the reference, as it is put together. -/
theorem half_lat (hq : Reals q) (hk : Reals k) (J : S8x4096x1024.Idx) (i : SQ.Idx) (h0 : (i 0 : ℕ) = J 0)
    (h1 : (i 1 : ℕ) = 256 + (J 1 : ℕ)) (h2 : (i 2 : ℕ) = J 2) :
    val_main_v42 (F := Ideal) q k v J = attn q k v 4352 i := by
  have b0 : (J 0 : ℕ) < 8 := (J 0).isLt
  have b1 : (J 1 : ℕ) < 4096 := (J 1).isLt
  have b2 : (J 2 : ℕ) < 1024 := (J 2).isLt
  rw [val_main_v42_apply, val_main_v41_apply]
  refine row_lat q k v hq hk _ i ?_ ?_ ?_
  · show (i 0 : ℕ) = (((J 0 : ℕ) * 4096 + (J 1 : ℕ)) * 1024 + (J 2 : ℕ)) / 4194304
    omega
  · show (i 1 : ℕ) = 256 + ((((J 0 : ℕ) * 4096 + (J 1 : ℕ)) * 1024 + (J 2 : ℕ)) / 1024 % 4096)
    omega
  · show (i 2 : ℕ) = 512 * ((((J 0 : ℕ) * 4096 + (J 1 : ℕ)) * 1024 + (J 2 : ℕ)) / 512 % 2)
      + 128 * ((((J 0 : ℕ) * 4096 + (J 1 : ℕ)) * 1024 + (J 2 : ℕ)) / 128 % 4) + (((J 0 : ℕ) * 4096 + (J 1 : ℕ)) * 1024 + (J 2 : ℕ)) % 128
    omega

/-- The reference's result is the layer's attention. -/
theorem whole (hq : Reals q) (hk : Reals k) : val_main_v44 (F := Ideal) q k v = G q k v := by
  funext i
  rw [val_main_v44_apply]
  show val_main_v43 (F := Ideal) q k v i = G q k v i
  unfold val_main_v43 G
  have b1 : (i 1 : ℕ) < 4352 := (i 1).isLt
  split_ifs with h
  · refine (concatenate_pair_apply_left 1 (val_main_v23 (F := Ideal) q k v) (val_main_v42 (F := Ideal) q k v) _ i rfl
        (ix3 (i 0) (⟨(i 1 : ℕ), h⟩ : Fin 256) (i 2) : S8x256x1024.Idx) ?_).trans
      (half_ctx q k v hq hk _ i rfl rfl rfl)
    intro b
    match b with
    | ⟨0, _⟩ => rfl
    | ⟨1, _⟩ => rfl
    | ⟨2, _⟩ => rfl
  · refine (concatenate_pair_apply_right 1 (val_main_v23 (F := Ideal) q k v) (val_main_v42 (F := Ideal) q k v) _ i rfl rfl
        (ix3 (i 0) (⟨(i 1 : ℕ) - 256, by omega⟩ : Fin 4096) (i 2) : S8x4096x1024.Idx) ?_ ?_).trans
      (half_lat q k v hq hk _ i rfl ?_ rfl)
    · intro b hb
      match b with
      | ⟨0, _⟩ => rfl
      | ⟨1, _⟩ => exact absurd rfl hb
      | ⟨2, _⟩ => rfl
    · show (i 1 : ℕ) - 256 + 256 = (i 1 : ℕ)
      omega
    · show (i 1 : ℕ) = 256 + ((i 1 : ℕ) - 256)
      omega

end Cert.ReferenceIdeal.Hand

end
-- ==== Proof.Finite.lean ====
/- What the precondition `finite_scores` says: every element of the queries and of the keys is a real. -/
module

public import proofs.«01_k».proof.Pre_finite_scores
public import proofs.«01_k».proof.Proof.Spec
public import Idealize.ShloMosaic.Lib.ReduceAll
public import Idealize.ShloMosaic.Lib.Affine

@[expose] public section

noncomputable section

namespace Cert.Pre_finite_scores.Hand

open Idealize.ShloMosaic Cert.Spec Cert.Softmax Cert.Pre_finite_scores

/-- The shape relations the precondition takes. -/
theorem facts : Facts where
  bcast_S_S8x4352x1024 := by decide
  reducesTo_S8x4352x1024_S_d0_1_2 := by decide
  h_S_ := by decide
  bcast_S_S8x4352x256 := by decide
  reducesTo_S8x4352x256_S_d0_1_2 := by decide

/-- An extended real whose magnitude is below plus infinity is a real. -/
theorem real_of_abs (x : EReal) (h : Ideal.cmp .olt (max x (-x)) (Ideal.ofBits .f32 0x7F800000#32) = 1#1) :
    x = (x.toReal : EReal) := by
  rw [bits_top] at h
  refine (EReal.coe_toReal ?_ ?_).symm
  · rintro rfl
    simp [Ideal.cmp] at h
  · rintro rfl
    simp [Ideal.cmp] at h

/-- Every element is a real where every magnitude is below plus infinity. -/
theorem reals_of_abs {S : Shape} (x : FVec Ideal S .f32) (h : ∀ i, Ideal.cmp .olt (max (x i) (-x i)) (Ideal.ofBits .f32 0x7F800000#32) = 1#1) :
    Reals x := fun i => real_of_abs (x i) (h i)

instance : Subsingleton S_.Idx := ⟨fun a b => funext fun d => d.elim0⟩

/-- The precondition makes every query and key element a real. -/
theorem reals [Facts] (q : FVec Ideal SQ .f32) (k v : FVec Ideal SK .f32)
    (h : fn (F := Ideal) q k v = fun _ => 1#1) : Reals q ∧ Reals k := by
  have h0 : IntOp.andi _ _ = 1#1 := congrFun h (fun a => a.elim0)
  obtain ⟨e₁, e₂⟩ := IntOp.andi_eq_one.mp h0
  exact ⟨reals_of_abs q fun i => Host.reduce_andi_all _ _ _ _ _ e₁ i, reals_of_abs k fun i => Host.reduce_andi_all _ _ _ _ _ e₂ i⟩

end Cert.Pre_finite_scores.Hand

end
-- ==== Proof.Norm.lean ====
/- A normalised and modulated row, and its product with a matrix: the value the two projection calls share. -/
module

public import Idealize.ShloMosaic.PureOps.Ideal.Laws
public import Idealize.ShloMosaic.Lib.Pointwise

@[expose] public section

set_option maxRecDepth 16384

noncomputable section

namespace Cert.Norm

open Idealize.ShloMosaic

/-- Tokens by sequence and position; the modulation; a row of gains. -/
abbrev SA : Shape := ⟨3, ![8, 4352, 1024]⟩
abbrev SM : Shape := ⟨2, ![16, 6144]⟩
abbrev SG : Shape := ⟨1, ![1024]⟩

/-- The reciprocal root mean square of a row, with the constants as the programs spell them: 1024 and 1e-6. -/
def rinv (r : Fin 1024 → EReal) : EReal :=
  Ideal.rsqrt (Ideal.div (∑ d, r d * r d) (Ideal.ofBits .f32 1149239296#32) + Ideal.ofBits .f32 897988541#32)

/-- An element `x` of the row `r`, normalised with gain `g` and modulated by a scale and a shift. -/
def hid (r : Fin 1024 → EReal) (x g sc sh : EReal) : EReal := x * rinv r * g * (1 + sc) + sh

/-- The row of the modulation a tile of 256 rows takes: the context's, or the sequence's own. -/
def mrow (s : ℕ) : ℕ := if s % 17 = 0 then 8 else s / 17

/-- Token `n`'s row, the tokens counted through the sequences. -/
def tok (A : SA.Idx → EReal) (n : ℕ) (d : Fin 1024) : EReal :=
  A (ix3 ⟨n / 4352 % 8, Nat.mod_lt _ (by norm_num)⟩ ⟨n % 4352, Nat.mod_lt _ (by norm_num)⟩ d)

/-- Part `q` of the modulation's row for token `n`. -/
def part (M : SM.Idx → EReal) (q n : ℕ) (k : Fin 1024) : EReal :=
  M (ix2 ⟨mrow (n / 256) % 16, Nat.mod_lt _ (by norm_num)⟩ ⟨(1024 * q + (k : ℕ)) % 6144, Nat.mod_lt _ (by norm_num)⟩)

/-- Token `n` normalised and modulated by parts `q` (shift) and `q + 1` (scale). -/
def moved (A : SA.Idx → EReal) (M : SM.Idx → EReal) (g : SG.Idx → EReal) (q n : ℕ) (k : Fin 1024) : EReal :=
  hid (tok A n) (tok A n k) (g (ix1 k)) (part M (q + 1) n k) (part M q n k)

/-- Each sequence's context before its own tokens. -/
def joined (x : (⟨3, ![8, 4096, 1024]⟩ : Shape).Idx → EReal) (c : (⟨3, ![8, 256, 1024]⟩ : Shape).Idx → EReal) : SA.Idx → EReal :=
  fun i => if h : (i 1 : ℕ) < 256 then c (ix3 (i 0) ⟨(i 1 : ℕ), h⟩ (i 2))
    else x (ix3 (i 0) ⟨(i 1 : ℕ) - 256, by have : (i 1 : ℕ) < 4352 := (i 1).isLt; omega⟩ (i 2))

/-- The projection's columns as the call's result lays them out: 128 of its 10240 are empty. -/
def laid (w : (⟨2, ![1024, 10112]⟩ : Shape).Idx → EReal) (k : Fin 1024) (j : ℕ) : EReal :=
  if 1920 ≤ j ∧ j < 2048 then 0
  else w (ix2 k ⟨(if j < 1536 then j else if j < 2048 then j + 5120 else if j < 7168 then j - 512 else j - 128) % 10112,
    Nat.mod_lt _ (by norm_num)⟩)

/-- A column that is kept, where the layout put it. -/
theorem laid_kept (w : (⟨2, ![1024, 10112]⟩ : Shape).Idx → EReal) (k : Fin 1024) (j : ℕ) (s : Fin 10112)
    (h : j < 1536 ∧ (s : ℕ) = j ∨ 1536 ≤ j ∧ j < 1920 ∧ (s : ℕ) = j + 5120 ∨ 2048 ≤ j ∧ j < 7168 ∧ (s : ℕ) = j - 512
      ∨ 7168 ≤ j ∧ (s : ℕ) = j - 128) : laid w k j = w (ix2 k s) := by
  have hs : (s : ℕ) < 10112 := s.isLt
  unfold laid
  rw [if_neg (by omega)]
  refine congrArg (fun a : Fin 10112 => w (ix2 k a)) (Fin.ext ?_)
  show (if j < 1536 then j else if j < 2048 then j + 5120 else if j < 7168 then j - 512 else j - 128) % 10112 = s
  rcases h with h | h | h | h
  · rw [if_pos (by omega)]
    omega
  · rw [if_neg (by omega), if_pos (by omega)]
    omega
  · rw [if_neg (by omega), if_neg (by omega), if_pos (by omega)]
    omega
  · rw [if_neg (by omega), if_neg (by omega), if_neg (by omega)]
    omega

/-- An empty column. -/
theorem laid_empty (w : (⟨2, ![1024, 10112]⟩ : Shape).Idx → EReal) (k : Fin 1024) (j : ℕ) (h : 1920 ≤ j ∧ j < 2048) :
    laid w k j = 0 := if_pos h

/-- A sequence's own token, in the joined array. -/
theorem joined_own (x : (⟨3, ![8, 4096, 1024]⟩ : Shape).Idx → EReal) (c) (i : SA.Idx) (j : (⟨3, ![8, 4096, 1024]⟩ : Shape).Idx)
    (h0 : (i 0 : ℕ) = j 0) (h1 : (i 1 : ℕ) = 256 + j 1) (h2 : (i 2 : ℕ) = j 2) : joined x c i = x j := by
  unfold joined
  rw [dif_neg (by omega)]
  refine congrArg x (funext fun a => Fin.ext ?_)
  match a with
  | ⟨0, _⟩ => exact h0
  | ⟨1, _⟩ =>
    show (i 1 : ℕ) - 256 = j 1
    omega
  | ⟨2, _⟩ => exact h2

/-- A context token, in the joined array. -/
theorem joined_context (x) (c : (⟨3, ![8, 256, 1024]⟩ : Shape).Idx → EReal) (i : SA.Idx) (j : (⟨3, ![8, 256, 1024]⟩ : Shape).Idx)
    (h0 : (i 0 : ℕ) = j 0) (h1 : (i 1 : ℕ) = j 1) (h2 : (i 2 : ℕ) = j 2) : joined x c i = c j := by
  have b : (j 1 : ℕ) < 256 := (j 1).isLt
  unfold joined
  rw [dif_pos (by omega)]
  refine congrArg c (funext fun a => Fin.ext ?_)
  match a with
  | ⟨0, _⟩ => exact h0
  | ⟨1, _⟩ => exact h1
  | ⟨2, _⟩ => exact h2

/-- A token's row, read at an index of the array. -/
theorem tok_eq (A : SA.Idx → EReal) (n : ℕ) (d : Fin 1024) (i : SA.Idx) (h : 4352 * (i 0 : ℕ) + i 1 = n) (h2 : (i 2 : ℕ) = d) :
    A i = tok A n d := by
  have b0 : (i 0 : ℕ) < 8 := (i 0).isLt
  have b1 : (i 1 : ℕ) < 4352 := (i 1).isLt
  refine congrArg A (funext fun a => Fin.ext ?_)
  match a with
  | ⟨0, _⟩ =>
    show (i 0 : ℕ) = n / 4352 % 8
    omega
  | ⟨1, _⟩ =>
    show (i 1 : ℕ) = n % 4352
    omega
  | ⟨2, _⟩ => exact h2

/-- A part of the modulation, read at an index of the table. -/
theorem part_eq (M : SM.Idx → EReal) (q n : ℕ) (k : Fin 1024) (i : SM.Idx) (h : (i 0 : ℕ) = mrow (n / 256))
    (h1 : (i 1 : ℕ) = 1024 * q + k) : M i = part M q n k := by
  have b0 : (i 0 : ℕ) < 16 := (i 0).isLt
  have b1 : (i 1 : ℕ) < 6144 := (i 1).isLt
  refine congrArg M (funext fun a => Fin.ext ?_)
  match a with
  | ⟨0, _⟩ =>
    show (i 0 : ℕ) = mrow (n / 256) % 16
    omega
  | ⟨1, _⟩ =>
    show (i 1 : ℕ) = (1024 * q + (k : ℕ)) % 6144
    omega

/-- A normalised, modulated element in the references' spelling. -/
theorem moved_eq (A : SA.Idx → EReal) (M : SM.Idx → EReal) (g : SG.Idx → EReal) (q n : ℕ) (k : Fin 1024) (r : Fin 1024 → EReal)
    (b c : EReal) (hr : ∀ d, r d = tok A n d) (hb : b = part M (q + 1) n k) (hc : c = part M q n k) :
    r k * Ideal.rsqrt (Ideal.div (∑ d, r d * r d) (Ideal.ofBits .f32 1149239296#32) + Ideal.ofBits .f32 897988541#32) * g (ix1 k)
        * (1 + b) + c
      = moved A M g q n k := by
  obtain rfl : r = tok A n := funext hr
  subst hb hc
  rfl

end Cert.Norm

end
-- ==== Proof.Take.lean ====
/- The rows of the modulation that the tiles of 256 rows take: eight for a context tile, the sequence's own for another. -/
module

public import proofs.«01_k».proof.Proof.Gen.Kernel3Ideal.Value
public import Idealize.ShloMosaic.Lib.Pipeline.ValueKit
public import proofs.«01_k».proof.Proof.Norm
public import Idealize.ShloMosaic.Lib.Pointwise
public import Idealize.ShloMosaic.Lib.ReduceAll

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Cert.Kernel3Ideal.Facts Cert.Norm

variable (m : (ℓ : Loc nD τ sig) → Buf (Elt Ideal) ℓ)

/-- A tile's row index as the call's host wraps it. -/
def wrapped : IVec S136x1 32 :=
  broadcastInDim S136x1 ![0] bcast_S136_S136x1_0
    (select (cmpi .slt (fun i => lit0 (S136.rowMajor i)) (broadcastInDim S136 ![] bcast_S_S136 (constantI S_ 32 0#32)))
      (addi (fun i => lit0 (S136.rowMajor i)) (broadcastInDim S136 ![] bcast_S_S136 (constantI S_ 32 16#32)))
      (fun i => lit0 (S136.rowMajor i)))

/-- Whether each index lies in the table. -/
def inRange : IVec S136 1 :=
  Host.reduce IntOp.andi
    (andi (cmpi .sge wrapped (broadcastInDim S136x1 ![] bcast_S_S136x1 (constantI S_ 32 0#32)))
      (cmpi .sle wrapped (broadcastInDim S136x1 ![0, 1] bcast_S1x1_S136x1_0_1 (broadcastInDim S1x1 ![1] bcast_S1_S1x1_1 (constantI S1 32 15#32)))))
    (constantI S_ 1 1#1) reducesTo_S136x1_S136_d1 h_S_

/-- The table's rows at the wrapped indices. -/
def taken (x : FVec Ideal S16x6x1024 .f32) : FVec Ideal S136x6x1024 .f32 :=
  select (broadcastInDim S136x6x1024 ![0] bcast_S136_S136x6x1024_0 inRange)
    (Host.gather gather_S16x6x1024_S136x1_S136x6x1024_12_0_n_n_0_1_161024 x wrapped)
    (broadcastInDim S136x6x1024 ![] bcast_S_S136x6x1024 (constant S_ .f32 0x7FC00000#32))

/-- The modulation's rows as the region finds them. -/
theorem V1 (c : Dev nD) : V m c main_v1 = taken (shapeCast S16x6x1024 (m ((c : Thread nD τ).loc main_arg1) : FVec Ideal S16x6144 .f32) shapeCasts_S16x6144_S16x6x1024) := by
  unfold V
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  unfold taken inRange wrapped
  rfl

theorem wrapped_fin : ∀ n : Fin 136, Scalar.select (IntOp.cmpi .slt (lit0 n) 0#32) (IntOp.addi (lit0 n) 16#32) (lit0 n)
    = if (n : ℕ) % 17 = 0 then 8#32 else BitVec.ofNat 32 ((n : ℕ) / 17) := by
  decide +kernel

theorem wrapped_apply (i : S136x1.Idx) : wrapped i = if (i 0 : ℕ) % 17 = 0 then 8#32 else BitVec.ofNat 32 ((i 0 : ℕ) / 17) := by
  unfold wrapped
  pointwise []
  have h : S136.rowMajor (ix1 (i 0)) = i 0 := by
    apply Fin.ext
    exact Shape.rowMajor_val_one _
  rw [h]
  exact wrapped_fin (i 0)

theorem within : ∀ n : Fin 136, IntOp.andi (IntOp.cmpi .sge (if (n : ℕ) % 17 = 0 then 8#32 else BitVec.ofNat 32 ((n : ℕ) / 17)) 0#32)
    (IntOp.cmpi .sle (if (n : ℕ) % 17 = 0 then 8#32 else BitVec.ofNat 32 ((n : ℕ) / 17)) 15#32) = 1#1 := by
  decide +kernel

theorem inRange_apply (i : S136.Idx) : inRange i = 1#1 := by
  unfold inRange
  refine Host.reduce_andi_one _ _ _ _ _ rfl fun i => ?_
  pointwise []
  rw [wrapped_apply]
  exact within (i 0)

theorem clamped : ∀ n : Fin 136, min (if (n : ℕ) % 17 = 0 then 8#32 else BitVec.ofNat 32 ((n : ℕ) / 17)).toInt.toNat 15 = mrow n := by
  decide +kernel

theorem start_zero (i : S136x6x1024.Idx) :
    (gather_S16x6x1024_S136x1_S136x6x1024_12_0_n_n_0_1_161024).start i wrapped 0
      = min (if ((i 0 : Fin 136) : ℕ) % 17 = 0 then 8#32 else BitVec.ofNat 32 (((i 0 : Fin 136) : ℕ) / 17)).toInt.toNat 15 := by
  unfold GatherDims.start
  rw [dif_pos (show (0 : Fin 3) ∈ (gather_S16x6x1024_S136x1_S136x6x1024_12_0_n_n_0_1_161024).startIndexMap from List.mem_singleton.mpr rfl)]
  have hsi : (gather_S16x6x1024_S136x1_S136x6x1024_12_0_n_n_0_1_161024).siIdx i ⟨List.idxOf (0 : Fin 3)
      (gather_S16x6x1024_S136x1_S136x6x1024_12_0_n_n_0_1_161024).startIndexMap,
      List.idxOf_lt_length_iff.2 (List.mem_singleton.mpr rfl)⟩ = ix2 (i 0) 0 := by
    funext b
    refine Fin.ext ?_
    match b with
    | ⟨0, _⟩ => rfl
    | ⟨1, _⟩ => rfl
  rw [hsi]
  exact congrArg (fun b : BitVec 32 => min b.toInt.toNat 15) (wrapped_apply (ix2 (i 0) 0))

theorem off_one (i : S136x6x1024.Idx) (w : IVec S136x1 32) :
    (gather_S16x6x1024_S136x1_S136x6x1024_12_0_n_n_0_1_161024).start i w 1 + 0
      + (gather_S16x6x1024_S136x1_S136x6x1024_12_0_n_n_0_1_161024).offCoord i 1 = i 1 := by
  unfold GatherDims.start
  rw [dif_neg (show (1 : Fin 3) ∉ (gather_S16x6x1024_S136x1_S136x6x1024_12_0_n_n_0_1_161024).startIndexMap by decide)]
  simp only [Nat.zero_add]
  rfl

theorem off_two (i : S136x6x1024.Idx) (w : IVec S136x1 32) :
    (gather_S16x6x1024_S136x1_S136x6x1024_12_0_n_n_0_1_161024).start i w 2 + 0
      + (gather_S16x6x1024_S136x1_S136x6x1024_12_0_n_n_0_1_161024).offCoord i 2 = i 2 := by
  unfold GatherDims.start
  rw [dif_neg (show (2 : Fin 3) ∉ (gather_S16x6x1024_S136x1_S136x6x1024_12_0_n_n_0_1_161024).startIndexMap by decide)]
  simp only [Nat.zero_add]
  rfl

theorem off_zero (i : S136x6x1024.Idx) :
    (gather_S16x6x1024_S136x1_S136x6x1024_12_0_n_n_0_1_161024).start i wrapped 0 + 0
      + (gather_S16x6x1024_S136x1_S136x6x1024_12_0_n_n_0_1_161024).offCoord i 0 = mrow (i 0) := by
  rw [GatherDims.offCoord_eq_zero _ _ _ (fun h => ((GatherDims.mem_sKept _ _).mp h).1 (List.mem_singleton.mpr rfl)), start_zero]
  exact clamped (i 0)

theorem gather_idx (i : S136x6x1024.Idx) (j : S16x6x1024.Idx) (h0 : (j 0 : ℕ) = mrow (i 0)) (h1 : (j 1 : ℕ) = i 1)
    (h2 : (j 2 : ℕ) = i 2) : (gather_S16x6x1024_S136x1_S136x6x1024_12_0_n_n_0_1_161024).operandIdx i wrapped = j := by
  funext a
  refine Fin.ext ?_
  show GatherDims.start _ _ _ _ + GatherDims.batchCoord _ _ _ + GatherDims.offCoord _ _ _ = _
  rw [GatherDims.batchCoord_eq_zero _ _ _ List.not_mem_nil]
  match a with
  | ⟨0, _⟩ => exact (off_zero i).trans h0.symm
  | ⟨1, _⟩ => exact (off_one i wrapped).trans h1.symm
  | ⟨2, _⟩ => exact (off_two i wrapped).trans h2.symm

theorem taken_apply (x) (i : S136x6x1024.Idx) (j : S16x6x1024.Idx) (h0 : (j 0 : ℕ) = mrow (i 0)) (h1 : (j 1 : ℕ) = i 1)
    (h2 : (j 2 : ℕ) = i 2) : taken x i = x j := by
  unfold taken
  pointwise []
  rw [inRange_apply]
  exact congrArg x (gather_idx i j h0 h1 h2)

end Cert.Kernel3Ideal.Hand

end
-- ==== Proof.Up.lean ====
/- The first matrix of the feed-forward part: each tile of the kernel's result is the normalised, modulated rows times the tile's columns. -/
module

public import proofs.«01_k».proof.Proof.Take

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Cert.Kernel3Ideal.Facts Cert.Norm

variable (m : (ℓ : Loc nD τ sig) → Buf (Elt Ideal) ℓ)

abbrev argA (c : Dev nD) : FVec Ideal S8x4352x1024 .f32 := m ((c : Thread nD τ).loc main_arg0)
abbrev argM (c : Dev nD) : FVec Ideal S16x6144 .f32 := m ((c : Thread nD τ).loc main_arg1)
abbrev argG (c : Dev nD) : FVec Ideal S1024 .f32 := m ((c : Thread nD τ).loc main_arg2)
abbrev argW (c : Dev nD) : FVec Ideal S1024x5632 .f32 := m ((c : Thread nD τ).loc main_arg3)

theorem idx : ∀ t : Fin cfg0.N, win0_0.index t = ![t.val / 4, 0] ∧ win0_1.index t = ![t.val / 4, 0, 0]
    ∧ win0_2.index t = ![0, 0] ∧ win0_3.index t = ![0, t.val % 4] ∧ win0_4.index t = ![t.val / 4, t.val % 4] :=
  (by decide +kernel : ∀ t : Fin grid0.N, _)

theorem V3 (c : Dev nD) : V m c main_v3 = shapeCast S34816x1024 (argA m c) shapeCasts_S8x4352x1024_S34816x1024 := by
  unfold V
  simp only [hostOps0, hostOps0_1, hostOps0_2, List.flatten_cons, List.flatten_nil, List.append_nil, List.cons_append,
    List.nil_append]
  after_results
  rfl

theorem V4 (c : Dev nD) : V m c main_v4 = shapeCast S1x1024 (argG m c) shapeCasts_S1024_S1x1024 := by
  unfold V
  simp only [hostOps0, hostOps0_1, hostOps0_2, List.flatten_cons, List.flatten_nil, List.append_nil, List.cons_append,
    List.nil_append]
  after_results
  rfl

theorem a_read (c : Dev nD) (t : Fin cfg0.N) (x : S1024x1024.Idx) (i : S8x4352x1024.Idx)
    (h : 4352 * (i 0 : ℕ) + i 1 = 1024 * (t.val / 4) + x 0) (h2 : (i 2 : ℕ) = x 1) :
    (show FVec Ideal S1024x1024 .f32 from iblk m c 0 t) x = argA m c i := by
  blk_simp [iblk]
  rw [V3]
  pointwise []
  blk_ext [idx t]

theorem g_read (c : Dev nD) (t : Fin cfg0.N) (k : Fin 1024) :
    (show FVec Ideal S1x1024 .f32 from iblk m c 2 t) (ix2 0 k) = argG m c (ix1 k) := by
  blk_simp [iblk]
  rw [V4]
  pointwise []
  blk_ext [idx t]

theorem w_read (c : Dev nD) (t : Fin cfg0.N) (x : S1024x1408.Idx) (i : S1024x5632.Idx) (h0 : (i 0 : ℕ) = x 0)
    (h : (i 1 : ℕ) = 1408 * (t.val % 4) + x 1) :
    (show FVec Ideal S1024x1408 .bf16 from iblk m c 3 t) x = argW m c i := by
  blk_point [iblk, V, idx t]

theorem mod_read (c : Dev nD) (t : Fin cfg0.N) (x : S4x6x1024.Idx) (i : S16x6144.Idx)
    (h0 : (i 0 : ℕ) = mrow (4 * (t.val / 4) + x 0)) (h1 : (i 1 : ℕ) = 1024 * x 1 + x 2) :
    (show FVec Ideal S4x6x1024 .f32 from iblk m c 1 t) x = argM m c i := by
  have hx1 : (x 1 : ℕ) < 6 := (x 1).isLt
  have hx2 : (x 2 : ℕ) < 1024 := (x 2).isLt
  have hi : (i 0 : ℕ) < 16 := (i 0).isLt
  blk_simp [iblk]
  rw [V1]
  refine (taken_apply _ _ (ix3 (i 0) (x 1) (x 2)) ?_ ?_ ?_).trans ?_
  · rw [show (((ix3 (i 0) (x 1) (x 2) : S16x6x1024.Idx) 0) : ℕ) = i 0 from rfl, h0]
    congr 1
    blk_simp [idx t]
    omega
  · blk_simp [idx t]
  · blk_simp [idx t]
  · pointwise []
    blk_ext

theorem ld_rows (c : Dev nD) (t : Fin cfg0.N) (o : ℕ) (h) (x : S256x1024.Idx) (i : S8x4352x1024.Idx)
    (h0 : 4352 * (i 0 : ℕ) + i 1 = 1024 * (t.val / 4) + o + x 0) (h2 : (i 2 : ℕ) = x 1) :
    (show FVec Ideal S256x1024 .f32 from View.ld (iblk m c 0 t) (Rect.unit ![o, 0] ![256, 1024] h)) x = argA m c i := by
  have ho : o + 256 ≤ 1024 := h 0
  have hx : (x 0 : ℕ) < 256 := (x 0).isLt
  refine Eq.trans ?_ (a_read m c t (ix2 ⟨o + (x 0 : ℕ), by omega⟩ (x 1)) i (h0.trans (Nat.add_assoc _ _ _)) h2)
  pointwise []
  blk_ext

theorem ld_mod (c : Dev nD) (t : Fin cfg0.N) (p q : ℕ) (h) (k : Fin 1024) (i : S16x6144.Idx)
    (h0 : (i 0 : ℕ) = mrow (4 * (t.val / 4) + p)) (h1 : (i 1 : ℕ) = 1024 * q + k) :
    (show FVec Ideal S1x1x1024 .f32 from View.ld (iblk m c 1 t) (Rect.unit ![p, q, 0] ![1, 1, 1024] h)) (ix3 0 0 k)
      = argM m c i := by
  have hp : p + 1 ≤ 4 := h 0
  have hq : q + 1 ≤ 6 := h 1
  refine Eq.trans ?_ (mod_read m c t (ix3 ⟨p, by omega⟩ ⟨q, by omega⟩ k) i h0 h1)
  pointwise []
  blk_ext

theorem pay3 (x g sc sh) (i : S256x1024.Idx) : k0_pay3 (F := Ideal) x g sc sh i
    = hid (fun d => x (ix2 (i 0) d)) (x i) (g (ix2 0 (i 1))) (sc (ix3 0 0 (i 1))) (sh (ix3 0 0 (i 1))) := by
  unfold hid rinv
  pointwise [k0_pay3]

theorem pay7 (x g sc sh) : k0_pay7 (F := Ideal) (k0_pay4 x) (k0_pay5 x) k0_pay6 g sc sh = k0_pay3 x g sc sh := rfl
theorem pay9 (x g sc sh) : k0_pay9 (F := Ideal) (k0_pay8 x g) sc sh = k0_pay3 x g sc sh := rfl
theorem pay1 (x g sc sh) : k0_pay1 (F := Ideal) (k0_pay10 x g sc) (k0_pay11 sh) = k0_pay3 x g sc sh := rfl

theorem point_lt (t : Fin cfg0.N) : t.val / 4 < 34 := by
  have h : t.val < 136 := lt_of_lt_of_eq t.isLt N_0
  omega

theorem mrow_lt (s : ℕ) (h : s < 136) : mrow s < 16 := by
  unfold mrow
  split <;> omega

/-- One of a tile's four segments, normalised and modulated. -/
theorem segment (c : Dev nD) (t : Fin cfg0.N) (p : ℕ) (hp : p < 4) (h h4 h3) (x : S256x1024.Idx) (n : ℕ) (k : Fin 1024)
    (hn : n = 1024 * (t.val / 4) + 256 * p + x 0) (hk : (k : ℕ) = x 1) :
    k0_pay3 (F := Ideal) (View.ld (iblk m c 0 t) (Rect.unit ![256 * p, 0] ![256, 1024] h)) (iblk m c 2 t)
        (View.ld (iblk m c 1 t) (Rect.unit ![p, 4, 0] ![1, 1, 1024] h4))
        (View.ld (iblk m c 1 t) (Rect.unit ![p, 3, 0] ![1, 1, 1024] h3)) x
      = moved (argA m c) (argM m c) (argG m c) 3 n k := by
  have hx : (x 0 : ℕ) < 256 := (x 0).isLt
  have ht := point_lt t
  obtain rfl : k = x 1 := Fin.ext hk
  have hr : mrow (n / 256) % 16 = mrow (4 * (t.val / 4) + p) := by
    rw [show n / 256 = 4 * (t.val / 4) + p by omega, Nat.mod_eq_of_lt (mrow_lt _ (by omega))]
  rw [pay3]
  unfold moved
  have hA : ∀ (z : S256x1024.Idx) (d : Fin 1024), (z 0 : ℕ) = x 0 → (z 1 : ℕ) = d →
      (show FVec Ideal S256x1024 .f32 from View.ld (iblk m c 0 t) (Rect.unit ![256 * p, 0] ![256, 1024] h)) z = tok (argA m c) n d :=
    fun z d h0 h1 => ld_rows m c t _ h z _ (by
      show 4352 * (n / 4352 % 8) + n % 4352 = _
      rw [h0]
      omega) h1.symm
  congr 1
  · funext d
    exact hA _ d rfl rfl
  · exact hA x _ rfl rfl
  · exact g_read m c t _
  · exact ld_mod m c t p 4 h4 _ _ hr (by
      show (1024 * 4 + ((x 1 : Fin 1024) : ℕ)) % 6144 = _
      have := (x 1 : Fin 1024).isLt
      omega)
  · exact ld_mod m c t p 3 h3 _ _ hr (by
      show (1024 * 3 + ((x 1 : Fin 1024) : ℕ)) % 6144 = _
      have := (x 1 : Fin 1024).isLt
      omega)

/-- At the first column tile of a row tile, the four segments fill the scratch. -/
theorem first (c : Dev nD) (t : Fin cfg0.N) (hA : t.val % 4 = 0) (y : S1024x1024.Idx) :
    (outsAt0 m c t.val t.isLt).2 y = moved (argA m c) (argM m c) (argG m c) 3 (1024 * (t.val / 4) + y 0) (y 1) := by
  rw [outsAt0_A m c t hA]
  frame_out
  canon_tiles x h
  case piece0 =>
    rw [pay1]
    exact segment m c t 3 (by norm_num) _ _ _ x _ _ (by omega) (by omega)
  case piece1 =>
    rw [pay9]
    exact segment m c t 2 (by norm_num) _ _ _ x _ _ (by omega) (by omega)
  case piece2 =>
    rw [pay7]
    exact segment m c t 1 (by norm_num) _ _ _ x _ _ (by omega) (by omega)
  case piece3 =>
    exact segment m c t 0 (by norm_num) _ _ _ x _ _ (by omega) (by omega)

/-- A later column tile finds the scratch as the tile before left it. -/
theorem later (c : Dev nD) (t : Fin cfg0.N) (hB : ¬t.val % 4 = 0) (y : S1024x1024.Idx) :
    (outsAt0 m c t.val t.isLt).2 y = (outsAt0 m c (t.val - 1) (by omega)).2 y := by
  rw [outsAt0_B m c t hB]
  rfl

theorem scratch (c : Dev nD) (n : ℕ) (hn : n < cfg0.N) (y : S1024x1024.Idx) :
    (outsAt0 m c n hn).2 y = moved (argA m c) (argM m c) (argG m c) 3 (1024 * (n / 4) + y 0) (y 1) := by
  induction n with
  | zero => exact first m c ⟨0, hn⟩ rfl y
  | succ n ih =>
    by_cases h : (n + 1) % 4 = 0
    · exact first m c ⟨n + 1, hn⟩ h y
    · refine (later m c ⟨n + 1, hn⟩ h y).trans ((ih _).trans ?_)
      rw [show (n + 1) / 4 = n / 4 by omega]

theorem pay2 (x w) (i : S1024x1408.Idx) : k0_pay2 (F := Ideal) x w i = ∑ k : Fin 1024, x (ix2 (i 0) k) * w (ix2 k (i 1)) := by
  pointwise [k0_pay2]

theorem outA (c : Dev nD) (t : Fin cfg0.N) (h : t.val % 4 = 0) (y : S1024x1408.Idx) :
    (outsAt0 m c t.val t.isLt).1 y = k0_pay2 (F := Ideal) (outsAt0 m c t.val t.isLt).2 (iblk m c 3 t) y := by
  rw [outsAt0_A m c t h]
  frame_out
  refine congrArg (fun s : FVec Ideal S1024x1024 .bf16 => k0_pay2 (F := Ideal) s (iblk m c 3 t) y) ?_
  exact (View.readCov_eq_canon' _ _ _).trans (View.ld_unit_zero (S := S1024x1024) (funext fun a => by match a with
    | ⟨0, _⟩ => rfl
    | ⟨1, _⟩ => rfl) _ _)

theorem outB (c : Dev nD) (t : Fin cfg0.N) (h : ¬ t.val % 4 = 0) (y : S1024x1408.Idx) :
    (outsAt0 m c t.val t.isLt).1 y = k0_pay2 (F := Ideal) (outsAt0 m c t.val t.isLt).2 (iblk m c 3 t) y := by
  rw [outsAt0_B m c t h]
  frame_out
  exact congrArg (fun s : FVec Ideal S1024x1024 .bf16 => k0_pay2 (F := Ideal) s (iblk m c 3 t) y)
    ((Memref.isWhole_whole cc0_scratch0).read_unread _)

/-- The product of the normalised, modulated tokens with the matrix. -/
def G (c : Dev nD) : FVec Ideal S34816x5632 .f32 := fun i =>
  ∑ k : Fin 1024, moved (argA m c) (argM m c) (argG m c) 3 (i 0) k * argW m c (ix2 k (i 1))

/-- Each grid point's block is the product's block. -/
theorem block (c : Dev nD) (t : Fin cfg0.N) (y : S1024x1408.Idx) (i : S34816x5632.Idx) (h0 : (i 0 : ℕ) = 1024 * (t.val / 4) + y 0)
    (h1 : (i 1 : ℕ) = 1408 * (t.val % 4) + y 1) : (outsAt0 m c t.val t.isLt).1 y = G m c i := by
  have e : (outsAt0 m c t.val t.isLt).1 y = k0_pay2 (F := Ideal) (outsAt0 m c t.val t.isLt).2 (iblk m c 3 t) y := by
    by_cases h : t.val % 4 = 0
    · exact outA m c t h y
    · exact outB m c t h y
  rw [e, pay2]
  unfold G
  refine Finset.sum_congr rfl fun k _ => ?_
  rw [h0]
  exact congrArg₂ (fun a b : EReal => a * b) (scratch m c t.val t.isLt (ix2 (y 0) k)) (w_read m c t (ix2 k (y 1)) _ rfl h1)

/-- The call's result. -/
theorem final (c : Dev nD) : (dats m 0 c).arrAt 4 cfg0.N = G m c := by
  refine (dats m 0 c).arrAt_eq_of_covers 4 _ (by decide +kernel) fun t _ y => ?_
  blk_simp
  rw [after0_4]
  exact block m c t y _ (by blk_simp [idx t]; omega) (by blk_simp [idx t]; omega)

end Cert.Kernel3Ideal.Hand

end
-- ==== Proof.Proj.lean ====
/- The projection: each tile of the kernel's result is the normalised, modulated tokens times the tile's columns. -/
module

public import proofs.«01_k».proof.Proof.Gen.Kernel2Ideal.Value
public import proofs.«01_k».proof.Proof.Up

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Kernel2Ideal.Facts Cert.Norm
open Cert.Kernel3Ideal.Hand (taken taken_apply mrow_lt)

variable (m : (ℓ : Loc nD τ sig) → Buf (Elt Ideal) ℓ)

abbrev argX (c : Dev nD) : FVec Ideal S8x4096x1024 .f32 := m ((c : Thread nD τ).loc main_arg0)
abbrev argC (c : Dev nD) : FVec Ideal S8x256x1024 .f32 := m ((c : Thread nD τ).loc main_arg1)
abbrev argM (c : Dev nD) : FVec Ideal S16x6144 .f32 := m ((c : Thread nD τ).loc main_arg2)
abbrev argG (c : Dev nD) : FVec Ideal S1024 .f32 := m ((c : Thread nD τ).loc main_arg3)
abbrev argW (c : Dev nD) : FVec Ideal S1024x10112 .f32 := m ((c : Thread nD τ).loc main_arg4)

/-- The tokens the call reads: context and sequence joined. -/
abbrev argA (c : Dev nD) : FVec Ideal S8x4352x1024 .f32 := joined (argX m c) (argC m c)

theorem idx : ∀ t : Fin cfg0.N, win0_0.index t = ![t.val / 5, 0] ∧ win0_1.index t = ![t.val / 5, 0, 0]
    ∧ win0_2.index t = ![0, 0] ∧ win0_3.index t = ![0, t.val % 5] ∧ win0_4.index t = ![t.val / 5, t.val % 5] :=
  (by decide +kernel : ∀ t : Fin grid0.N, _)

theorem V11 (c : Dev nD) : V m c main_v11 = shapeCast S34816x1024 (concatenate S8x4352x1024 1 [⟨S8x256x1024, argC m c⟩,
    ⟨S8x4096x1024, argX m c⟩] concatenates_S8x256x1024_S8x4096x1024_S8x4352x1024_d1) shapeCasts_S8x4352x1024_S34816x1024 := by
  unfold V
  simp only [hostOps0, hostOps0_1, hostOps0_2, List.flatten_cons, List.flatten_nil, List.append_nil, List.cons_append,
    List.nil_append]
  after_results
  rfl

theorem V12 (c : Dev nD) : V m c main_v12 = shapeCast S1x1024 (argG m c) shapeCasts_S1024_S1x1024 := by
  unfold V
  simp only [hostOps0, hostOps0_1, hostOps0_2, List.flatten_cons, List.flatten_nil, List.append_nil, List.cons_append,
    List.nil_append]
  after_results
  rfl

/-- The modulation's rows as the region finds them. -/
theorem V2 (c : Dev nD) : V m c main_v2 = taken (shapeCast S16x6x1024 (argM m c) shapeCasts_S16x6144_S16x6x1024) := by
  unfold V
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  unfold taken Kernel3Ideal.Hand.inRange Kernel3Ideal.Hand.wrapped
  rfl

/-- The projection's columns laid out by the call's host. -/
def cols (w : FVec Ideal S1024x10112 .f32) : FVec Ideal S1024x10240 .f32 :=
  concatenate S1024x10240 1 [⟨S1024x1536, extractStridedSlice S1024x1536 ![0, 0] w slices_S1024x10112_S1024x1536_0_0⟩,
    ⟨S1024x384, extractStridedSlice S1024x384 ![0, 6656] w slices_S1024x10112_S1024x384_0_6656⟩,
    ⟨S1024x128, broadcastInDim S1024x128 ![] bcast_S_S1024x128 (constant S_ .f32 0x00000000#32)⟩,
    ⟨S1024x2048, extractStridedSlice S1024x2048 ![0, 1536] w slices_S1024x10112_S1024x2048_0_1536⟩,
    ⟨S1024x3072, extractStridedSlice S1024x3072 ![0, 3584] w slices_S1024x10112_S1024x3072_0_3584⟩,
    ⟨S1024x3072, extractStridedSlice S1024x3072 ![0, 7040] w slices_S1024x10112_S1024x3072_0_7040⟩]
    concatenates_S1024x1536_S1024x384_S1024x128_S1024x2048_S1024x3072_S1024x3072_S1024x10240_d1

theorem V10 (c : Dev nD) : V m c main_v10 = truncf .bf16 (cols (argW m c)) bitsLt_bf16_f32 := by
  unfold V
  simp only [hostOps0, hostOps0_1, hostOps0_2, List.flatten_cons, List.flatten_nil, List.append_nil, List.cons_append,
    List.nil_append]
  after_results
  rfl

theorem whole_tokens (x : FVec Ideal S8x4096x1024 .f32) (y : FVec Ideal S8x256x1024 .f32) :
    concatenate S8x4352x1024 1 [⟨S8x256x1024, y⟩, ⟨S8x4096x1024, x⟩] concatenates_S8x256x1024_S8x4096x1024_S8x4352x1024_d1
      = joined x y := by
  funext i
  unfold joined
  pointwise []

theorem cols_apply (w) (i : S1024x10240.Idx) : cols w i = laid w (i 0) (i 1) := by
  have b : (i 1 : ℕ) < 10240 := (i 1).isLt
  unfold cols
  pointwise []
  repeat' split
  all_goals first
    | (refine (laid_kept w (i 0) (i 1) _ ?_).symm
       dsimp only
       omega)
    | exact (laid_empty w (i 0) (i 1) (by omega)).symm

theorem a_read (c : Dev nD) (t : Fin cfg0.N) (x : S1024x1024.Idx) (i : S8x4352x1024.Idx)
    (h : 4352 * (i 0 : ℕ) + i 1 = 1024 * (t.val / 5) + x 0) (h2 : (i 2 : ℕ) = x 1) :
    (show FVec Ideal S1024x1024 .f32 from iblk m c 0 t) x = argA m c i := by
  blk_simp [iblk]
  rw [V11, whole_tokens]
  pointwise []
  blk_ext [idx t]

theorem g_read (c : Dev nD) (t : Fin cfg0.N) (k : Fin 1024) :
    (show FVec Ideal S1x1024 .f32 from iblk m c 2 t) (ix2 0 k) = argG m c (ix1 k) := by
  blk_simp [iblk]
  rw [V12]
  pointwise []
  blk_ext [idx t]

theorem w_read (c : Dev nD) (t : Fin cfg0.N) (x : S1024x2048.Idx) (n : ℕ) (h : n = 2048 * (t.val % 5) + x 1) :
    (show FVec Ideal S1024x2048 .bf16 from iblk m c 3 t) x = laid (argW m c) (x 0) n := by
  have hx : (x 1 : ℕ) < 2048 := (x 1).isLt
  subst h
  blk_simp [iblk]
  rw [V10]
  refine Eq.trans ?_ (cols_apply (argW m c) (ix2 (x 0) ⟨2048 * (t.val % 5) + x 1, by omega⟩))
  pointwise []
  blk_ext [idx t]

theorem mod_read (c : Dev nD) (t : Fin cfg0.N) (x : S4x6x1024.Idx) (i : S16x6144.Idx)
    (h0 : (i 0 : ℕ) = mrow (4 * (t.val / 5) + x 0)) (h1 : (i 1 : ℕ) = 1024 * x 1 + x 2) :
    (show FVec Ideal S4x6x1024 .f32 from iblk m c 1 t) x = argM m c i := by
  have hx1 : (x 1 : ℕ) < 6 := (x 1).isLt
  have hx2 : (x 2 : ℕ) < 1024 := (x 2).isLt
  have hi : (i 0 : ℕ) < 16 := (i 0).isLt
  blk_simp [iblk]
  rw [V2]
  refine (taken_apply _ _ (ix3 (i 0) (x 1) (x 2)) ?_ ?_ ?_).trans ?_
  · rw [show (((ix3 (i 0) (x 1) (x 2) : S16x6x1024.Idx) 0) : ℕ) = i 0 from rfl, h0]
    congr 1
    blk_simp [idx t]
    omega
  · blk_simp [idx t]
  · blk_simp [idx t]
  · pointwise []
    blk_ext

theorem ld_rows (c : Dev nD) (t : Fin cfg0.N) (o : ℕ) (h) (x : S256x1024.Idx) (i : S8x4352x1024.Idx)
    (h0 : 4352 * (i 0 : ℕ) + i 1 = 1024 * (t.val / 5) + o + x 0) (h2 : (i 2 : ℕ) = x 1) :
    (show FVec Ideal S256x1024 .f32 from View.ld (iblk m c 0 t) (Rect.unit ![o, 0] ![256, 1024] h)) x = argA m c i := by
  have ho : o + 256 ≤ 1024 := h 0
  have hx : (x 0 : ℕ) < 256 := (x 0).isLt
  refine Eq.trans ?_ (a_read m c t (ix2 ⟨o + (x 0 : ℕ), by omega⟩ (x 1)) i (h0.trans (Nat.add_assoc _ _ _)) h2)
  pointwise []
  blk_ext

theorem ld_mod (c : Dev nD) (t : Fin cfg0.N) (p q : ℕ) (h) (k : Fin 1024) (i : S16x6144.Idx)
    (h0 : (i 0 : ℕ) = mrow (4 * (t.val / 5) + p)) (h1 : (i 1 : ℕ) = 1024 * q + k) :
    (show FVec Ideal S1x1x1024 .f32 from View.ld (iblk m c 1 t) (Rect.unit ![p, q, 0] ![1, 1, 1024] h)) (ix3 0 0 k)
      = argM m c i := by
  have hp : p + 1 ≤ 4 := h 0
  have hq : q + 1 ≤ 6 := h 1
  refine Eq.trans ?_ (mod_read m c t (ix3 ⟨p, by omega⟩ ⟨q, by omega⟩ k) i h0 h1)
  pointwise []
  blk_ext

theorem pay3 (x g sc sh) (i : S256x1024.Idx) : k0_pay3 (F := Ideal) x g sc sh i
    = hid (fun d => x (ix2 (i 0) d)) (x i) (g (ix2 0 (i 1))) (sc (ix3 0 0 (i 1))) (sh (ix3 0 0 (i 1))) := by
  unfold hid rinv
  pointwise [k0_pay3]

theorem pay7 (x g sc sh) : k0_pay7 (F := Ideal) (k0_pay4 x) (k0_pay5 x) k0_pay6 g sc sh = k0_pay3 x g sc sh := rfl
theorem pay9 (x g sc sh) : k0_pay9 (F := Ideal) (k0_pay8 x g) sc sh = k0_pay3 x g sc sh := rfl
theorem pay1 (x g sc sh) : k0_pay1 (F := Ideal) (k0_pay10 x g sc) (k0_pay11 sh) = k0_pay3 x g sc sh := rfl

theorem point_lt (t : Fin cfg0.N) : t.val / 5 < 34 := by
  have h : t.val < 170 := lt_of_lt_of_eq t.isLt N_0
  omega

/-- One of a tile's four segments, normalised and modulated. -/
theorem segment (c : Dev nD) (t : Fin cfg0.N) (p : ℕ) (hp : p < 4) (h h4 h3) (x : S256x1024.Idx) (n : ℕ) (k : Fin 1024)
    (hn : n = 1024 * (t.val / 5) + 256 * p + x 0) (hk : (k : ℕ) = x 1) :
    k0_pay3 (F := Ideal) (View.ld (iblk m c 0 t) (Rect.unit ![256 * p, 0] ![256, 1024] h)) (iblk m c 2 t)
        (View.ld (iblk m c 1 t) (Rect.unit ![p, 1, 0] ![1, 1, 1024] h4))
        (View.ld (iblk m c 1 t) (Rect.unit ![p, 0, 0] ![1, 1, 1024] h3)) x
      = moved (argA m c) (argM m c) (argG m c) 0 n k := by
  have hx : (x 0 : ℕ) < 256 := (x 0).isLt
  have ht := point_lt t
  obtain rfl : k = x 1 := Fin.ext hk
  have hr : mrow (n / 256) % 16 = mrow (4 * (t.val / 5) + p) := by
    rw [show n / 256 = 4 * (t.val / 5) + p by omega, Nat.mod_eq_of_lt (mrow_lt _ (by omega))]
  rw [pay3]
  unfold moved
  have hA : ∀ (z : S256x1024.Idx) (d : Fin 1024), (z 0 : ℕ) = x 0 → (z 1 : ℕ) = d →
      (show FVec Ideal S256x1024 .f32 from View.ld (iblk m c 0 t) (Rect.unit ![256 * p, 0] ![256, 1024] h)) z = tok (argA m c) n d :=
    fun z d h0 h1 => ld_rows m c t _ h z _ (by
      show 4352 * (n / 4352 % 8) + n % 4352 = _
      rw [h0]
      omega) h1.symm
  congr 1
  · funext d
    exact hA _ d rfl rfl
  · exact hA x _ rfl rfl
  · exact g_read m c t _
  · exact ld_mod m c t p 1 h4 _ _ hr (by
      show (1024 * 1 + ((x 1 : Fin 1024) : ℕ)) % 6144 = _
      have := (x 1 : Fin 1024).isLt
      omega)
  · exact ld_mod m c t p 0 h3 _ _ hr (by
      show (1024 * 0 + ((x 1 : Fin 1024) : ℕ)) % 6144 = _
      have := (x 1 : Fin 1024).isLt
      omega)

/-- At the first column tile of a row tile, the four segments fill the scratch. -/
theorem first (c : Dev nD) (t : Fin cfg0.N) (hA : t.val % 5 = 0) (y : S1024x1024.Idx) :
    (outsAt0 m c t.val t.isLt).2 y = moved (argA m c) (argM m c) (argG m c) 0 (1024 * (t.val / 5) + y 0) (y 1) := by
  rw [outsAt0_A m c t hA]
  frame_out
  canon_tiles x h
  case piece0 =>
    rw [pay1]
    exact segment m c t 3 (by norm_num) _ _ _ x _ _ (by omega) (by omega)
  case piece1 =>
    rw [pay9]
    exact segment m c t 2 (by norm_num) _ _ _ x _ _ (by omega) (by omega)
  case piece2 =>
    rw [pay7]
    exact segment m c t 1 (by norm_num) _ _ _ x _ _ (by omega) (by omega)
  case piece3 =>
    exact segment m c t 0 (by norm_num) _ _ _ x _ _ (by omega) (by omega)

/-- A later column tile finds the scratch as the tile before left it. -/
theorem later (c : Dev nD) (t : Fin cfg0.N) (hB : ¬t.val % 5 = 0) (y : S1024x1024.Idx) :
    (outsAt0 m c t.val t.isLt).2 y = (outsAt0 m c (t.val - 1) (by omega)).2 y := by
  rw [outsAt0_B m c t hB]
  rfl

theorem scratch (c : Dev nD) (n : ℕ) (hn : n < cfg0.N) (y : S1024x1024.Idx) :
    (outsAt0 m c n hn).2 y = moved (argA m c) (argM m c) (argG m c) 0 (1024 * (n / 5) + y 0) (y 1) := by
  induction n with
  | zero => exact first m c ⟨0, hn⟩ rfl y
  | succ n ih =>
    by_cases h : (n + 1) % 5 = 0
    · exact first m c ⟨n + 1, hn⟩ h y
    · refine (later m c ⟨n + 1, hn⟩ h y).trans ((ih _).trans ?_)
      rw [show (n + 1) / 5 = n / 5 by omega]

theorem pay2 (x w) (i : S1024x2048.Idx) : k0_pay2 (F := Ideal) x w i = ∑ k : Fin 1024, x (ix2 (i 0) k) * w (ix2 k (i 1)) := by
  pointwise [k0_pay2]

theorem outA (c : Dev nD) (t : Fin cfg0.N) (h : t.val % 5 = 0) (y : S1024x2048.Idx) :
    (outsAt0 m c t.val t.isLt).1 y = k0_pay2 (F := Ideal) (outsAt0 m c t.val t.isLt).2 (iblk m c 3 t) y := by
  rw [outsAt0_A m c t h]
  frame_out
  refine congrArg (fun s : FVec Ideal S1024x1024 .bf16 => k0_pay2 (F := Ideal) s (iblk m c 3 t) y) ?_
  exact (View.readCov_eq_canon' _ _ _).trans (View.ld_unit_zero (S := S1024x1024) (funext fun a => by match a with
    | ⟨0, _⟩ => rfl
    | ⟨1, _⟩ => rfl) _ _)

theorem outB (c : Dev nD) (t : Fin cfg0.N) (h : ¬ t.val % 5 = 0) (y : S1024x2048.Idx) :
    (outsAt0 m c t.val t.isLt).1 y = k0_pay2 (F := Ideal) (outsAt0 m c t.val t.isLt).2 (iblk m c 3 t) y := by
  rw [outsAt0_B m c t h]
  frame_out
  exact congrArg (fun s : FVec Ideal S1024x1024 .bf16 => k0_pay2 (F := Ideal) s (iblk m c 3 t) y)
    ((Memref.isWhole_whole cc0_scratch0).read_unread _)

/-- The product of the normalised, modulated tokens with the matrix. -/
def G (c : Dev nD) : FVec Ideal S34816x10240 .f32 := fun i =>
  ∑ k : Fin 1024, moved (argA m c) (argM m c) (argG m c) 0 (i 0) k * laid (argW m c) k (i 1)

/-- Each grid point's block is the product's block. -/
theorem block (c : Dev nD) (t : Fin cfg0.N) (y : S1024x2048.Idx) (i : S34816x10240.Idx) (h0 : (i 0 : ℕ) = 1024 * (t.val / 5) + y 0)
    (h1 : (i 1 : ℕ) = 2048 * (t.val % 5) + y 1) : (outsAt0 m c t.val t.isLt).1 y = G m c i := by
  have e : (outsAt0 m c t.val t.isLt).1 y = k0_pay2 (F := Ideal) (outsAt0 m c t.val t.isLt).2 (iblk m c 3 t) y := by
    by_cases h : t.val % 5 = 0
    · exact outA m c t h y
    · exact outB m c t h y
  rw [e, pay2]
  unfold G
  refine Finset.sum_congr rfl fun k _ => ?_
  rw [h0]
  exact congrArg₂ (fun a b : EReal => a * b) (scratch m c t.val t.isLt (ix2 (y 0) k)) (w_read m c t (ix2 k (y 1)) _ h1)

/-- The call's result. -/
theorem final (c : Dev nD) : (dats m 0 c).arrAt 4 cfg0.N = G m c := by
  refine (dats m 0 c).arrAt_eq_of_covers 4 _ (by decide +kernel) fun t _ y => ?_
  blk_simp
  rw [after0_4]
  exact block m c t y _ (by blk_simp [idx t]; omega) (by blk_simp [idx t]; omega)

end Cert.Kernel2Ideal.Hand

end
-- ==== Proof.ProjRef.lean ====
/- The reference of the projection, element by element. -/
module

public import proofs.«01_k».proof.Proof.Gen.Reference2Ideal.Read
public import proofs.«01_k».proof.Proof.Norm

@[expose] public section

set_option maxRecDepth 16384

noncomputable section

namespace Cert.Reference2Ideal.Hand

open Idealize.ShloMosaic Cert.Reference2Ideal Cert.Reference2Ideal.Gen Cert.Reference2Ideal.Read Cert.Norm

variable (x : FVec Ideal S8x4096x1024 .f32) (y : FVec Ideal S8x256x1024 .f32) (M : FVec Ideal S16x6144 .f32)
  (g : FVec Ideal S1024 .f32) (w : FVec Ideal S1024x10112 .f32)

/-- The reference's normalised, modulated tokens. -/
theorem lat (i : S8x4096x1024.Idx) : val_main_v35 (F := Ideal) x M g i = moved (joined x y) M g 0 (4352 * (i 0 : ℕ) + 256 + i 1) (i 2) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_v18, val_main_v19, val_main_cst_0, val_main_v20, val_main_v21, val_main_cst_1, val_main_v22, val_main_v23, val_main_v24, val_main_v25, val_main_v26, val_main_v27, val_main_v28, val_main_v29, val_main_cst_2, val_main_v30, val_main_v31, val_main_v32, val_main_v33, val_main_v34, val_main_v35, val_main_v36, val_main_cst_3, val_main_v37, val_main_v38, val_main_cst_4, val_main_v39, val_main_v40, val_main_cst_5, val_main_v41, val_main_v42, val_main_v43, val_main_v44, val_main_v45, val_main_v46, val_main_v47, val_main_v48, val_main_cst_6, val_main_v49, val_main_v50, val_main_v51, val_main_v52, val_main_v53, val_main_v54]
  have b0 : (i 0 : ℕ) < 8 := (i 0).isLt
  have b1 : (i 1 : ℕ) < 4096 := (i 1).isLt
  have e : mrow ((4352 * (i 0 : ℕ) + 256 + i 1) / 256) = i 0 := by
    unfold mrow
    rw [if_neg (by omega)]
    omega
  have hi : x i = x (ix3 (i 0) (i 1) (i 2)) := congrArg x (ix3_eta i).symm
  rw [hi]
  refine moved_eq _ M g 0 _ (i 2) (fun d => x (ix3 (i 0) (i 1) d)) _ _ (fun d => ?_) ?_ ?_
  rotate_left
  · exact part_eq M _ _ _ _ e.symm rfl
  · refine part_eq M _ _ _ _ e.symm ?_
    exact (Nat.zero_add _).symm
  refine Eq.trans ?_ (tok_eq (joined x y) _ d (ix3 (i 0) ⟨256 + (i 1 : ℕ), by omega⟩ d) (Nat.add_assoc _ _ _).symm rfl)
  exact (joined_own x y _ (ix3 (i 0) (i 1) d) rfl rfl rfl).symm

/-- The reference's normalised, modulated context. -/
theorem ctx (i : S8x256x1024.Idx) : val_main_v54 (F := Ideal) y M g i = moved (joined x y) M g 0 (4352 * (i 0 : ℕ) + i 1) (i 2) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_v18, val_main_v19, val_main_cst_0, val_main_v20, val_main_v21, val_main_cst_1, val_main_v22, val_main_v23, val_main_v24, val_main_v25, val_main_v26, val_main_v27, val_main_v28, val_main_v29, val_main_cst_2, val_main_v30, val_main_v31, val_main_v32, val_main_v33, val_main_v34, val_main_v35, val_main_v36, val_main_cst_3, val_main_v37, val_main_v38, val_main_cst_4, val_main_v39, val_main_v40, val_main_cst_5, val_main_v41, val_main_v42, val_main_v43, val_main_v44, val_main_v45, val_main_v46, val_main_v47, val_main_v48, val_main_cst_6, val_main_v49, val_main_v50, val_main_v51, val_main_v52, val_main_v53, val_main_v54]
  have b0 : (i 0 : ℕ) < 8 := (i 0).isLt
  have b1 : (i 1 : ℕ) < 256 := (i 1).isLt
  have e : mrow ((4352 * (i 0 : ℕ) + i 1) / 256) = 8 := by
    unfold mrow
    rw [if_pos (by omega)]
  have hi : y i = y (ix3 (i 0) (i 1) (i 2)) := congrArg y (ix3_eta i).symm
  rw [hi]
  refine moved_eq _ M g 0 _ (i 2) (fun d => y (ix3 (i 0) (i 1) d)) _ _ (fun d => ?_) ?_ ?_
  rotate_left
  · exact part_eq M _ _ _ _ e.symm rfl
  · refine part_eq M _ _ _ _ e.symm ?_
    exact (Nat.zero_add _).symm
  refine Eq.trans ?_ (tok_eq (joined x y) _ d (ix3 (i 0) ⟨(i 1 : ℕ), by omega⟩ d) rfl rfl)
  exact (joined_context x y _ (ix3 (i 0) (i 1) d) rfl rfl rfl).symm

/-- The product of the joined normalised, modulated tokens with the projection. -/
theorem prod (i : S8x4352x10112.Idx) :
    val_main_v57 (F := Ideal) x y M g w i = ∑ k : Fin 1024, moved (joined x y) M g 0 (4352 * (i 0 : ℕ) + i 1) k * w (ix2 k (i 2)) := by
  have b0 : (i 0 : ℕ) < 8 := (i 0).isLt
  have b1 : (i 1 : ℕ) < 4352 := (i 1).isLt
  pointwise [val_main_v57]
  split
  · pointwise [val_main_v55]
    exact Finset.sum_congr rfl fun k _ => congrArg₂ (fun a b : EReal => a * b) (ctx x y M g _) rfl
  · pointwise [val_main_v56]
    refine Finset.sum_congr rfl fun k _ => ?_
    refine congrArg₂ (fun a b : EReal => a * b) ((lat x y M g _).trans ?_) rfl
    exact congrArg (fun n => moved (joined x y) M g 0 n k)
      (show 4352 * (i 0 : ℕ) + 256 + ((i 1 : ℕ) - 256) = 4352 * (i 0 : ℕ) + i 1 by omega)

/-- A kept column of the product, where the layout puts it. -/
theorem kept (n j : ℕ) (b : Fin 8) (p : Fin 4352) (q : Fin 10112) (hn : 4352 * (b : ℕ) + p = n)
    (h : j < 1536 ∧ (q : ℕ) = j ∨ 1536 ≤ j ∧ j < 1920 ∧ (q : ℕ) = j + 5120 ∨ 2048 ≤ j ∧ j < 7168 ∧ (q : ℕ) = j - 512
      ∨ 7168 ≤ j ∧ (q : ℕ) = j - 128) :
    val_main_v57 (F := Ideal) x y M g w (ix3 b p q) = ∑ k : Fin 1024, moved (joined x y) M g 0 n k * laid w k j := by
  subst hn
  rw [prod]
  exact Finset.sum_congr rfl fun k _ => congrArg (fun b : EReal => moved (joined x y) M g 0 _ k * b) (laid_kept w k j q h).symm

/-- The projection of every token, in the layout of the call's result. -/
theorem whole (i : S34816x10240.Idx) :
    val_main_v65 (F := Ideal) x y M g w i = ∑ k : Fin 1024, moved (joined x y) M g 0 (i 0) k * laid w k (i 1) := by
  have b0 : (i 0 : ℕ) < 34816 := (i 0).isLt
  have b1 : (i 1 : ℕ) < 10240 := (i 1).isLt
  pointwise [val_main_v65, val_main_v64]
  split
  · pointwise [val_main_v58]
    refine kept x y M g w _ _ _ _ _ ?_ ?_ <;> dsimp only <;> omega
  split
  · pointwise [val_main_v59]
    refine kept x y M g w _ _ _ _ _ ?_ ?_ <;> dsimp only <;> omega
  split
  · pointwise [val_main_v60, val_main_cst_7]
    refine (Finset.sum_eq_zero fun k _ => ?_).symm
    rw [laid_empty w k _ (by omega)]
    exact mul_zero _
  split
  · pointwise [val_main_v61]
    refine kept x y M g w _ _ _ _ _ ?_ ?_ <;> dsimp only <;> omega
  split
  · pointwise [val_main_v62]
    refine kept x y M g w _ _ _ _ _ ?_ ?_ <;> dsimp only <;> omega
  pointwise [val_main_v63]
  refine kept x y M g w _ _ _ _ _ ?_ ?_ <;> dsimp only <;> omega

end Cert.Reference2Ideal.Hand

end
-- ==== Proof.UpRef.lean ====
/- The reference of the first feed-forward matrix, element by element. -/
module

public import proofs.«01_k».proof.Proof.Gen.Reference3Ideal.Read
public import proofs.«01_k».proof.Proof.Norm

@[expose] public section

set_option maxRecDepth 16384

noncomputable section

namespace Cert.Reference3Ideal.Hand

open Idealize.ShloMosaic Cert.Reference3Ideal Cert.Reference3Ideal.Gen Cert.Reference3Ideal.Read Cert.Norm

variable (A : FVec Ideal S8x4352x1024 .f32) (M : FVec Ideal S16x6144 .f32) (g : FVec Ideal S1024 .f32)
  (w : FVec Ideal S1024x5632 .f32)

/-- The reference's normalised, modulated tokens. -/
theorem lat (i : S8x4096x1024.Idx) : val_main_v37 (F := Ideal) A M g i = moved A M g 3 (4352 * (i 0 : ℕ) + 256 + i 1) (i 2) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_v20, val_main_v21, val_main_cst_0, val_main_v22, val_main_v23, val_main_cst_1, val_main_v24, val_main_v25, val_main_v26, val_main_v27, val_main_v28, val_main_v29, val_main_v30, val_main_v31, val_main_cst_2, val_main_v32, val_main_v33, val_main_v34, val_main_v35, val_main_v36, val_main_v37, val_main_v38, val_main_cst_3, val_main_v39, val_main_v40, val_main_cst_4, val_main_v41, val_main_v42, val_main_cst_5, val_main_v43, val_main_v44, val_main_v45, val_main_v46, val_main_v47, val_main_v48, val_main_v49, val_main_v50, val_main_cst_6, val_main_v51, val_main_v52, val_main_v53, val_main_v54, val_main_v55, val_main_v56]
  have b0 : (i 0 : ℕ) < 8 := (i 0).isLt
  have b1 : (i 1 : ℕ) < 4096 := (i 1).isLt
  have e : mrow ((4352 * (i 0 : ℕ) + 256 + i 1) / 256) = i 0 := by
    unfold mrow
    rw [if_neg (by omega)]
    omega
  refine moved_eq A M g 3 _ (i 2) (fun d => A (ix3 (i 0) ⟨256 + (i 1 : ℕ), by omega⟩ d)) _ _ (fun d => tok_eq A _ d _ ?_ rfl)
    (part_eq M _ _ _ _ e.symm rfl) (part_eq M _ _ _ _ e.symm rfl)
  exact (Nat.add_assoc _ _ _).symm

/-- The reference's normalised, modulated context. -/
theorem ctx (i : S8x256x1024.Idx) : val_main_v56 (F := Ideal) A M g i = moved A M g 3 (4352 * (i 0 : ℕ) + i 1) (i 2) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_v20, val_main_v21, val_main_cst_0, val_main_v22, val_main_v23, val_main_cst_1, val_main_v24, val_main_v25, val_main_v26, val_main_v27, val_main_v28, val_main_v29, val_main_v30, val_main_v31, val_main_cst_2, val_main_v32, val_main_v33, val_main_v34, val_main_v35, val_main_v36, val_main_v37, val_main_v38, val_main_cst_3, val_main_v39, val_main_v40, val_main_cst_4, val_main_v41, val_main_v42, val_main_cst_5, val_main_v43, val_main_v44, val_main_v45, val_main_v46, val_main_v47, val_main_v48, val_main_v49, val_main_v50, val_main_cst_6, val_main_v51, val_main_v52, val_main_v53, val_main_v54, val_main_v55, val_main_v56]
  have b0 : (i 0 : ℕ) < 8 := (i 0).isLt
  have b1 : (i 1 : ℕ) < 256 := (i 1).isLt
  have e : mrow ((4352 * (i 0 : ℕ) + i 1) / 256) = 8 := by
    unfold mrow
    rw [if_pos (by omega)]
  exact moved_eq A M g 3 _ (i 2) (fun d => A (ix3 (i 0) ⟨(i 1 : ℕ), by omega⟩ d)) _ _ (fun d => tok_eq A _ d _ rfl rfl)
    (part_eq M _ _ _ _ e.symm rfl) (part_eq M _ _ _ _ e.symm rfl)

/-- The product of every normalised, modulated token with the first feed-forward matrix. -/
theorem whole (i : S34816x5632.Idx) :
    val_main_v60 (F := Ideal) A M g w i = ∑ k : Fin 1024, moved A M g 3 (i 0) k * w (ix2 k (i 1)) := by
  have b0 : (i 0 : ℕ) < 34816 := (i 0).isLt
  have b1 : (i 1 : ℕ) < 5632 := (i 1).isLt
  pointwise [val_main_v60, val_main_v59]
  split
  · pointwise [val_main_v57]
    refine Finset.sum_congr rfl fun k _ => ?_
    refine congrArg₂ (fun a b : EReal => a * b) ((ctx A M g _).trans ?_) rfl
    exact congrArg (fun n => moved A M g 3 n k) (show 4352 * ((i 0 : ℕ) / 4352) + (i 0 : ℕ) % 4352 = i 0 by omega)
  · pointwise [val_main_v58]
    refine Finset.sum_congr rfl fun k _ => ?_
    refine congrArg₂ (fun a b : EReal => a * b) ((lat A M g _).trans ?_) rfl
    exact congrArg (fun n => moved A M g 3 n k)
      (show 4352 * ((i 0 : ℕ) / 4352) + 256 + ((i 0 : ℕ) % 4352 - 256) = i 0 by omega)

end Cert.Reference3Ideal.Hand

end
-- ==== Proof.Conv.lean ====
/- The second half of the feed-forward part: a convolution over three positions, the gate, the matrix, the normalised result
   on the residual. The value both programs' results are shown to have. -/
module

public import proofs.«01_k».proof.Proof.Norm

@[expose] public section

set_option maxRecDepth 16384

noncomputable section

namespace Cert.Conv

open Idealize.ShloMosaic Cert.Norm

/-- The first matrix's result; the convolution's weights; the second matrix. -/
abbrev SZ : Shape := ⟨3, ![8, 4352, 5632]⟩
abbrev SC : Shape := ⟨2, ![3, 5632]⟩
abbrev SD : Shape := ⟨2, ![2816, 1024]⟩

/-- The entry of sequence `b`, position `p`, channel `c`. -/
def entry (Z : SZ.Idx → EReal) (b p c : ℕ) : EReal :=
  Z (ix3 ⟨b % 8, Nat.mod_lt _ (by norm_num)⟩ ⟨p % 4352, Nat.mod_lt _ (by norm_num)⟩ ⟨c % 5632, Nat.mod_lt _ (by norm_num)⟩)

/-- The weight of channel `c` for the `j`-th of the three positions. -/
def tap (w : SC.Idx → EReal) (j : Fin 3) (c : ℕ) : EReal := w (ix2 j ⟨c % 5632, Nat.mod_lt _ (by norm_num)⟩)

/-- The convolution, with zeros beyond the ends of the context (positions 0 to 255) and of the sequence. -/
def conv (Z : SZ.Idx → EReal) (w : SC.Idx → EReal) (b p c : ℕ) : EReal :=
  (if p = 0 ∨ p = 256 then 0 else entry Z b (p - 1) c) * tap w 0 c + entry Z b p c * tap w 1 c
    + (if p = 255 ∨ p = 4351 then 0 else entry Z b (p + 1) c) * tap w 2 c

/-- The second matrix applied to the gated channels. -/
def down (Z : SZ.Idx → EReal) (w : SC.Idx → EReal) (D : SD.Idx → EReal) (b p : ℕ) (k : Fin 1024) : EReal :=
  ∑ c : Fin 2816, conv Z w b p c * Ideal.logistic (conv Z w b p c) * conv Z w b p (2816 + c) * D (ix2 c k)

/-- The residual with the normalised result, scaled by the modulation's last part. -/
def result (A : SA.Idx → EReal) (Z : SZ.Idx → EReal) (w : SC.Idx → EReal) (M : SM.Idx → EReal) (g : SG.Idx → EReal)
    (D : SD.Idx → EReal) (i : SA.Idx) : EReal :=
  A i + part M 5 (4352 * (i 0 : ℕ) + i 1) (i 2)
    * (down Z w D (i 0) (i 1) (i 2) * rinv (down Z w D (i 0) (i 1)) * g (ix1 (i 2)))

theorem entry_eq (Z : SZ.Idx → EReal) (b p c : ℕ) (i : SZ.Idx) (h0 : (i 0 : ℕ) = b) (h1 : (i 1 : ℕ) = p) (h2 : (i 2 : ℕ) = c) :
    Z i = entry Z b p c := by
  have b0 : (i 0 : ℕ) < 8 := (i 0).isLt
  have b1 : (i 1 : ℕ) < 4352 := (i 1).isLt
  have b2 : (i 2 : ℕ) < 5632 := (i 2).isLt
  refine congrArg Z (funext fun a => Fin.ext ?_)
  match a with
  | ⟨0, _⟩ =>
    show (i 0 : ℕ) = b % 8
    omega
  | ⟨1, _⟩ =>
    show (i 1 : ℕ) = p % 4352
    omega
  | ⟨2, _⟩ =>
    show (i 2 : ℕ) = c % 5632
    omega

theorem tap_eq (w : SC.Idx → EReal) (j : Fin 3) (c : ℕ) (i : SC.Idx) (h0 : (i 0 : ℕ) = j) (h1 : (i 1 : ℕ) = c) :
    w i = tap w j c := by
  have b1 : (i 1 : ℕ) < 5632 := (i 1).isLt
  refine congrArg w (funext fun a => Fin.ext ?_)
  match a with
  | ⟨0, _⟩ => exact h0
  | ⟨1, _⟩ =>
    show (i 1 : ℕ) = c % 5632
    omega

end Cert.Conv

end
-- ==== Proof.Tail.lean ====
/- The second half of the feed-forward part: what each grid point leaves in its block. -/
module

public import proofs.«01_k».proof.Proof.Gen.Kernel4Ideal.Value
public import Idealize.ShloMosaic.Lib.Pipeline.ValueKit
public import proofs.«01_k».proof.Proof.Conv
public import Idealize.ShloMosaic.Lib.Pointwise

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.Kernel4Ideal.Facts Cert.Norm Cert.Conv

variable (m : (ℓ : Loc nD τ sig) → Buf (Elt Ideal) ℓ)

abbrev argA (c : Dev nD) : FVec Ideal S8x4352x1024 .f32 := m ((c : Thread nD τ).loc main_arg0)
abbrev argZ (c : Dev nD) : FVec Ideal S8x4352x5632 .f32 := m ((c : Thread nD τ).loc main_arg1)
abbrev argC (c : Dev nD) : FVec Ideal S3x5632 .f32 := m ((c : Thread nD τ).loc main_arg2)
abbrev argM (c : Dev nD) : FVec Ideal S16x6144 .f32 := m ((c : Thread nD τ).loc main_arg3)
abbrev argG (c : Dev nD) : FVec Ideal S1024 .f32 := m ((c : Thread nD τ).loc main_arg4)
abbrev argD (c : Dev nD) : FVec Ideal S2816x1024 .f32 := m ((c : Thread nD τ).loc main_arg5)

theorem idx : ∀ t : Fin cfg0.N, win0_0.index t = ![t.val / 17, t.val % 17, 0] ∧ win0_1.index t = ![t.val / 17, t.val % 17, 0]
    ∧ win0_2.index t = ![t.val / 17, 32 * (t.val % 17) - 1, 0] ∧ win0_3.index t = ![t.val / 17, min (32 * (t.val % 17 + 1)) 543, 0]
    ∧ win0_4.index t = ![0, 0] ∧ win0_5.index t = ![mrow t.val, 0, 0]
    ∧ win0_6.index t = ![0, 0] ∧ win0_7.index t = ![0, 0] ∧ win0_8.index t = ![t.val / 17, t.val % 17, 0] :=
  (by decide +kernel : ∀ t : Fin grid0.N, _)

theorem coord_one : ∀ t : Fin cfg0.N, (grid0.coords t 1).val = t.val % 17 :=
  (by decide +kernel : ∀ t : Fin grid0.N, _)

theorem point_lt (t : Fin cfg0.N) : t.val < 136 := lt_of_lt_of_eq t.isLt N_0

theorem a_read (c : Dev nD) (t : Fin cfg0.N) (x : S1x256x1024.Idx) (i : S8x4352x1024.Idx) (h0 : (i 0 : ℕ) = t.val / 17)
    (h1 : (i 1 : ℕ) = 256 * (t.val % 17) + x 1) (h2 : (i 2 : ℕ) = x 2) :
    (show FVec Ideal S1x256x1024 .f32 from iblk m c 0 t) x = argA m c i := by
  blk_point [iblk, V, idx t]

theorem z_read (c : Dev nD) (t : Fin cfg0.N) (x : S1x256x5632.Idx) (i : S8x4352x5632.Idx) (h0 : (i 0 : ℕ) = t.val / 17)
    (h1 : (i 1 : ℕ) = 256 * (t.val % 17) + x 1) (h2 : (i 2 : ℕ) = x 2) :
    (show FVec Ideal S1x256x5632 .f32 from iblk m c 1 t) x = argZ m c i := by
  blk_point [iblk, V, idx t]

theorem prev_read (c : Dev nD) (t : Fin cfg0.N) (x : S1x8x5632.Idx) (i : S8x4352x5632.Idx) (h0 : (i 0 : ℕ) = t.val / 17)
    (h1 : (i 1 : ℕ) = 8 * (32 * (t.val % 17) - 1) + x 1) (h2 : (i 2 : ℕ) = x 2) :
    (show FVec Ideal S1x8x5632 .f32 from iblk m c 2 t) x = argZ m c i := by
  blk_point [iblk, V, idx t]

theorem next_read (c : Dev nD) (t : Fin cfg0.N) (x : S1x8x5632.Idx) (i : S8x4352x5632.Idx) (h0 : (i 0 : ℕ) = t.val / 17)
    (h1 : (i 1 : ℕ) = 8 * min (32 * (t.val % 17 + 1)) 543 + x 1) (h2 : (i 2 : ℕ) = x 2) :
    (show FVec Ideal S1x8x5632 .f32 from iblk m c 3 t) x = argZ m c i := by
  blk_point [iblk, V, idx t]

theorem c_read (c : Dev nD) (t : Fin cfg0.N) (x : S3x5632.Idx) : (show FVec Ideal S3x5632 .f32 from iblk m c 4 t) x = argC m c x := by
  blk_point [iblk, V, idx t]

theorem m_read (c : Dev nD) (t : Fin cfg0.N) (x : S1x6x1024.Idx) (i : S16x6144.Idx) (h0 : (i 0 : ℕ) = mrow t.val)
    (h1 : (i 1 : ℕ) = 1024 * x 1 + x 2) : (show FVec Ideal S1x6x1024 .f32 from iblk m c 5 t) x = argM m c i := by
  blk_point [iblk, V, idx t]

theorem g_read (c : Dev nD) (t : Fin cfg0.N) (x : S1x1024.Idx) (i : S1024.Idx) (h : (i 0 : ℕ) = x 1) :
    (show FVec Ideal S1x1024 .f32 from iblk m c 6 t) x = argG m c i := by
  blk_point [iblk, V, idx t]

theorem d_read (c : Dev nD) (t : Fin cfg0.N) (x : S2816x1024.Idx) :
    (show FVec Ideal S2816x1024 .bf16 from iblk m c 7 t) x = argD m c x := by
  blk_point [iblk, V, idx t]

/-- A choice by a row's being the first or the last. -/
theorem select_row (n : Fin 256) (k : ℕ) (hk : k = 0 ∨ k = 255) (a b : EReal) :
    Scalar.select (IntOp.cmpi .eq (BitVec.ofNat 32 n) (BitVec.ofNat 32 k)) a b = if (n : ℕ) = k then a else b := by
  have h : ∀ n : Fin 256, IntOp.cmpi .eq (BitVec.ofNat 32 n) (BitVec.ofNat 32 0) = (if (n : ℕ) = 0 then 1#1 else 0#1)
      ∧ IntOp.cmpi .eq (BitVec.ofNat 32 n) (BitVec.ofNat 32 255) = (if (n : ℕ) = 255 then 1#1 else 0#1) := by
    decide +kernel
  have e : IntOp.cmpi .eq (BitVec.ofNat 32 n) (BitVec.ofNat 32 k) = if (n : ℕ) = k then 1#1 else 0#1 := by
    rcases hk with rfl | rfl
    · exact (h n).1
    · exact (h n).2
  rw [e]
  by_cases e : (n : ℕ) = k
  · rw [if_pos e, if_pos e]
    rfl
  · rw [if_neg e, if_neg e]
    rfl

/-- A choice by an index's equality with one of two numbers. -/
theorem select_tile (n j k : ℕ) (hn : n < 17) (hj : j < 17) (hk : k < 17) (a b : EReal) :
    Scalar.select (Scalar.ori (Scalar.cmpi .eq (BitVec.ofNat 32 n) (BitVec.ofNat 32 j))
      (Scalar.cmpi .eq (BitVec.ofNat 32 n) (BitVec.ofNat 32 k))) a b = if n = j ∨ n = k then a else b := by
  have h : ∀ n j k : Fin 17, Scalar.ori (Scalar.cmpi .eq (BitVec.ofNat 32 n) (BitVec.ofNat 32 j))
      (Scalar.cmpi .eq (BitVec.ofNat 32 n) (BitVec.ofNat 32 k)) = if (n : ℕ) = j ∨ (n : ℕ) = k then 1#1 else 0#1 := by
    decide +kernel
  rw [h ⟨n, hn⟩ ⟨j, hj⟩ ⟨k, hk⟩]
  by_cases e : n = j ∨ n = k
  · rw [if_pos e, if_pos e]
    rfl
  · rw [if_neg e, if_neg e]
    rfl

theorem tile (i : grid0.Coords) (z pz nz w0 w1 w2) (r : Fin 256) (k : Fin 2816) :
    k0_pay4 (F := Ideal) (k0_pay1 z) (k0_pay2 i z nz) (k0_pay3 i z pz w0) w1 w2 (ix2 r k)
      = (if (r : ℕ) = 0 then if (i 1 : ℕ) = 0 ∨ (i 1 : ℕ) = 1 then 0 else pz (ix3 0 0 k)
          else z (ix3 0 ⟨((r : ℕ) + 256 - 1) % 256, Nat.mod_lt _ (by norm_num)⟩ k)) * w0 (ix2 0 k)
        + z (ix3 0 r k) * w1 (ix2 0 k)
        + (if (r : ℕ) = 255 then if (i 1 : ℕ) = 0 ∨ (i 1 : ℕ) = 16 then 0 else nz (ix3 0 0 k)
          else z (ix3 0 ⟨((r : ℕ) + 256 - 255) % 256, Nat.mod_lt _ (by norm_num)⟩ k)) * w2 (ix2 0 k) := by
  have hi : (i 1 : ℕ) < 17 := (i 1).isLt
  pointwise [k0_pay4, k0_pay1, k0_pay2, k0_pay3]
  rw [select_row r 0 (Or.inl rfl), select_row r 255 (Or.inr rfl), select_tile _ 0 1 hi (by norm_num) (by norm_num),
    select_tile _ 0 16 hi (by norm_num) (by norm_num)]

/-- The convolution's tile, from column `q` on. -/
theorem conv_tile (c : Dev nD) (t : Fin cfg0.N) (q : ℕ) (hz hp hn h0 h1 h2) (r : Fin 256) (k : Fin 2816) :
    k0_pay4 (F := Ideal) (k0_pay1 (View.ld (iblk m c 1 t) (Rect.unit ![0, 0, q] ![1, 256, 2816] hz)))
      (k0_pay2 (grid0.coords t) (View.ld (iblk m c 1 t) (Rect.unit ![0, 0, q] ![1, 256, 2816] hz))
        (View.ld (iblk m c 3 t) (Rect.unit ![0, 0, q] ![1, 1, 2816] hn)))
      (k0_pay3 (grid0.coords t) (View.ld (iblk m c 1 t) (Rect.unit ![0, 0, q] ![1, 256, 2816] hz))
        (View.ld (iblk m c 2 t) (Rect.unit ![0, 7, q] ![1, 1, 2816] hp))
        (View.ld (iblk m c 4 t) (Rect.unit ![0, q] ![1, 2816] h0)))
      (View.ld (iblk m c 4 t) (Rect.unit ![1, q] ![1, 2816] h1)) (View.ld (iblk m c 4 t) (Rect.unit ![2, q] ![1, 2816] h2)) (ix2 r k)
      = conv (argZ m c) (argC m c) (t.val / 17) (256 * (t.val % 17) + r) (q + k) := by
  have hq : q + 2816 ≤ 5632 := hz 2
  have ht := point_lt t
  have hr := r.isLt
  have hk := k.isLt
  have Z : ∀ (s : Fin 256) (p : ℕ), p = 256 * (t.val % 17) + s →
      (show FVec Ideal S1x256x2816 .f32 from View.ld (iblk m c 1 t) (Rect.unit ![0, 0, q] ![1, 256, 2816] hz)) (ix3 0 s k)
        = entry (argZ m c) (t.val / 17) p (q + k) := by
    rintro s p rfl
    have hs := s.isLt
    refine Eq.trans ?_ ((z_read m c t (ix3 0 s ⟨q + k, by omega⟩) (ix3 ⟨t.val / 17, by omega⟩ ⟨256 * (t.val % 17) + s, by omega⟩
      ⟨q + k, by omega⟩) rfl rfl rfl).trans (entry_eq _ _ _ _ _ rfl rfl rfl))
    pointwise []
    blk_ext
  have P : ¬(t.val % 17 = 0 ∨ t.val % 17 = 1) →
      (show FVec Ideal S1x1x2816 .f32 from View.ld (iblk m c 2 t) (Rect.unit ![0, 7, q] ![1, 1, 2816] hp)) (ix3 0 0 k)
        = entry (argZ m c) (t.val / 17) (256 * (t.val % 17) - 1) (q + k) := by
    intro h
    refine Eq.trans ?_ ((prev_read m c t (ix3 0 7 ⟨q + k, by omega⟩) (ix3 ⟨t.val / 17, by omega⟩ ⟨256 * (t.val % 17) - 1, by omega⟩
      ⟨q + k, by omega⟩) rfl (show 256 * (t.val % 17) - 1 = 8 * (32 * (t.val % 17) - 1) + 7 by omega) rfl).trans (entry_eq _ _ _ _ _ rfl rfl rfl))
    pointwise []
    blk_ext
  have N : ¬(t.val % 17 = 0 ∨ t.val % 17 = 16) →
      (show FVec Ideal S1x1x2816 .f32 from View.ld (iblk m c 3 t) (Rect.unit ![0, 0, q] ![1, 1, 2816] hn)) (ix3 0 0 k)
        = entry (argZ m c) (t.val / 17) (256 * (t.val % 17) + 256) (q + k) := by
    intro h
    refine Eq.trans ?_ ((next_read m c t (ix3 0 0 ⟨q + k, by omega⟩) (ix3 ⟨t.val / 17, by omega⟩ ⟨256 * (t.val % 17) + 256, by omega⟩
      ⟨q + k, by omega⟩) rfl (show 256 * (t.val % 17) + 256 = 8 * min (32 * (t.val % 17 + 1)) 543 + 0 by omega) rfl).trans (entry_eq _ _ _ _ _ rfl rfl rfl))
    pointwise []
    blk_ext
  have C : ∀ (j : Fin 3) (h), (show FVec Ideal S1x2816 .f32 from View.ld (iblk m c 4 t) (Rect.unit ![(j : ℕ), q] ![1, 2816] h)) (ix2 0 k)
        = tap (argC m c) j (q + k) := by
    intro j h
    refine Eq.trans ?_ ((c_read m c t (ix2 j ⟨q + k, by omega⟩)).trans (tap_eq _ _ _ _ rfl rfl))
    pointwise []
    blk_ext
  rw [tile, coord_one]
  unfold conv
  refine congrArg₂ (fun a b : EReal => a + b) (congrArg₂ (fun a b : EReal => a + b) (congrArg₂ (fun a b : EReal => a * b) ?_ (C 0 h0))
    (congrArg₂ (fun a b : EReal => a * b) (Z r _ rfl) (C 1 h1))) (congrArg₂ (fun a b : EReal => a * b) ?_ (C 2 h2))
  · by_cases e : (r : ℕ) = 0
    · rw [if_pos e]
      by_cases h : t.val % 17 = 0 ∨ t.val % 17 = 1
      · rw [if_pos h, if_pos (by omega)]
      · rw [if_neg h, if_neg (by omega)]
        exact (P h).trans (congrArg (fun p => entry (argZ m c) (t.val / 17) p (q + k)) (by omega))
    · rw [if_neg e, if_neg (by omega)]
      exact Z _ _ (by dsimp only; omega)
  · by_cases e : (r : ℕ) = 255
    · rw [if_pos e]
      by_cases h : t.val % 17 = 0 ∨ t.val % 17 = 16
      · rw [if_pos h, if_pos (by omega)]
      · rw [if_neg h, if_neg (by omega)]
        exact (N h).trans (congrArg (fun p => entry (argZ m c) (t.val / 17) p (q + k)) (by omega))
    · rw [if_neg e, if_neg (by omega)]
      exact Z _ _ (by dsimp only; omega)

theorem pay8 (z0 z1 z2 z3 z4 z5 W g a s) (x : S1x256x1024.Idx) :
    k0_pay8 (F := Ideal) z0 z1 z2 z3 z4 z5 W g a s x
      = a x + s (ix3 0 0 (x 2)) * ((∑ k : Fin 2816, z0 (ix2 (x 1) k) * Ideal.logistic (z0 (ix2 (x 1) k))
            * k0_pay4 (F := Ideal) z1 z2 z3 z4 z5 (ix2 (x 1) k) * W (ix2 k (x 2)))
          * rinv (fun d => ∑ k : Fin 2816, z0 (ix2 (x 1) k) * Ideal.logistic (z0 (ix2 (x 1) k))
            * k0_pay4 (F := Ideal) z1 z2 z3 z4 z5 (ix2 (x 1) k) * W (ix2 k d)) * g (ix2 0 (x 2))) := by
  unfold rinv
  pointwise [k0_pay8, k0_pay4]

/-- The body's result, from what it reads. -/
theorem body (z0 z1 z2 z3 z4 z5 W g a s) (x : S1x256x1024.Idx) (Z : SZ.Idx → EReal) (w : SC.Idx → EReal) (D : SD.Idx → EReal)
    (b p : ℕ) (A M G : EReal) (hg : ∀ k : Fin 2816, z0 (ix2 (x 1) k) = conv Z w b p k)
    (hv : ∀ k : Fin 2816, k0_pay4 (F := Ideal) z1 z2 z3 z4 z5 (ix2 (x 1) k) = conv Z w b p (2816 + k))
    (hW : ∀ (k : Fin 2816) (d : Fin 1024), W (ix2 k d) = D (ix2 k d)) (ha : a x = A) (hs : s (ix3 0 0 (x 2)) = M)
    (hG : g (ix2 0 (x 2)) = G) :
    k0_pay8 (F := Ideal) z0 z1 z2 z3 z4 z5 W g a s x = A + M * (down Z w D b p (x 2) * rinv (down Z w D b p) * G) := by
  rw [pay8, ha, hs, hG]
  have e : ∀ d : Fin 1024, (∑ k : Fin 2816, z0 (ix2 (x 1) k) * Ideal.logistic (z0 (ix2 (x 1) k))
      * k0_pay4 (F := Ideal) z1 z2 z3 z4 z5 (ix2 (x 1) k) * W (ix2 k d)) = down Z w D b p d := fun d =>
    Finset.sum_congr rfl fun k _ => by rw [hg, hv, hW]
  exact congrArg (fun r => A + M * r) (congrArg (fun r => r * G) (congrArg₂ (fun r q : EReal => r * q) (e (x 2)) (congrArg rinv (funext e))))

theorem at_zero (c : Dev nD) (t : Fin cfg0.N) (r : Fin 256) (k : Fin 2816) (b p : ℕ) (hb : b = t.val / 17)
    (hp : p = 256 * (t.val % 17) + r) :
    k0_pay4 (F := Ideal) (k0_pay1 (View.ld (iblk m c 1 t) r0_0))
      (k0_pay2 (grid0.coords t) (View.ld (iblk m c 1 t) r0_0) (View.ld (iblk m c 3 t) r0_2))
      (k0_pay3 (grid0.coords t) (View.ld (iblk m c 1 t) r0_0) (View.ld (iblk m c 2 t) r0_1) (View.ld (iblk m c 4 t) r0_3))
      (View.ld (iblk m c 4 t) r0_4) (View.ld (iblk m c 4 t) r0_5) (ix2 r k)
      = conv (argZ m c) (argC m c) b p k := by
  subst hb hp
  refine (conv_tile m c t 0 inb_S1x256x5632_S1x256x2816_0_0_0 inb_S1x8x5632_S1x1x2816_0_7_0 inb_S1x8x5632_S1x1x2816_0_0_0
        inb_S3x5632_S1x2816_0_0 inb_S3x5632_S1x2816_1_0 inb_S3x5632_S1x2816_2_0 r k).trans ?_
  rw [Nat.zero_add]

theorem at_half (c : Dev nD) (t : Fin cfg0.N) (r : Fin 256) (k : Fin 2816) (b p : ℕ) (hb : b = t.val / 17)
    (hp : p = 256 * (t.val % 17) + r) :
    k0_pay4 (F := Ideal) (k0_pay5 (View.ld (iblk m c 1 t) r0_6))
      (k0_pay6
        (Scalar.ori (Scalar.cmpi .eq (BitVec.ofNat 32 (grid0.coords t 1)) 0#32)
          (Scalar.cmpi .eq (BitVec.ofNat 32 (grid0.coords t 1)) 16#32))
        (iota Kind.tc S256x1 32 [0] iota_S256x1_d0_w32) (View.ld (iblk m c 1 t) r0_6) (View.ld (iblk m c 3 t) r0_8))
      (k0_pay7
        (Scalar.ori (Scalar.cmpi .eq (BitVec.ofNat 32 (grid0.coords t 1)) 0#32)
          (Scalar.cmpi .eq (BitVec.ofNat 32 (grid0.coords t 1)) 1#32))
        (iota Kind.tc S256x1 32 [0] iota_S256x1_d0_w32) (View.ld (iblk m c 1 t) r0_6) (View.ld (iblk m c 2 t) r0_7)
        (View.ld (iblk m c 4 t) r0_9))
      (View.ld (iblk m c 4 t) r0_10) (View.ld (iblk m c 4 t) r0_11) (ix2 r k)
      = conv (argZ m c) (argC m c) b p (2816 + k) := by
  subst hb hp
  exact conv_tile m c t 2816 inb_S1x256x5632_S1x256x2816_0_0_2816 inb_S1x8x5632_S1x1x2816_0_7_2816
        inb_S1x8x5632_S1x1x2816_0_0_2816 inb_S3x5632_S1x2816_0_2816 inb_S3x5632_S1x2816_1_2816 inb_S3x5632_S1x2816_2_2816 r k

theorem ld_d (c : Dev nD) (t : Fin cfg0.N) (k : Fin 2816) (d : Fin 1024) :
    (show FVec Ideal S2816x1024 .bf16 from View.ld (iblk m c 7 t) r0_12) (ix2 k d) = argD m c (ix2 k d) := by
  refine Eq.trans ?_ (d_read m c t (ix2 k d))
  pointwise []
  blk_ext

theorem ld_a (c : Dev nD) (t : Fin cfg0.N) (x : S1x256x1024.Idx) (i : S8x4352x1024.Idx) (h0 : (i 0 : ℕ) = t.val / 17)
    (h1 : (i 1 : ℕ) = 256 * (t.val % 17) + x 1) (h2 : (i 2 : ℕ) = x 2) :
    (show FVec Ideal S1x256x1024 .f32 from View.ld (iblk m c 0 t) r0_14) x = argA m c i := by
  refine Eq.trans ?_ (a_read m c t x i h0 h1 h2)
  pointwise []
  blk_ext

theorem ld_m (c : Dev nD) (t : Fin cfg0.N) (k : Fin 1024) (n : ℕ) (hn : n / 256 = t.val) :
    (show FVec Ideal S1x1x1024 .f32 from View.ld (iblk m c 5 t) r0_15) (ix3 0 0 k) = part (argM m c) 5 n k := by
  have ht := point_lt t
  have hk := k.isLt
  refine Eq.trans ?_ ((m_read m c t (ix3 0 5 k) (ix2 ⟨mrow t.val, ?_⟩ ⟨1024 * 5 + k, by omega⟩) rfl rfl).trans
    (part_eq (argM m c) 5 n k _ ?_ rfl))
  · pointwise []
    blk_ext
  · unfold mrow
    split <;> omega
  · rw [hn]
    rfl

theorem ld_g (c : Dev nD) (t : Fin cfg0.N) (k : Fin 1024) :
    (show FVec Ideal S1x1024 .f32 from View.ld (iblk m c 6 t) r0_13) (ix2 0 k) = argG m c (ix1 k) := by
  refine Eq.trans ?_ (g_read m c t (ix2 0 k) (ix1 k) rfl)
  pointwise []
  blk_ext

/-- Each grid point's block is the result's block. -/
theorem block (c : Dev nD) (t : Fin cfg0.N) (y : S1x256x1024.Idx) (i : S8x4352x1024.Idx) (e0 : (i 0 : ℕ) = t.val / 17)
    (e1 : (i 1 : ℕ) = 256 * (t.val % 17) + y 1) (e2 : (i 2 : ℕ) = y 2) :
    (show FVec Ideal S1x256x1024 .f32 from (dats m 0 c).after 8 t) y = result (argA m c) (argZ m c) (argC m c) (argM m c) (argG m c) (argD m c) i := by
  have ht := point_lt t
  rw [after0_8]
  unfold_out out0_8
  canon_tiles x h
  have hi : i 2 = x 2 := Fin.ext (e2.trans h2)
  unfold result
  rw [hi]
  have ep : (i 1 : ℕ) = 256 * (t.val % 17) + x 1 := e1.trans (congrArg _ h1)
  exact body _ _ _ _ _ _ _ _ _ _ x (argZ m c) (argC m c) (argD m c) (i 0) (i 1) _ _ _ (fun k => at_zero m c t (x 1) k _ _ e0 ep)
    (fun k => at_half m c t (x 1) k _ _ e0 ep) (fun k d => ld_d m c t k d) (ld_a m c t x i e0 ep (e2.trans h2))
    (ld_m m c t (x 2) _ (by omega)) (ld_g m c t (x 2))

/-- The call's result. -/
theorem final (c : Dev nD) : (dats m 0 c).arrAt 8 cfg0.N
    = result (argA m c) (argZ m c) (argC m c) (argM m c) (argG m c) (argD m c) := by
  refine (dats m 0 c).arrAt_eq_of_covers 8 _ (by decide +kernel) fun t _ y => ?_
  blk_simp
  exact block m c t y _ (by blk_simp [idx t]) (by blk_simp [idx t]; omega) (by blk_simp [idx t])

end Cert.Kernel4Ideal.Hand

end
-- ==== Proof.TailRef.lean ====
/- The reference of the second half of the feed-forward part, element by element. -/
module

public import proofs.«01_k».proof.Proof.Gen.Reference4Ideal.Read
public import proofs.«01_k».proof.Proof.Conv
public import Idealize.ShloMosaic.Lib.Pointwise

@[expose] public section

set_option maxRecDepth 16384

noncomputable section

namespace Cert.Reference4Ideal.Hand

open Idealize.ShloMosaic Cert.Reference4Ideal Cert.Reference4Ideal.Gen Cert.Reference4Ideal.Read Cert.Norm Cert.Conv

variable (A : FVec Ideal S8x4352x1024 .f32) (Z : FVec Ideal S8x4352x5632 .f32) (w : FVec Ideal S3x5632 .f32)
  (M : FVec Ideal S16x6144 .f32) (g : FVec Ideal S1024 .f32) (D : FVec Ideal S2816x1024 .f32)

/-- The padding's value. -/
theorem pad_zero : (FloatOps.sitofp FTy.f32 0#32 : Ideal .f32) = (0 : EReal) := by
  show (((0#32 : BitVec 32).toInt : ℝ) : EReal) = 0
  norm_num

/-- The convolution over the context's own positions. -/
theorem ctx_conv (i : S8x256x5632.Idx) : val_main_v18 (F := Ideal) Z w i = conv Z w (i 0) (i 1) (i 2) := by
  pointwise [val_main_v0, val_main_c, val_main_call0_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18]
  have b0 : (i 0 : ℕ) < 8 := (i 0).isLt
  have b1 : (i 1 : ℕ) < 256 := (i 1).isLt
  have b2 : (i 2 : ℕ) < 5632 := (i 2).isLt
  unfold conv
  refine congrArg₂ (fun a b : EReal => a + b) (congrArg₂ (fun a b : EReal => a + b) (congrArg₂ (fun a b : EReal => a * b) ?_ (tap_eq w _ _ _ rfl rfl))
    (congrArg₂ (fun a b : EReal => a * b) (entry_eq Z _ _ _ _ rfl rfl rfl) (tap_eq w _ _ _ rfl rfl)))
    (congrArg₂ (fun a b : EReal => a * b) ?_ (tap_eq w _ _ _ rfl rfl))
  · by_cases h : (i 1 : ℕ) = 0
    · rw [dif_neg (by omega), if_pos (by omega)]
      exact pad_zero
    · rw [dif_pos (by omega), if_neg (by omega)]
      refine entry_eq Z _ _ _ _ rfl ?_ rfl
      rfl
  · by_cases h : (i 1 : ℕ) = 255
    · rw [dif_neg (by omega), if_pos (by omega)]
      exact pad_zero
    · rw [dif_pos (by omega), if_neg (by omega)]
      refine entry_eq Z _ _ _ _ rfl ?_ rfl
      show 2 + (i 1 : ℕ) - 1 = i 1 + 1
      omega

/-- The convolution over a sequence's own positions. -/
theorem lat_conv (i : S8x4096x5632.Idx) : val_main_v37 (F := Ideal) Z w i = conv Z w (i 0) (256 + (i 1 : ℕ)) (i 2) := by
  pointwise [val_main_c_0, val_main_call1_v0, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37]
  have b0 : (i 0 : ℕ) < 8 := (i 0).isLt
  have b1 : (i 1 : ℕ) < 4096 := (i 1).isLt
  have b2 : (i 2 : ℕ) < 5632 := (i 2).isLt
  unfold conv
  refine congrArg₂ (fun a b : EReal => a + b) (congrArg₂ (fun a b : EReal => a + b) (congrArg₂ (fun a b : EReal => a * b) ?_ (tap_eq w _ _ _ rfl rfl))
    (congrArg₂ (fun a b : EReal => a * b) (entry_eq Z _ _ _ _ rfl rfl rfl) (tap_eq w _ _ _ rfl rfl)))
    (congrArg₂ (fun a b : EReal => a * b) ?_ (tap_eq w _ _ _ rfl rfl))
  · by_cases h : (i 1 : ℕ) = 0
    · rw [dif_neg (by omega), if_pos (by omega)]
      exact pad_zero
    · rw [dif_pos (by omega), if_neg (by omega)]
      refine entry_eq Z _ _ _ _ rfl ?_ rfl
      show 256 + ((i 1 : ℕ) - 1) = 256 + i 1 - 1
      omega
  · by_cases h : (i 1 : ℕ) = 4095
    · rw [dif_neg (by omega), if_pos (by omega)]
      exact pad_zero
    · rw [dif_pos (by omega), if_neg (by omega)]
      refine entry_eq Z _ _ _ _ rfl ?_ rfl
      show 256 + (2 + (i 1 : ℕ) - 1) = 256 + i 1 + 1
      omega

/-- The two segments' convolutions, joined. -/
theorem both_conv (i : S8x4352x5632.Idx) : val_main_v38 (F := Ideal) Z w i = conv Z w (i 0) (i 1) (i 2) := by
  have b1 : (i 1 : ℕ) < 4352 := (i 1).isLt
  pointwise [val_main_v38]
  split
  · refine (ctx_conv Z w _).trans ?_
    rfl
  · refine (lat_conv Z w _).trans ?_
    refine congrArg (fun p => conv Z w (i 0) p (i 2)) ?_
    show 256 + ((i 1 : ℕ) - 256) = i 1
    omega

/-- The second matrix applied to the gated channels. -/
theorem both_down (i : S8x4352x1024.Idx) : val_main_v43 (F := Ideal) Z w D i = down Z w D (i 0) (i 1) (i 2) := by
  pointwise [val_main_v39, val_main_v40, val_main_call2_v0, val_main_call2_v1, val_main_call2_cst, val_main_call2_v2, val_main_call2_v3, val_main_call2_cst_0, val_main_call2_v4, val_main_call2_v5, val_main_v41, val_main_v42, val_main_v43]
  refine Finset.sum_congr rfl fun c _ => ?_
  refine congrArg₂ (fun a b : EReal => a * b) ?_ rfl
  have e := both_conv Z w (ix3 (i 0) (i 1) ⟨(c : ℕ), by have := c.isLt; omega⟩)
  exact congrArg₂ (fun a b : EReal => a * b) (congrArg₂ (fun a b : EReal => a * b) e (congrArg Ideal.logistic e)) (both_conv Z w _)

/-- The modulation's last part, for every token. -/
theorem mod_part (i : S8x4352x1024.Idx) : val_main_v50 (F := Ideal) M i = part M 5 (4352 * (i 0 : ℕ) + i 1) (i 2) := by
  pointwise [val_main_v44, val_main_v45, val_main_v46, val_main_v47, val_main_v48, val_main_v49, val_main_v50]
  have b0 : (i 0 : ℕ) < 8 := (i 0).isLt
  have b1 : (i 1 : ℕ) < 4352 := (i 1).isLt
  split
  · refine part_eq M _ _ _ _ ?_ rfl
    unfold mrow
    rw [if_pos (by omega)]
    rfl
  · refine part_eq M _ _ _ _ ?_ rfl
    unfold mrow
    rw [if_neg (by omega)]
    show (i 0 : ℕ) = _
    omega

/-- The reference's result. -/
theorem whole (i : S8x4352x1024.Idx) : val_main_v65 (F := Ideal) A Z w M g D i = result A Z w M g D i := by
  pointwise [val_main_v51, val_main_cst, val_main_v52, val_main_v53, val_main_cst_1, val_main_v54, val_main_v55, val_main_cst_2, val_main_v56, val_main_v57, val_main_v58, val_main_v59, val_main_v60, val_main_v61, val_main_v62, val_main_v63, val_main_v64, val_main_v65]
  rw [mod_part, both_down]
  unfold result rinv
  refine congrArg (fun r : EReal => A i + part M 5 (4352 * (i 0 : ℕ) + i 1) (i 2) * (down Z w D (i 0) (i 1) (i 2)
    * Ideal.rsqrt (Ideal.div r (Ideal.ofBits .f32 1149239296#32) + Ideal.ofBits .f32 897988541#32) * g (ix1 (i 2)))) ?_
  exact Finset.sum_congr rfl fun d _ => congrArg (fun a : EReal => a * a) (both_down Z w D _)

end Cert.Reference4Ideal.Hand

end
-- ==== Proof.Attn.lean ====
/- The attention call in the form of the second layer, where only the queries after the first 256 tokens are asked. -/
module

public import proofs.«01_k».proof.Proof.Gen.Kernel5Ideal.Value
public import proofs.«01_k».proof.Proof.Block

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Cert.Kernel5Ideal.Facts Cert.Softmax Cert.Spec Cert.KernelIdeal.Hand

variable (m : (ℓ : Loc nD τ sig) → Buf (Elt Ideal) ℓ)

/-- Every tile attends to all seventeen spans. -/
theorem out_lat (c : Dev nD) (t : Fin cfg0.N) (y : S1x256x512.Idx) :
    (show FVec Ideal S1x256x512 .bf16 from (dats m 0 c).after 3 t) y
      = res (qcat (iblk m c 0 t)) (span (iblk m c 1 t)) (span (iblk m c 2 t)) 16
          (ix2 ⟨256 * ((y 2 : ℕ) / 128) + (y 1 : ℕ), row_lt y⟩ ⟨(y 2 : ℕ) % 128, Nat.mod_lt _ (by norm_num)⟩) := by
  rw [after0_3]
  unfold_out out0_3
  canon_tiles x h
  all_goals simp only [ld_head _ 0 0 rfl, ld_head _ 1 128 rfl, ld_head _ 2 256 rfl, ld_head _ 3 384 rfl, ld_span _ 0 0 rfl, ld_span _
    1 256 rfl, ld_span _ 2 512 rfl, ld_span _ 3 768 rfl, ld_span _ 4 1024 rfl, ld_span _ 5 1280 rfl, ld_span _ 6
    1536 rfl, ld_span _ 7 1792 rfl, ld_span _ 8 2048 rfl, ld_span _ 9 2304 rfl, ld_span _ 10 2560 rfl, ld_span _
    11 2816 rfl, ld_span _ 12 3072 rfl, ld_span _ 13 3328 rfl, ld_span _ 14 3584 rfl, ld_span _ 15 3840 rfl,
    ld_span _ 16 4096 rfl]
  case piece0 =>
    change shapeCast S1x256x128 (truncf .bf16 (extractStridedSlice S256x128 ![768, 0]
      (res (qcat (iblk m c 0 t)) (span (iblk m c 1 t)) (span (iblk m c 2 t)) 16) slices_S1024x128_o768_0_S256x128)
      bitsLt_bf16_f32) shapeCasts_S256x128_S1x256x128 x = _
    generalize res (qcat (iblk m c 0 t)) (span (iblk m c 1 t)) (span (iblk m c 2 t)) 16 = R
    pointwise []
    blk_ext
  case piece1 =>
    change shapeCast S1x256x128 (truncf .bf16 (extractStridedSlice S256x128 ![512, 0]
      (res (qcat (iblk m c 0 t)) (span (iblk m c 1 t)) (span (iblk m c 2 t)) 16) slices_S1024x128_o512_0_S256x128)
      bitsLt_bf16_f32) shapeCasts_S256x128_S1x256x128 x = _
    generalize res (qcat (iblk m c 0 t)) (span (iblk m c 1 t)) (span (iblk m c 2 t)) 16 = R
    pointwise []
    blk_ext
  case piece2 =>
    change shapeCast S1x256x128 (truncf .bf16 (extractStridedSlice S256x128 ![256, 0]
      (res (qcat (iblk m c 0 t)) (span (iblk m c 1 t)) (span (iblk m c 2 t)) 16) slices_S1024x128_o256_0_S256x128)
      bitsLt_bf16_f32) shapeCasts_S256x128_S1x256x128 x = _
    generalize res (qcat (iblk m c 0 t)) (span (iblk m c 1 t)) (span (iblk m c 2 t)) 16 = R
    pointwise []
    blk_ext
  case piece3 =>
    change shapeCast S1x256x128 (truncf .bf16 (extractStridedSlice S256x128 ![0, 0]
      (res (qcat (iblk m c 0 t)) (span (iblk m c 1 t)) (span (iblk m c 2 t)) 16) slices_S1024x128_o0_0_S256x128)
      bitsLt_bf16_f32) shapeCasts_S256x128_S1x256x128 x = _
    generalize res (qcat (iblk m c 0 t)) (span (iblk m c 1 t)) (span (iblk m c 2 t)) 16 = R
    pointwise []
    blk_ext

theorem idx : ∀ t : Fin cfg0.N, win0_0.index t = ![t.val / 32, t.val % 16 + 1, t.val / 16 % 2]
    ∧ win0_1.index t = ![t.val / 32, 0, t.val / 16 % 2] ∧ win0_2.index t = ![t.val / 32, 0, t.val / 16 % 2]
    ∧ win0_3.index t = ![t.val / 32, t.val % 16, t.val / 16 % 2] :=
  (by decide +kernel : ∀ t : Fin grid0.N, _)

/-- The arguments: queries, keys and values. -/
abbrev argQ (c : Dev nD) : FVec Ideal SQ .f32 := m ((c : Thread nD τ).loc main_arg0)
abbrev argK (c : Dev nD) : FVec Ideal SK .f32 := m ((c : Thread nD τ).loc main_arg1)
abbrev argV (c : Dev nD) : FVec Ideal SK .f32 := m ((c : Thread nD τ).loc main_arg2)

theorem q_read (c : Dev nD) (t : Fin cfg0.N) (x : S1x256x512.Idx) (i : SQ.Idx)
    (h0 : (i 0 : ℕ) = t.val / 32) (h1 : (i 1 : ℕ) = 256 * (t.val % 16 + 1) + x 1) (h2 : (i 2 : ℕ) = 512 * (t.val / 16 % 2) + x 2) :
    (show FVec Ideal S1x256x512 .bf16 from iblk m c 0 t) x = argQ m c i * ((unit / Real.log 2 : ℝ) : EReal) := by
  rw [← scale_eq]
  blk_point [iblk, V, idx t]

theorem k_read (c : Dev nD) (t : Fin cfg0.N) (x : S1x4352x128.Idx) (i : SK.Idx)
    (h0 : (i 0 : ℕ) = t.val / 32) (h1 : (i 1 : ℕ) = x 1) (h2 : (i 2 : ℕ) = 128 * (t.val / 16 % 2) + x 2) :
    (show FVec Ideal S1x4352x128 .bf16 from iblk m c 1 t) x = argK m c i := by
  blk_point [iblk, V, idx t]

theorem v_read (c : Dev nD) (t : Fin cfg0.N) (x : S1x4352x128.Idx) (i : SK.Idx)
    (h0 : (i 0 : ℕ) = t.val / 32) (h1 : (i 1 : ℕ) = x 1) (h2 : (i 2 : ℕ) = 128 * (t.val / 16 % 2) + x 2) :
    (show FVec Ideal S1x4352x128 .bf16 from iblk m c 2 t) x = argV m c i := by
  blk_point [iblk, V, idx t]

/-- The array the call leaves is the attention of the tokens after the first 256 to all keys. -/
theorem final (c : Dev nD) (hq : Reals (argQ m c)) (hk : Reals (argK m c)) :
    (dats m 0 c).arrAt 3 cfg0.N = later (argQ m c) (argK m c) (argV m c) := by
  refine (dats m 0 c).arrAt_eq_of_covers 3 _ (by decide +kernel) fun t _ y => ?_
  have ht : t.val < 256 := lt_of_lt_of_eq t.isLt N_0
  obtain_idx i : SL := [t.val / 32, 256 * (t.val % 16) + (y 1 : ℕ), 512 * (t.val / 16 % 2) + (y 2 : ℕ)] with hi
  have he : (win0_3.blk t).view.emb y = i := by
    blk_ext [idx t]
  blk_simp
  rw [he]
  refine (out_lat m c t y).trans (tile_attn (argQ m c) (argK m c) (argV m c) hq hk _ _ _ _ _ _ (q_read m c t) (k_read m c t)
    (v_read m c t) y _ hi0 ?_ hi2 16)
  show 256 + (i 1 : ℕ) = _
  omega

end Cert.Kernel5Ideal.Hand

end
-- ==== Proof.AttnRef.lean ====
/- The attention's reference in the form of the second layer: the attention of the tokens after the first 256. -/
module

public import proofs.«01_k».proof.Proof.Gen.Reference5Ideal.Read
public import proofs.«01_k».proof.Proof.RefRow
public import Idealize.ShloMosaic.PureOps.Ideal.Laws
public import Idealize.ShloMosaic.Lib.Pointwise

@[expose] public section

set_option maxRecDepth 16384

noncomputable section

namespace Cert.Reference5Ideal.Hand

open Idealize.ShloMosaic Cert.Reference5Ideal Cert.Reference5Ideal.Gen Cert.Reference5Ideal.Read Cert.Softmax Cert.Spec
open Cert.ReferenceIdeal.Hand (ext3 ext4)

variable (q : FVec Ideal SQ .f32) (k v : FVec Ideal SK .f32)

/-- A score of a query after the first 256 tokens. -/
theorem score_lat (hq : Reals q) (hk : Reals k) (I : S8x2x4x4096x4352.Idx) (i : SQ.Idx) (h0 : (i 0 : ℕ) = I 0)
    (h1 : (i 1 : ℕ) = 256 + (I 3 : ℕ)) (h2 : (i 2 : ℕ) / 128 = 4 * (I 1 : ℕ) + (I 2 : ℕ)) :
    val_main_v7 (F := Ideal) q k I = ((tau q k i (I 4) : ℝ) : EReal) := by
  have b0 : (I 0 : ℕ) < 8 := (I 0).isLt
  have b1 : (I 1 : ℕ) < 2 := (I 1).isLt
  have b2 : (I 2 : ℕ) < 4 := (I 2).isLt
  have b3 : (I 3 : ℕ) < 4096 := (I 3).isLt
  have b4 : (I 4 : ℕ) < 4352 := (I 4).isLt
  rw [val_main_v7_apply, val_main_v5_apply, val_main_v4_apply, val_main_v6_apply, val_main_cst_apply]
  unfold tau
  rw [EReal.coe_mul, ← coe_sum, ← unit_eq]
  refine congrArg (· * _) (Finset.sum_congr rfl fun d _ => ?_)
  have bd : (d : ℕ) < 128 := d.isLt
  rw [val_main_v1_apply, val_main_v3_apply, val_main_v0_apply, EReal.coe_mul, ← hq, ← hk, mul_comm]
  refine congrArg₂ (fun a b : EReal => a * b) (congrArg q (ext3 _ _ ?_ ?_ ?_)) (congrArg k (ext3 _ _ ?_ ?_ ?_))
  all_goals simp only [ix3]
  all_goals omega

/-- Such a query's greatest score is a real. -/
theorem top_lat (hq : Reals q) (hk : Reals k) (J : S8x2x4x4096.Idx) : ∃ μ : ℝ, val_main_v10 (F := Ideal) q k J = (μ : EReal) := by
  have b1 : (J 1 : ℕ) < 2 := (J 1).isLt
  have b2 : (J 2 : ℕ) < 4 := (J 2).isLt
  have b3 : (J 3 : ℕ) < 4096 := (J 3).isLt
  obtain ⟨r, hr⟩ := fold_max_real (Finset.univ : Finset (Fin 4352)) ⟨⟨0, by norm_num⟩, Finset.mem_univ _⟩
    (fun n => tau q k (ix3 (J 0) ⟨256 + (J 3 : ℕ), by omega⟩ ⟨128 * (4 * (J 1 : ℕ) + (J 2 : ℕ)), by omega⟩) n)
  refine ⟨r, ?_⟩
  rw [val_main_v10_apply, val_main_v9_apply, val_main_cst_1_apply, ← hr]
  pointwise [val_main_v8]
  rw [val_main_cst_0_apply, show (FloatOps.ofBits .f32 0xFF800000#32 : Ideal .f32) = ⊥ from bits_bot,
    show Ideal.ofBits .f32 0xFF800000#32 = ⊥ from bits_bot, max_eq_right bot_le]
  refine Finset.fold_congr fun n _ => ?_
  exact score_lat q k hq hk (ix5 (J 0) (J 1) (J 2) (J 3) n) _ rfl rfl (Nat.mul_div_cancel_left _ (by norm_num))

/-- The exponential of such a query's score less the greatest. -/
theorem exp_lat (hq : Reals q) (hk : Reals k) (I : S8x2x4x4096x4352.Idx) (i : SQ.Idx) (h0 : (i 0 : ℕ) = I 0)
    (h1 : (i 1 : ℕ) = 256 + (I 3 : ℕ)) (h2 : (i 2 : ℕ) / 128 = 4 * (I 1 : ℕ) + (I 2 : ℕ)) (J : S8x2x4x4096.Idx)
    (j0 : (I 0 : ℕ) = J 0) (j1 : (I 1 : ℕ) = J 1) (j2 : (I 2 : ℕ) = J 2) (j3 : (I 3 : ℕ) = J 3) (μ : ℝ)
    (hμ : val_main_v10 (F := Ideal) q k J = (μ : EReal)) :
    val_main_v14 (F := Ideal) q k I = Ideal.exp (((tau q k i (I 4) : ℝ) : EReal) - (μ : EReal)) := by
  rw [val_main_v14_apply, val_main_v13_apply, val_main_v12_apply, val_main_v11_apply, score_lat q k hq hk I i h0 h1 h2,
    ext4 (idx_main_v11 (idx_main_v12 I)) J j0 j1 j2 j3, hμ]
  rfl

/-- The weighted sum of such a query is its attention. -/
theorem row_lat (hq : Reals q) (hk : Reals k) (J : S8x2x128x4x4096.Idx) (i : SQ.Idx) (h0 : (i 0 : ℕ) = J 0)
    (h1 : (i 1 : ℕ) = 256 + (J 4 : ℕ)) (h2 : (i 2 : ℕ) = 512 * (J 1 : ℕ) + 128 * (J 3 : ℕ) + (J 2 : ℕ)) :
    val_main_v19 (F := Ideal) q k v J = attn q k v 4352 i := by
  have b0 : (J 0 : ℕ) < 8 := (J 0).isLt
  have b1 : (J 1 : ℕ) < 2 := (J 1).isLt
  have b2 : (J 2 : ℕ) < 128 := (J 2).isLt
  have b3 : (J 3 : ℕ) < 4 := (J 3).isLt
  have h3 : (i 2 : ℕ) / 128 = 4 * (J 1 : ℕ) + (J 3 : ℕ) := by omega
  obtain ⟨μ, hμ⟩ := top_lat q k hq hk (ix4 (J 0) (J 1) (J 3) (J 4))
  rw [val_main_v19_apply]
  unfold attn
  rw [← mean_fin, ← plain _ _ _ μ ⟨⟨0, by norm_num⟩, Finset.mem_univ _⟩]
  refine Finset.sum_congr rfl fun n _ => ?_
  have bn : (n : ℕ) < 4352 := n.isLt
  rw [mul_comm]
  refine congrArg₂ (fun a b : EReal => a * b) ?_ ?_
  · rw [val_main_v18_apply, val_main_v17_apply, val_main_v16_apply, val_main_v15_apply,
      exp_lat q k hq hk (ridx_main_v19 J n) i h0 h1 h3 (ix4 (J 0) (J 1) (J 3) (J 4)) rfl rfl rfl rfl μ hμ]
    refine congrArg (Ideal.div _) ?_
    rw [val_main_cst_2_apply]
    refine (congrArg (· + _) (show (FloatOps.ofBits .f32 0x00000000#32 : Ideal .f32) = (0 : EReal) from bits_zero)).trans ((zero_add _).trans ?_)
    refine Finset.sum_congr rfl fun x _ => ?_
    exact exp_lat q k hq hk _ i h0 h1 h3 (ix4 (J 0) (J 1) (J 3) (J 4)) rfl rfl rfl rfl μ hμ
  · unfold val
    rw [val_main_v2_apply]
    refine congrArg v (ext3 _ _ ?_ ?_ ?_)
    all_goals simp only [ix3]
    all_goals omega

/-- This half of the reference, as it is put together. -/
theorem half_lat (hq : Reals q) (hk : Reals k) (J : S8x4096x1024.Idx) (i : SQ.Idx) (h0 : (i 0 : ℕ) = J 0)
    (h1 : (i 1 : ℕ) = 256 + (J 1 : ℕ)) (h2 : (i 2 : ℕ) = J 2) :
    val_main_v21 (F := Ideal) q k v J = attn q k v 4352 i := by
  have b0 : (J 0 : ℕ) < 8 := (J 0).isLt
  have b1 : (J 1 : ℕ) < 4096 := (J 1).isLt
  have b2 : (J 2 : ℕ) < 1024 := (J 2).isLt
  rw [val_main_v21_apply, val_main_v20_apply]
  refine row_lat q k v hq hk _ i ?_ ?_ ?_
  · show (i 0 : ℕ) = (((J 0 : ℕ) * 4096 + (J 1 : ℕ)) * 1024 + (J 2 : ℕ)) / 4194304
    omega
  · show (i 1 : ℕ) = 256 + ((((J 0 : ℕ) * 4096 + (J 1 : ℕ)) * 1024 + (J 2 : ℕ)) / 1024 % 4096)
    omega
  · show (i 2 : ℕ) = 512 * ((((J 0 : ℕ) * 4096 + (J 1 : ℕ)) * 1024 + (J 2 : ℕ)) / 512 % 2)
      + 128 * ((((J 0 : ℕ) * 4096 + (J 1 : ℕ)) * 1024 + (J 2 : ℕ)) / 128 % 4) + (((J 0 : ℕ) * 4096 + (J 1 : ℕ)) * 1024 + (J 2 : ℕ)) % 128
    omega

/-- The reference's result is the attention of the tokens after the first 256. -/
theorem whole (hq : Reals q) (hk : Reals k) : val_main_v22 (F := Ideal) q k v = later q k v := by
  funext i
  rw [val_main_v22_apply]
  exact half_lat q k v hq hk _ _ rfl rfl rfl

end Cert.Reference5Ideal.Hand

end
-- ==== Proof.Late.lean ====
/- The same of the second layer's feed-forward part, which has the sequences' own tokens alone. -/
module

public import proofs.«01_k».proof.Proof.Conv

@[expose] public section

set_option maxRecDepth 16384

noncomputable section

namespace Cert.Late

open Idealize.ShloMosaic Cert.Norm Cert.Conv

/-- The sequences' own tokens. -/
abbrev SX : Shape := ⟨3, ![8, 4096, 1024]⟩

/-- The row of the modulation a tile of 256 rows takes: its sequence's. -/
def srow (s : ℕ) : ℕ := s / 16

/-- Token `n`'s row, the tokens counted through the sequences. -/
def stok (A : SX.Idx → EReal) (n : ℕ) (d : Fin 1024) : EReal :=
  A (ix3 ⟨n / 4096 % 8, Nat.mod_lt _ (by norm_num)⟩ ⟨n % 4096, Nat.mod_lt _ (by norm_num)⟩ d)

/-- Part `q` of the modulation's row for token `n`. -/
def spart (M : SM.Idx → EReal) (q n : ℕ) (k : Fin 1024) : EReal :=
  M (ix2 ⟨srow (n / 256) % 16, Nat.mod_lt _ (by norm_num)⟩ ⟨(1024 * q + (k : ℕ)) % 6144, Nat.mod_lt _ (by norm_num)⟩)

/-- Token `n` normalised and modulated by parts `q` (shift) and `q + 1` (scale). -/
def smoved (A : SX.Idx → EReal) (M : SM.Idx → EReal) (g : SG.Idx → EReal) (q n : ℕ) (k : Fin 1024) : EReal :=
  hid (stok A n) (stok A n k) (g (ix1 k)) (spart M (q + 1) n k) (spart M q n k)

/-- A token's row, read at an index of the array. -/
theorem stok_eq (A : SX.Idx → EReal) (n : ℕ) (d : Fin 1024) (i : SX.Idx) (h : 4096 * (i 0 : ℕ) + i 1 = n) (h2 : (i 2 : ℕ) = d) :
    A i = stok A n d := by
  have b0 : (i 0 : ℕ) < 8 := (i 0).isLt
  have b1 : (i 1 : ℕ) < 4096 := (i 1).isLt
  refine congrArg A (funext fun a => Fin.ext ?_)
  match a with
  | ⟨0, _⟩ =>
    show (i 0 : ℕ) = n / 4096 % 8
    omega
  | ⟨1, _⟩ =>
    show (i 1 : ℕ) = n % 4096
    omega
  | ⟨2, _⟩ => exact h2

/-- A part of the modulation, read at an index of the table. -/
theorem spart_eq (M : SM.Idx → EReal) (q n : ℕ) (k : Fin 1024) (i : SM.Idx) (h : (i 0 : ℕ) = srow (n / 256))
    (h1 : (i 1 : ℕ) = 1024 * q + k) : M i = spart M q n k := by
  have b0 : (i 0 : ℕ) < 16 := (i 0).isLt
  have b1 : (i 1 : ℕ) < 6144 := (i 1).isLt
  refine congrArg M (funext fun a => Fin.ext ?_)
  match a with
  | ⟨0, _⟩ =>
    show (i 0 : ℕ) = srow (n / 256) % 16
    omega
  | ⟨1, _⟩ =>
    show (i 1 : ℕ) = (1024 * q + (k : ℕ)) % 6144
    omega

/-- A normalised, modulated element in the references' spelling. -/
theorem smoved_eq (A : SX.Idx → EReal) (M : SM.Idx → EReal) (g : SG.Idx → EReal) (q n : ℕ) (k : Fin 1024) (r : Fin 1024 → EReal)
    (b c : EReal) (hr : ∀ d, r d = stok A n d) (hb : b = spart M (q + 1) n k) (hc : c = spart M q n k) :
    r k * Ideal.rsqrt (Ideal.div (∑ d, r d * r d) (Ideal.ofBits .f32 1149239296#32) + Ideal.ofBits .f32 897988541#32) * g (ix1 k)
        * (1 + b) + c
      = smoved A M g q n k := by
  obtain rfl : r = stok A n := funext hr
  subst hb hc
  rfl

/-- The second layer's first matrix's result. -/
abbrev SY : Shape := ⟨3, ![8, 4096, 5632]⟩

/-- The entry of sequence `b`, position `p`, channel `c`. -/
def sentry (Z : SY.Idx → EReal) (b p c : ℕ) : EReal :=
  Z (ix3 ⟨b % 8, Nat.mod_lt _ (by norm_num)⟩ ⟨p % 4096, Nat.mod_lt _ (by norm_num)⟩ ⟨c % 5632, Nat.mod_lt _ (by norm_num)⟩)

/-- The convolution, with zeros beyond the ends of the sequence. -/
def sconv (Z : SY.Idx → EReal) (w : SC.Idx → EReal) (b p c : ℕ) : EReal :=
  (if p = 0 then 0 else sentry Z b (p - 1) c) * tap w 0 c + sentry Z b p c * tap w 1 c
    + (if p = 4095 then 0 else sentry Z b (p + 1) c) * tap w 2 c

/-- The second matrix applied to the gated channels. -/
def sdown (Z : SY.Idx → EReal) (w : SC.Idx → EReal) (D : SD.Idx → EReal) (b p : ℕ) (k : Fin 1024) : EReal :=
  ∑ c : Fin 2816, sconv Z w b p c * Ideal.logistic (sconv Z w b p c) * sconv Z w b p (2816 + c) * D (ix2 c k)

/-- The residual with the normalised result, scaled by the modulation's last part. -/
def sresult (A : SX.Idx → EReal) (Z : SY.Idx → EReal) (w : SC.Idx → EReal) (M : SM.Idx → EReal) (g : SG.Idx → EReal)
    (D : SD.Idx → EReal) (i : SX.Idx) : EReal :=
  A i + spart M 5 (4096 * (i 0 : ℕ) + i 1) (i 2)
    * (sdown Z w D (i 0) (i 1) (i 2) * rinv (sdown Z w D (i 0) (i 1)) * g (ix1 (i 2)))

theorem sentry_eq (Z : SY.Idx → EReal) (b p c : ℕ) (i : SY.Idx) (h0 : (i 0 : ℕ) = b) (h1 : (i 1 : ℕ) = p) (h2 : (i 2 : ℕ) = c) :
    Z i = sentry Z b p c := by
  have b0 : (i 0 : ℕ) < 8 := (i 0).isLt
  have b1 : (i 1 : ℕ) < 4096 := (i 1).isLt
  have b2 : (i 2 : ℕ) < 5632 := (i 2).isLt
  refine congrArg Z (funext fun a => Fin.ext ?_)
  match a with
  | ⟨0, _⟩ =>
    show (i 0 : ℕ) = b % 8
    omega
  | ⟨1, _⟩ =>
    show (i 1 : ℕ) = p % 4096
    omega
  | ⟨2, _⟩ =>
    show (i 2 : ℕ) = c % 5632
    omega

end Cert.Late

end
-- ==== Proof.TakeLate.lean ====
/- The rows of the modulation that the second layer's tiles of 256 rows take: the sequence's own. -/
module

public import proofs.«01_k».proof.Proof.Gen.Kernel6Ideal.Value
public import Idealize.ShloMosaic.Lib.Pipeline.ValueKit
public import proofs.«01_k».proof.Proof.Late
public import Idealize.ShloMosaic.Lib.Pointwise
public import Idealize.ShloMosaic.Lib.ReduceAll

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.Kernel6Ideal.Facts Cert.Norm Cert.Late

variable (m : (ℓ : Loc nD τ sig) → Buf (Elt Ideal) ℓ)

/-- A tile's row index as the call's host wraps it. -/
def wrapped : IVec S128x1 32 :=
  broadcastInDim S128x1 ![0] bcast_S128_S128x1_0
    (select (cmpi .slt (fun i => lit0 (S128.rowMajor i)) (broadcastInDim S128 ![] bcast_S_S128 (constantI S_ 32 0#32)))
      (addi (fun i => lit0 (S128.rowMajor i)) (broadcastInDim S128 ![] bcast_S_S128 (constantI S_ 32 16#32)))
      (fun i => lit0 (S128.rowMajor i)))

/-- Whether each index lies in the table. -/
def inRange : IVec S128 1 :=
  Host.reduce IntOp.andi
    (andi (cmpi .sge wrapped (broadcastInDim S128x1 ![] bcast_S_S128x1 (constantI S_ 32 0#32)))
      (cmpi .sle wrapped (broadcastInDim S128x1 ![0, 1] bcast_S1x1_S128x1_0_1 (broadcastInDim S1x1 ![1] bcast_S1_S1x1_1 (constantI S1 32 15#32)))))
    (constantI S_ 1 1#1) reducesTo_S128x1_S128_d1 h_S_

/-- The table's rows at the wrapped indices. -/
def taken (x : FVec Ideal S16x6x1024 .f32) : FVec Ideal S128x6x1024 .f32 :=
  select (broadcastInDim S128x6x1024 ![0] bcast_S128_S128x6x1024_0 inRange)
    (Host.gather gather_S16x6x1024_S128x1_S128x6x1024_12_0_n_n_0_1_161024 x wrapped)
    (broadcastInDim S128x6x1024 ![] bcast_S_S128x6x1024 (constant S_ .f32 0x7FC00000#32))

/-- The modulation's rows as the region finds them. -/
theorem V1 (c : Dev nD) : V m c main_v1 = taken (shapeCast S16x6x1024 (m ((c : Thread nD τ).loc main_arg1) : FVec Ideal S16x6144 .f32) shapeCasts_S16x6144_S16x6x1024) := by
  unfold V
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  unfold taken inRange wrapped
  rfl

theorem wrapped_fin : ∀ n : Fin 128, Scalar.select (IntOp.cmpi .slt (lit0 n) 0#32) (IntOp.addi (lit0 n) 16#32) (lit0 n)
    = BitVec.ofNat 32 ((n : ℕ) / 16) := by
  decide +kernel

theorem wrapped_apply (i : S128x1.Idx) : wrapped i = BitVec.ofNat 32 ((i 0 : ℕ) / 16) := by
  unfold wrapped
  pointwise []
  have h : S128.rowMajor (ix1 (i 0)) = i 0 := by
    apply Fin.ext
    exact Shape.rowMajor_val_one _
  rw [h]
  exact wrapped_fin (i 0)

theorem within : ∀ n : Fin 128, IntOp.andi (IntOp.cmpi .sge (BitVec.ofNat 32 ((n : ℕ) / 16)) 0#32)
    (IntOp.cmpi .sle (BitVec.ofNat 32 ((n : ℕ) / 16)) 15#32) = 1#1 := by
  decide +kernel

theorem inRange_apply (i : S128.Idx) : inRange i = 1#1 := by
  unfold inRange
  refine Host.reduce_andi_one _ _ _ _ _ rfl fun i => ?_
  pointwise []
  rw [wrapped_apply]
  exact within (i 0)

theorem clamped : ∀ n : Fin 128, min (BitVec.ofNat 32 ((n : ℕ) / 16)).toInt.toNat 15 = srow n := by
  decide +kernel

theorem start_zero (i : S128x6x1024.Idx) :
    (gather_S16x6x1024_S128x1_S128x6x1024_12_0_n_n_0_1_161024).start i wrapped 0
      = min (BitVec.ofNat 32 (((i 0 : Fin 128) : ℕ) / 16)).toInt.toNat 15 := by
  unfold GatherDims.start
  rw [dif_pos (show (0 : Fin 3) ∈ (gather_S16x6x1024_S128x1_S128x6x1024_12_0_n_n_0_1_161024).startIndexMap from List.mem_singleton.mpr rfl)]
  have hsi : (gather_S16x6x1024_S128x1_S128x6x1024_12_0_n_n_0_1_161024).siIdx i ⟨List.idxOf (0 : Fin 3)
      (gather_S16x6x1024_S128x1_S128x6x1024_12_0_n_n_0_1_161024).startIndexMap,
      List.idxOf_lt_length_iff.2 (List.mem_singleton.mpr rfl)⟩ = ix2 (i 0) 0 := by
    funext b
    refine Fin.ext ?_
    match b with
    | ⟨0, _⟩ => rfl
    | ⟨1, _⟩ => rfl
  rw [hsi]
  exact congrArg (fun b : BitVec 32 => min b.toInt.toNat 15) (wrapped_apply (ix2 (i 0) 0))

theorem off_one (i : S128x6x1024.Idx) (w : IVec S128x1 32) :
    (gather_S16x6x1024_S128x1_S128x6x1024_12_0_n_n_0_1_161024).start i w 1 + 0
      + (gather_S16x6x1024_S128x1_S128x6x1024_12_0_n_n_0_1_161024).offCoord i 1 = i 1 := by
  unfold GatherDims.start
  rw [dif_neg (show (1 : Fin 3) ∉ (gather_S16x6x1024_S128x1_S128x6x1024_12_0_n_n_0_1_161024).startIndexMap by decide)]
  simp only [Nat.zero_add]
  rfl

theorem off_two (i : S128x6x1024.Idx) (w : IVec S128x1 32) :
    (gather_S16x6x1024_S128x1_S128x6x1024_12_0_n_n_0_1_161024).start i w 2 + 0
      + (gather_S16x6x1024_S128x1_S128x6x1024_12_0_n_n_0_1_161024).offCoord i 2 = i 2 := by
  unfold GatherDims.start
  rw [dif_neg (show (2 : Fin 3) ∉ (gather_S16x6x1024_S128x1_S128x6x1024_12_0_n_n_0_1_161024).startIndexMap by decide)]
  simp only [Nat.zero_add]
  rfl

theorem off_zero (i : S128x6x1024.Idx) :
    (gather_S16x6x1024_S128x1_S128x6x1024_12_0_n_n_0_1_161024).start i wrapped 0 + 0
      + (gather_S16x6x1024_S128x1_S128x6x1024_12_0_n_n_0_1_161024).offCoord i 0 = srow (i 0) := by
  rw [GatherDims.offCoord_eq_zero _ _ _ (fun h => ((GatherDims.mem_sKept _ _).mp h).1 (List.mem_singleton.mpr rfl)), start_zero]
  exact clamped (i 0)

theorem gather_idx (i : S128x6x1024.Idx) (j : S16x6x1024.Idx) (h0 : (j 0 : ℕ) = srow (i 0)) (h1 : (j 1 : ℕ) = i 1)
    (h2 : (j 2 : ℕ) = i 2) : (gather_S16x6x1024_S128x1_S128x6x1024_12_0_n_n_0_1_161024).operandIdx i wrapped = j := by
  funext a
  refine Fin.ext ?_
  show GatherDims.start _ _ _ _ + GatherDims.batchCoord _ _ _ + GatherDims.offCoord _ _ _ = _
  rw [GatherDims.batchCoord_eq_zero _ _ _ List.not_mem_nil]
  match a with
  | ⟨0, _⟩ => exact (off_zero i).trans h0.symm
  | ⟨1, _⟩ => exact (off_one i wrapped).trans h1.symm
  | ⟨2, _⟩ => exact (off_two i wrapped).trans h2.symm

theorem taken_apply (x) (i : S128x6x1024.Idx) (j : S16x6x1024.Idx) (h0 : (j 0 : ℕ) = srow (i 0)) (h1 : (j 1 : ℕ) = i 1)
    (h2 : (j 2 : ℕ) = i 2) : taken x i = x j := by
  unfold taken
  pointwise []
  rw [inRange_apply]
  exact congrArg x (gather_idx i j h0 h1 h2)

end Cert.Kernel6Ideal.Hand

end
-- ==== Proof.UpLate.lean ====
/- The first matrix of the feed-forward spart: each tile of the kernel's result is the normalised, modulated rows times the tile's columns. -/
module

public import proofs.«01_k».proof.Proof.TakeLate

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.Kernel6Ideal.Facts Cert.Norm Cert.Late

variable (m : (ℓ : Loc nD τ sig) → Buf (Elt Ideal) ℓ)

abbrev argA (c : Dev nD) : FVec Ideal S8x4096x1024 .f32 := m ((c : Thread nD τ).loc main_arg0)
abbrev argM (c : Dev nD) : FVec Ideal S16x6144 .f32 := m ((c : Thread nD τ).loc main_arg1)
abbrev argG (c : Dev nD) : FVec Ideal S1024 .f32 := m ((c : Thread nD τ).loc main_arg2)
abbrev argW (c : Dev nD) : FVec Ideal S1024x5632 .f32 := m ((c : Thread nD τ).loc main_arg3)

theorem idx : ∀ t : Fin cfg0.N, win0_0.index t = ![t.val / 4, 0] ∧ win0_1.index t = ![t.val / 4, 0, 0]
    ∧ win0_2.index t = ![0, 0] ∧ win0_3.index t = ![0, t.val % 4] ∧ win0_4.index t = ![t.val / 4, t.val % 4] :=
  (by decide +kernel : ∀ t : Fin grid0.N, _)

theorem V3 (c : Dev nD) : V m c main_v3 = shapeCast S32768x1024 (argA m c) shapeCasts_S8x4096x1024_S32768x1024 := by
  unfold V
  simp only [hostOps0, hostOps0_1, hostOps0_2, List.flatten_cons, List.flatten_nil, List.append_nil, List.cons_append,
    List.nil_append]
  after_results
  rfl

theorem V4 (c : Dev nD) : V m c main_v4 = shapeCast S1x1024 (argG m c) shapeCasts_S1024_S1x1024 := by
  unfold V
  simp only [hostOps0, hostOps0_1, hostOps0_2, List.flatten_cons, List.flatten_nil, List.append_nil, List.cons_append,
    List.nil_append]
  after_results
  rfl

theorem a_read (c : Dev nD) (t : Fin cfg0.N) (x : S1024x1024.Idx) (i : S8x4096x1024.Idx)
    (h : 4096 * (i 0 : ℕ) + i 1 = 1024 * (t.val / 4) + x 0) (h2 : (i 2 : ℕ) = x 1) :
    (show FVec Ideal S1024x1024 .f32 from iblk m c 0 t) x = argA m c i := by
  blk_simp [iblk]
  rw [V3]
  pointwise []
  blk_ext [idx t]

theorem g_read (c : Dev nD) (t : Fin cfg0.N) (k : Fin 1024) :
    (show FVec Ideal S1x1024 .f32 from iblk m c 2 t) (ix2 0 k) = argG m c (ix1 k) := by
  blk_simp [iblk]
  rw [V4]
  pointwise []
  blk_ext [idx t]

theorem w_read (c : Dev nD) (t : Fin cfg0.N) (x : S1024x1408.Idx) (i : S1024x5632.Idx) (h0 : (i 0 : ℕ) = x 0)
    (h : (i 1 : ℕ) = 1408 * (t.val % 4) + x 1) :
    (show FVec Ideal S1024x1408 .bf16 from iblk m c 3 t) x = argW m c i := by
  blk_point [iblk, V, idx t]

theorem mod_read (c : Dev nD) (t : Fin cfg0.N) (x : S4x6x1024.Idx) (i : S16x6144.Idx)
    (h0 : (i 0 : ℕ) = srow (4 * (t.val / 4) + x 0)) (h1 : (i 1 : ℕ) = 1024 * x 1 + x 2) :
    (show FVec Ideal S4x6x1024 .f32 from iblk m c 1 t) x = argM m c i := by
  have hx1 : (x 1 : ℕ) < 6 := (x 1).isLt
  have hx2 : (x 2 : ℕ) < 1024 := (x 2).isLt
  have hi : (i 0 : ℕ) < 16 := (i 0).isLt
  blk_simp [iblk]
  rw [V1]
  refine (taken_apply _ _ (ix3 (i 0) (x 1) (x 2)) ?_ ?_ ?_).trans ?_
  · rw [show (((ix3 (i 0) (x 1) (x 2) : S16x6x1024.Idx) 0) : ℕ) = i 0 from rfl, h0]
    congr 1
    blk_simp [idx t]
    omega
  · blk_simp [idx t]
  · blk_simp [idx t]
  · pointwise []
    blk_ext

theorem ld_rows (c : Dev nD) (t : Fin cfg0.N) (o : ℕ) (h) (x : S256x1024.Idx) (i : S8x4096x1024.Idx)
    (h0 : 4096 * (i 0 : ℕ) + i 1 = 1024 * (t.val / 4) + o + x 0) (h2 : (i 2 : ℕ) = x 1) :
    (show FVec Ideal S256x1024 .f32 from View.ld (iblk m c 0 t) (Rect.unit ![o, 0] ![256, 1024] h)) x = argA m c i := by
  have ho : o + 256 ≤ 1024 := h 0
  have hx : (x 0 : ℕ) < 256 := (x 0).isLt
  refine Eq.trans ?_ (a_read m c t (ix2 ⟨o + (x 0 : ℕ), by omega⟩ (x 1)) i (h0.trans (Nat.add_assoc _ _ _)) h2)
  pointwise []
  blk_ext

theorem ld_mod (c : Dev nD) (t : Fin cfg0.N) (p q : ℕ) (h) (k : Fin 1024) (i : S16x6144.Idx)
    (h0 : (i 0 : ℕ) = srow (4 * (t.val / 4) + p)) (h1 : (i 1 : ℕ) = 1024 * q + k) :
    (show FVec Ideal S1x1x1024 .f32 from View.ld (iblk m c 1 t) (Rect.unit ![p, q, 0] ![1, 1, 1024] h)) (ix3 0 0 k)
      = argM m c i := by
  have hp : p + 1 ≤ 4 := h 0
  have hq : q + 1 ≤ 6 := h 1
  refine Eq.trans ?_ (mod_read m c t (ix3 ⟨p, by omega⟩ ⟨q, by omega⟩ k) i h0 h1)
  pointwise []
  blk_ext

theorem pay3 (x g sc sh) (i : S256x1024.Idx) : k0_pay3 (F := Ideal) x g sc sh i
    = hid (fun d => x (ix2 (i 0) d)) (x i) (g (ix2 0 (i 1))) (sc (ix3 0 0 (i 1))) (sh (ix3 0 0 (i 1))) := by
  unfold hid rinv
  pointwise [k0_pay3]

theorem pay7 (x g sc sh) : k0_pay7 (F := Ideal) (k0_pay4 x) (k0_pay5 x) k0_pay6 g sc sh = k0_pay3 x g sc sh := rfl
theorem pay9 (x g sc sh) : k0_pay9 (F := Ideal) (k0_pay8 x g) sc sh = k0_pay3 x g sc sh := rfl
theorem pay1 (x g sc sh) : k0_pay1 (F := Ideal) (k0_pay10 x g sc) (k0_pay11 sh) = k0_pay3 x g sc sh := rfl

theorem point_lt (t : Fin cfg0.N) : t.val / 4 < 32 := by
  have h : t.val < 128 := lt_of_lt_of_eq t.isLt N_0
  omega

theorem mrow_lt (s : ℕ) (h : s < 128) : srow s < 16 := by
  unfold srow
  omega

/-- One of a tile's four segments, normalised and modulated. -/
theorem segment (c : Dev nD) (t : Fin cfg0.N) (p : ℕ) (hp : p < 4) (h h4 h3) (x : S256x1024.Idx) (n : ℕ) (k : Fin 1024)
    (hn : n = 1024 * (t.val / 4) + 256 * p + x 0) (hk : (k : ℕ) = x 1) :
    k0_pay3 (F := Ideal) (View.ld (iblk m c 0 t) (Rect.unit ![256 * p, 0] ![256, 1024] h)) (iblk m c 2 t)
        (View.ld (iblk m c 1 t) (Rect.unit ![p, 4, 0] ![1, 1, 1024] h4))
        (View.ld (iblk m c 1 t) (Rect.unit ![p, 3, 0] ![1, 1, 1024] h3)) x
      = smoved (argA m c) (argM m c) (argG m c) 3 n k := by
  have hx : (x 0 : ℕ) < 256 := (x 0).isLt
  have ht := point_lt t
  obtain rfl : k = x 1 := Fin.ext hk
  have hr : srow (n / 256) % 16 = srow (4 * (t.val / 4) + p) := by
    rw [show n / 256 = 4 * (t.val / 4) + p by omega, Nat.mod_eq_of_lt (mrow_lt _ (by omega))]
  rw [pay3]
  unfold smoved
  have hA : ∀ (z : S256x1024.Idx) (d : Fin 1024), (z 0 : ℕ) = x 0 → (z 1 : ℕ) = d →
      (show FVec Ideal S256x1024 .f32 from View.ld (iblk m c 0 t) (Rect.unit ![256 * p, 0] ![256, 1024] h)) z = stok (argA m c) n d :=
    fun z d h0 h1 => ld_rows m c t _ h z _ (by
      show 4096 * (n / 4096 % 8) + n % 4096 = _
      rw [h0]
      omega) h1.symm
  congr 1
  · funext d
    exact hA _ d rfl rfl
  · exact hA x _ rfl rfl
  · exact g_read m c t _
  · exact ld_mod m c t p 4 h4 _ _ hr (by
      show (1024 * 4 + ((x 1 : Fin 1024) : ℕ)) % 6144 = _
      have := (x 1 : Fin 1024).isLt
      omega)
  · exact ld_mod m c t p 3 h3 _ _ hr (by
      show (1024 * 3 + ((x 1 : Fin 1024) : ℕ)) % 6144 = _
      have := (x 1 : Fin 1024).isLt
      omega)

/-- At the first column tile of a row tile, the four segments fill the scratch. -/
theorem first (c : Dev nD) (t : Fin cfg0.N) (hA : t.val % 4 = 0) (y : S1024x1024.Idx) :
    (outsAt0 m c t.val t.isLt).2 y = smoved (argA m c) (argM m c) (argG m c) 3 (1024 * (t.val / 4) + y 0) (y 1) := by
  rw [outsAt0_A m c t hA]
  frame_out
  canon_tiles x h
  case piece0 =>
    rw [pay1]
    exact segment m c t 3 (by norm_num) _ _ _ x _ _ (by omega) (by omega)
  case piece1 =>
    rw [pay9]
    exact segment m c t 2 (by norm_num) _ _ _ x _ _ (by omega) (by omega)
  case piece2 =>
    rw [pay7]
    exact segment m c t 1 (by norm_num) _ _ _ x _ _ (by omega) (by omega)
  case piece3 =>
    exact segment m c t 0 (by norm_num) _ _ _ x _ _ (by omega) (by omega)

/-- A later column tile finds the scratch as the tile before left it. -/
theorem later (c : Dev nD) (t : Fin cfg0.N) (hB : ¬t.val % 4 = 0) (y : S1024x1024.Idx) :
    (outsAt0 m c t.val t.isLt).2 y = (outsAt0 m c (t.val - 1) (by omega)).2 y := by
  rw [outsAt0_B m c t hB]
  rfl

theorem scratch (c : Dev nD) (n : ℕ) (hn : n < cfg0.N) (y : S1024x1024.Idx) :
    (outsAt0 m c n hn).2 y = smoved (argA m c) (argM m c) (argG m c) 3 (1024 * (n / 4) + y 0) (y 1) := by
  induction n with
  | zero => exact first m c ⟨0, hn⟩ rfl y
  | succ n ih =>
    by_cases h : (n + 1) % 4 = 0
    · exact first m c ⟨n + 1, hn⟩ h y
    · refine (later m c ⟨n + 1, hn⟩ h y).trans ((ih _).trans ?_)
      rw [show (n + 1) / 4 = n / 4 by omega]

theorem pay2 (x w) (i : S1024x1408.Idx) : k0_pay2 (F := Ideal) x w i = ∑ k : Fin 1024, x (ix2 (i 0) k) * w (ix2 k (i 1)) := by
  pointwise [k0_pay2]

theorem outA (c : Dev nD) (t : Fin cfg0.N) (h : t.val % 4 = 0) (y : S1024x1408.Idx) :
    (outsAt0 m c t.val t.isLt).1 y = k0_pay2 (F := Ideal) (outsAt0 m c t.val t.isLt).2 (iblk m c 3 t) y := by
  rw [outsAt0_A m c t h]
  frame_out
  refine congrArg (fun s : FVec Ideal S1024x1024 .bf16 => k0_pay2 (F := Ideal) s (iblk m c 3 t) y) ?_
  exact (View.readCov_eq_canon' _ _ _).trans (View.ld_unit_zero (S := S1024x1024) (funext fun a => by match a with
    | ⟨0, _⟩ => rfl
    | ⟨1, _⟩ => rfl) _ _)

theorem outB (c : Dev nD) (t : Fin cfg0.N) (h : ¬ t.val % 4 = 0) (y : S1024x1408.Idx) :
    (outsAt0 m c t.val t.isLt).1 y = k0_pay2 (F := Ideal) (outsAt0 m c t.val t.isLt).2 (iblk m c 3 t) y := by
  rw [outsAt0_B m c t h]
  frame_out
  exact congrArg (fun s : FVec Ideal S1024x1024 .bf16 => k0_pay2 (F := Ideal) s (iblk m c 3 t) y)
    ((Memref.isWhole_whole cc0_scratch0).read_unread _)

/-- The product of the normalised, modulated tokens with the matrix. -/
def G (c : Dev nD) : FVec Ideal S32768x5632 .f32 := fun i =>
  ∑ k : Fin 1024, smoved (argA m c) (argM m c) (argG m c) 3 (i 0) k * argW m c (ix2 k (i 1))

/-- Each grid point's block is the product's block. -/
theorem block (c : Dev nD) (t : Fin cfg0.N) (y : S1024x1408.Idx) (i : S32768x5632.Idx) (h0 : (i 0 : ℕ) = 1024 * (t.val / 4) + y 0)
    (h1 : (i 1 : ℕ) = 1408 * (t.val % 4) + y 1) : (outsAt0 m c t.val t.isLt).1 y = G m c i := by
  have e : (outsAt0 m c t.val t.isLt).1 y = k0_pay2 (F := Ideal) (outsAt0 m c t.val t.isLt).2 (iblk m c 3 t) y := by
    by_cases h : t.val % 4 = 0
    · exact outA m c t h y
    · exact outB m c t h y
  rw [e, pay2]
  unfold G
  refine Finset.sum_congr rfl fun k _ => ?_
  rw [h0]
  exact congrArg₂ (fun a b : EReal => a * b) (scratch m c t.val t.isLt (ix2 (y 0) k)) (w_read m c t (ix2 k (y 1)) _ rfl h1)

/-- The call's result. -/
theorem final (c : Dev nD) : (dats m 0 c).arrAt 4 cfg0.N = G m c := by
  refine (dats m 0 c).arrAt_eq_of_covers 4 _ (by decide +kernel) fun t _ y => ?_
  blk_simp
  rw [after0_4]
  exact block m c t y _ (by blk_simp [idx t]; omega) (by blk_simp [idx t]; omega)

end Cert.Kernel6Ideal.Hand

end
-- ==== Proof.UpRefLate.lean ====
/- The reference of the second layer's first feed-forward matrix, element by element. -/
module

public import proofs.«01_k».proof.Proof.Gen.Reference6Ideal.Read
public import proofs.«01_k».proof.Proof.Late

@[expose] public section

set_option maxRecDepth 16384

noncomputable section

namespace Cert.Reference6Ideal.Hand

open Idealize.ShloMosaic Cert.Reference6Ideal Cert.Reference6Ideal.Gen Cert.Reference6Ideal.Read Cert.Norm Cert.Late

variable (A : FVec Ideal S8x4096x1024 .f32) (M : FVec Ideal S16x6144 .f32) (g : FVec Ideal S1024 .f32)
  (w : FVec Ideal S1024x5632 .f32)

/-- The reference's normalised, modulated tokens. -/
theorem lat (i : S8x4096x1024.Idx) : val_main_v26 (F := Ideal) A M g i = smoved A M g 3 (4096 * (i 0 : ℕ) + i 1) (i 2) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, val_main_v26]
  have b0 : (i 0 : ℕ) < 8 := (i 0).isLt
  have b1 : (i 1 : ℕ) < 4096 := (i 1).isLt
  have e : srow ((4096 * (i 0 : ℕ) + i 1) / 256) = i 0 := by
    unfold srow
    omega
  rw [show A i = A (ix3 (i 0) (i 1) (i 2)) from congrArg A (funext fun a => match a with | ⟨0, _⟩ => rfl | ⟨1, _⟩ => rfl | ⟨2, _⟩ => rfl)]
  exact smoved_eq A M g 3 _ (i 2) (fun d => A (ix3 (i 0) (i 1) d)) _ _ (fun d => stok_eq A _ d _ rfl rfl)
    (spart_eq M _ _ _ _ e.symm rfl) (spart_eq M _ _ _ _ e.symm rfl)

/-- The product of every normalised, modulated token with the first feed-forward matrix. -/
theorem whole (i : S32768x5632.Idx) :
    val_main_v28 (F := Ideal) A M g w i = ∑ k : Fin 1024, smoved A M g 3 (i 0) k * w (ix2 k (i 1)) := by
  have b0 : (i 0 : ℕ) < 32768 := (i 0).isLt
  have b1 : (i 1 : ℕ) < 5632 := (i 1).isLt
  pointwise [val_main_v28, val_main_v27]
  refine Finset.sum_congr rfl fun k _ => ?_
  refine congrArg₂ (fun a b : EReal => a * b) ((lat A M g _).trans ?_) rfl
  exact congrArg (fun n => smoved A M g 3 n k) (show 4096 * ((i 0 : ℕ) / 4096) + (i 0 : ℕ) % 4096 = i 0 by omega)

end Cert.Reference6Ideal.Hand

end
-- ==== Proof.TailLate.lean ====
/- The second half of the feed-forward spart: what each grid point leaves in its block. -/
module

public import proofs.«01_k».proof.Proof.Gen.Kernel7Ideal.Value
public import Idealize.ShloMosaic.Lib.Pipeline.ValueKit
public import proofs.«01_k».proof.Proof.Late
public import Idealize.ShloMosaic.Lib.Pointwise

@[expose] public section

set_option maxRecDepth 16384

noncomputable section

namespace Cert.Kernel7Ideal.Hand

open Cert.Kernel7Ideal Cert.Kernel7Ideal.Gen Idealize.ShloMosaic Idealize.ShloMosaic.TcCoe Idealize.SL.Sem
open Cert.Kernel7Ideal.Facts Cert.Norm Cert.Conv Cert.Late

variable (m : (ℓ : Loc nD τ sig) → Buf (Elt Ideal) ℓ)

abbrev argA (c : Dev nD) : FVec Ideal S8x4096x1024 .f32 := m ((c : Thread nD τ).loc main_arg0)
abbrev argZ (c : Dev nD) : FVec Ideal S8x4096x5632 .f32 := m ((c : Thread nD τ).loc main_arg1)
abbrev argC (c : Dev nD) : FVec Ideal S3x5632 .f32 := m ((c : Thread nD τ).loc main_arg2)
abbrev argM (c : Dev nD) : FVec Ideal S16x6144 .f32 := m ((c : Thread nD τ).loc main_arg3)
abbrev argG (c : Dev nD) : FVec Ideal S1024 .f32 := m ((c : Thread nD τ).loc main_arg4)
abbrev argD (c : Dev nD) : FVec Ideal S2816x1024 .f32 := m ((c : Thread nD τ).loc main_arg5)

theorem idx : ∀ t : Fin cfg0.N, win0_0.index t = ![t.val / 16, t.val % 16, 0] ∧ win0_1.index t = ![t.val / 16, t.val % 16, 0]
    ∧ win0_2.index t = ![t.val / 16, 32 * (t.val % 16) - 1, 0] ∧ win0_3.index t = ![t.val / 16, min (32 * (t.val % 16 + 1)) 511, 0]
    ∧ win0_4.index t = ![0, 0] ∧ win0_5.index t = ![srow t.val, 0, 0]
    ∧ win0_6.index t = ![0, 0] ∧ win0_7.index t = ![0, 0] ∧ win0_8.index t = ![t.val / 16, t.val % 16, 0] :=
  (by decide +kernel : ∀ t : Fin grid0.N, _)

theorem coord_one : ∀ t : Fin cfg0.N, (grid0.coords t 1).val = t.val % 16 :=
  (by decide +kernel : ∀ t : Fin grid0.N, _)

theorem point_lt (t : Fin cfg0.N) : t.val < 128 := lt_of_lt_of_eq t.isLt N_0

theorem a_read (c : Dev nD) (t : Fin cfg0.N) (x : S1x256x1024.Idx) (i : S8x4096x1024.Idx) (h0 : (i 0 : ℕ) = t.val / 16)
    (h1 : (i 1 : ℕ) = 256 * (t.val % 16) + x 1) (h2 : (i 2 : ℕ) = x 2) :
    (show FVec Ideal S1x256x1024 .f32 from iblk m c 0 t) x = argA m c i := by
  blk_point [iblk, V, idx t]

theorem z_read (c : Dev nD) (t : Fin cfg0.N) (x : S1x256x5632.Idx) (i : S8x4096x5632.Idx) (h0 : (i 0 : ℕ) = t.val / 16)
    (h1 : (i 1 : ℕ) = 256 * (t.val % 16) + x 1) (h2 : (i 2 : ℕ) = x 2) :
    (show FVec Ideal S1x256x5632 .f32 from iblk m c 1 t) x = argZ m c i := by
  blk_point [iblk, V, idx t]

theorem prev_read (c : Dev nD) (t : Fin cfg0.N) (x : S1x8x5632.Idx) (i : S8x4096x5632.Idx) (h0 : (i 0 : ℕ) = t.val / 16)
    (h1 : (i 1 : ℕ) = 8 * (32 * (t.val % 16) - 1) + x 1) (h2 : (i 2 : ℕ) = x 2) :
    (show FVec Ideal S1x8x5632 .f32 from iblk m c 2 t) x = argZ m c i := by
  blk_point [iblk, V, idx t]

theorem next_read (c : Dev nD) (t : Fin cfg0.N) (x : S1x8x5632.Idx) (i : S8x4096x5632.Idx) (h0 : (i 0 : ℕ) = t.val / 16)
    (h1 : (i 1 : ℕ) = 8 * min (32 * (t.val % 16 + 1)) 511 + x 1) (h2 : (i 2 : ℕ) = x 2) :
    (show FVec Ideal S1x8x5632 .f32 from iblk m c 3 t) x = argZ m c i := by
  blk_point [iblk, V, idx t]

theorem c_read (c : Dev nD) (t : Fin cfg0.N) (x : S3x5632.Idx) : (show FVec Ideal S3x5632 .f32 from iblk m c 4 t) x = argC m c x := by
  blk_point [iblk, V, idx t]

theorem m_read (c : Dev nD) (t : Fin cfg0.N) (x : S1x6x1024.Idx) (i : S16x6144.Idx) (h0 : (i 0 : ℕ) = srow t.val)
    (h1 : (i 1 : ℕ) = 1024 * x 1 + x 2) : (show FVec Ideal S1x6x1024 .f32 from iblk m c 5 t) x = argM m c i := by
  blk_point [iblk, V, idx t]

theorem g_read (c : Dev nD) (t : Fin cfg0.N) (x : S1x1024.Idx) (i : S1024.Idx) (h : (i 0 : ℕ) = x 1) :
    (show FVec Ideal S1x1024 .f32 from iblk m c 6 t) x = argG m c i := by
  blk_point [iblk, V, idx t]

theorem d_read (c : Dev nD) (t : Fin cfg0.N) (x : S2816x1024.Idx) :
    (show FVec Ideal S2816x1024 .bf16 from iblk m c 7 t) x = argD m c x := by
  blk_point [iblk, V, idx t]

/-- A choice by a row's being the first or the last. -/
theorem select_row (n : Fin 256) (k : ℕ) (hk : k = 0 ∨ k = 255) (a b : EReal) :
    Scalar.select (IntOp.cmpi .eq (BitVec.ofNat 32 n) (BitVec.ofNat 32 k)) a b = if (n : ℕ) = k then a else b := by
  have h : ∀ n : Fin 256, IntOp.cmpi .eq (BitVec.ofNat 32 n) (BitVec.ofNat 32 0) = (if (n : ℕ) = 0 then 1#1 else 0#1)
      ∧ IntOp.cmpi .eq (BitVec.ofNat 32 n) (BitVec.ofNat 32 255) = (if (n : ℕ) = 255 then 1#1 else 0#1) := by
    decide +kernel
  have e : IntOp.cmpi .eq (BitVec.ofNat 32 n) (BitVec.ofNat 32 k) = if (n : ℕ) = k then 1#1 else 0#1 := by
    rcases hk with rfl | rfl
    · exact (h n).1
    · exact (h n).2
  rw [e]
  by_cases e : (n : ℕ) = k
  · rw [if_pos e, if_pos e]
    rfl
  · rw [if_neg e, if_neg e]
    rfl

/-- A choice by a tile's being a sequence's first, or its last. -/
theorem select_first (n : ℕ) (hn : n < 16) (a b : EReal) :
    Scalar.select (Scalar.ori (Scalar.cmpi .eq (BitVec.ofNat 32 n) 0#32) (Scalar.cmpi .eq (BitVec.ofNat 32 n) 0#32)) a b
      = if n = 0 then a else b := by
  have h : ∀ n : Fin 16, Scalar.ori (Scalar.cmpi .eq (BitVec.ofNat 32 n) 0#32) (Scalar.cmpi .eq (BitVec.ofNat 32 n) 0#32)
      = if (n : ℕ) = 0 then 1#1 else 0#1 := by
    decide +kernel
  rw [h ⟨n, hn⟩]
  by_cases e : n = 0
  · rw [if_pos e, if_pos e]
    rfl
  · rw [if_neg e, if_neg e]
    rfl

theorem select_last (n : ℕ) (hn : n < 16) (a b : EReal) :
    Scalar.select (Scalar.ori (Scalar.cmpi .eq (BitVec.ofNat 32 n) 4294967295#32) (Scalar.cmpi .eq (BitVec.ofNat 32 n) 15#32)) a b
      = if n = 15 then a else b := by
  have h : ∀ n : Fin 16, Scalar.ori (Scalar.cmpi .eq (BitVec.ofNat 32 n) 4294967295#32) (Scalar.cmpi .eq (BitVec.ofNat 32 n) 15#32)
      = if (n : ℕ) = 15 then 1#1 else 0#1 := by
    decide +kernel
  rw [h ⟨n, hn⟩]
  by_cases e : n = 15
  · rw [if_pos e, if_pos e]
    rfl
  · rw [if_neg e, if_neg e]
    rfl

theorem tile (i : grid0.Coords) (z pz nz w0 w1 w2) (r : Fin 256) (k : Fin 2816) :
    k0_pay4 (F := Ideal) (k0_pay1 z) (k0_pay2 i z nz) (k0_pay3 i z pz w0) w1 w2 (ix2 r k)
      = (if (r : ℕ) = 0 then if (i 1 : ℕ) = 0 then 0 else pz (ix3 0 0 k)
          else z (ix3 0 ⟨((r : ℕ) + 256 - 1) % 256, Nat.mod_lt _ (by norm_num)⟩ k)) * w0 (ix2 0 k)
        + z (ix3 0 r k) * w1 (ix2 0 k)
        + (if (r : ℕ) = 255 then if (i 1 : ℕ) = 15 then 0 else nz (ix3 0 0 k)
          else z (ix3 0 ⟨((r : ℕ) + 256 - 255) % 256, Nat.mod_lt _ (by norm_num)⟩ k)) * w2 (ix2 0 k) := by
  have hi : (i 1 : ℕ) < 16 := (i 1).isLt
  pointwise [k0_pay4, k0_pay1, k0_pay2, k0_pay3]
  rw [select_row r 0 (Or.inl rfl), select_row r 255 (Or.inr rfl), select_first _ hi,
    select_last _ hi]

/-- The convolution's tile, from column `q` on. -/
theorem conv_tile (c : Dev nD) (t : Fin cfg0.N) (q : ℕ) (hz hp hn h0 h1 h2) (r : Fin 256) (k : Fin 2816) :
    k0_pay4 (F := Ideal) (k0_pay1 (View.ld (iblk m c 1 t) (Rect.unit ![0, 0, q] ![1, 256, 2816] hz)))
      (k0_pay2 (grid0.coords t) (View.ld (iblk m c 1 t) (Rect.unit ![0, 0, q] ![1, 256, 2816] hz))
        (View.ld (iblk m c 3 t) (Rect.unit ![0, 0, q] ![1, 1, 2816] hn)))
      (k0_pay3 (grid0.coords t) (View.ld (iblk m c 1 t) (Rect.unit ![0, 0, q] ![1, 256, 2816] hz))
        (View.ld (iblk m c 2 t) (Rect.unit ![0, 7, q] ![1, 1, 2816] hp))
        (View.ld (iblk m c 4 t) (Rect.unit ![0, q] ![1, 2816] h0)))
      (View.ld (iblk m c 4 t) (Rect.unit ![1, q] ![1, 2816] h1)) (View.ld (iblk m c 4 t) (Rect.unit ![2, q] ![1, 2816] h2)) (ix2 r k)
      = sconv (argZ m c) (argC m c) (t.val / 16) (256 * (t.val % 16) + r) (q + k) := by
  have hq : q + 2816 ≤ 5632 := hz 2
  have ht := point_lt t
  have hr := r.isLt
  have hk := k.isLt
  have Z : ∀ (s : Fin 256) (p : ℕ), p = 256 * (t.val % 16) + s →
      (show FVec Ideal S1x256x2816 .f32 from View.ld (iblk m c 1 t) (Rect.unit ![0, 0, q] ![1, 256, 2816] hz)) (ix3 0 s k)
        = sentry (argZ m c) (t.val / 16) p (q + k) := by
    rintro s p rfl
    have hs := s.isLt
    refine Eq.trans ?_ ((z_read m c t (ix3 0 s ⟨q + k, by omega⟩) (ix3 ⟨t.val / 16, by omega⟩ ⟨256 * (t.val % 16) + s, by omega⟩
      ⟨q + k, by omega⟩) rfl rfl rfl).trans (sentry_eq _ _ _ _ _ rfl rfl rfl))
    pointwise []
    blk_ext
  have P : ¬(t.val % 16 = 0) →
      (show FVec Ideal S1x1x2816 .f32 from View.ld (iblk m c 2 t) (Rect.unit ![0, 7, q] ![1, 1, 2816] hp)) (ix3 0 0 k)
        = sentry (argZ m c) (t.val / 16) (256 * (t.val % 16) - 1) (q + k) := by
    intro h
    refine Eq.trans ?_ ((prev_read m c t (ix3 0 7 ⟨q + k, by omega⟩) (ix3 ⟨t.val / 16, by omega⟩ ⟨256 * (t.val % 16) - 1, by omega⟩
      ⟨q + k, by omega⟩) rfl (show 256 * (t.val % 16) - 1 = 8 * (32 * (t.val % 16) - 1) + 7 by omega) rfl).trans (sentry_eq _ _ _ _ _ rfl rfl rfl))
    pointwise []
    blk_ext
  have N : ¬(t.val % 16 = 15) →
      (show FVec Ideal S1x1x2816 .f32 from View.ld (iblk m c 3 t) (Rect.unit ![0, 0, q] ![1, 1, 2816] hn)) (ix3 0 0 k)
        = sentry (argZ m c) (t.val / 16) (256 * (t.val % 16) + 256) (q + k) := by
    intro h
    refine Eq.trans ?_ ((next_read m c t (ix3 0 0 ⟨q + k, by omega⟩) (ix3 ⟨t.val / 16, by omega⟩ ⟨256 * (t.val % 16) + 256, by omega⟩
      ⟨q + k, by omega⟩) rfl (show 256 * (t.val % 16) + 256 = 8 * min (32 * (t.val % 16 + 1)) 511 + 0 by omega) rfl).trans (sentry_eq _ _ _ _ _ rfl rfl rfl))
    pointwise []
    blk_ext
  have C : ∀ (j : Fin 3) (h), (show FVec Ideal S1x2816 .f32 from View.ld (iblk m c 4 t) (Rect.unit ![(j : ℕ), q] ![1, 2816] h)) (ix2 0 k)
        = tap (argC m c) j (q + k) := by
    intro j h
    refine Eq.trans ?_ ((c_read m c t (ix2 j ⟨q + k, by omega⟩)).trans (tap_eq _ _ _ _ rfl rfl))
    pointwise []
    blk_ext
  rw [tile, coord_one]
  unfold sconv
  refine congrArg₂ (fun a b : EReal => a + b) (congrArg₂ (fun a b : EReal => a + b) (congrArg₂ (fun a b : EReal => a * b) ?_ (C 0 h0))
    (congrArg₂ (fun a b : EReal => a * b) (Z r _ rfl) (C 1 h1))) (congrArg₂ (fun a b : EReal => a * b) ?_ (C 2 h2))
  · by_cases e : (r : ℕ) = 0
    · rw [if_pos e]
      by_cases h : t.val % 16 = 0
      · rw [if_pos h, if_pos (by omega)]
      · rw [if_neg h, if_neg (by omega)]
        exact (P h).trans (congrArg (fun p => sentry (argZ m c) (t.val / 16) p (q + k)) (by omega))
    · rw [if_neg e, if_neg (by omega)]
      exact Z _ _ (by dsimp only; omega)
  · by_cases e : (r : ℕ) = 255
    · rw [if_pos e]
      by_cases h : t.val % 16 = 15
      · rw [if_pos h, if_pos (by omega)]
      · rw [if_neg h, if_neg (by omega)]
        exact (N h).trans (congrArg (fun p => sentry (argZ m c) (t.val / 16) p (q + k)) (by omega))
    · rw [if_neg e, if_neg (by omega)]
      exact Z _ _ (by dsimp only; omega)

theorem pay8 (z0 z1 z2 z3 z4 z5 W g a s) (x : S1x256x1024.Idx) :
    k0_pay8 (F := Ideal) z0 z1 z2 z3 z4 z5 W g a s x
      = a x + s (ix3 0 0 (x 2)) * ((∑ k : Fin 2816, z0 (ix2 (x 1) k) * Ideal.logistic (z0 (ix2 (x 1) k))
            * k0_pay4 (F := Ideal) z1 z2 z3 z4 z5 (ix2 (x 1) k) * W (ix2 k (x 2)))
          * rinv (fun d => ∑ k : Fin 2816, z0 (ix2 (x 1) k) * Ideal.logistic (z0 (ix2 (x 1) k))
            * k0_pay4 (F := Ideal) z1 z2 z3 z4 z5 (ix2 (x 1) k) * W (ix2 k d)) * g (ix2 0 (x 2))) := by
  unfold rinv
  pointwise [k0_pay8, k0_pay4]

/-- The body's result, from what it reads. -/
theorem body (z0 z1 z2 z3 z4 z5 W g a s) (x : S1x256x1024.Idx) (Z : SY.Idx → EReal) (w : SC.Idx → EReal) (D : SD.Idx → EReal)
    (b p : ℕ) (A M G : EReal) (hg : ∀ k : Fin 2816, z0 (ix2 (x 1) k) = sconv Z w b p k)
    (hv : ∀ k : Fin 2816, k0_pay4 (F := Ideal) z1 z2 z3 z4 z5 (ix2 (x 1) k) = sconv Z w b p (2816 + k))
    (hW : ∀ (k : Fin 2816) (d : Fin 1024), W (ix2 k d) = D (ix2 k d)) (ha : a x = A) (hs : s (ix3 0 0 (x 2)) = M)
    (hG : g (ix2 0 (x 2)) = G) :
    k0_pay8 (F := Ideal) z0 z1 z2 z3 z4 z5 W g a s x = A + M * (sdown Z w D b p (x 2) * rinv (sdown Z w D b p) * G) := by
  rw [pay8, ha, hs, hG]
  have e : ∀ d : Fin 1024, (∑ k : Fin 2816, z0 (ix2 (x 1) k) * Ideal.logistic (z0 (ix2 (x 1) k))
      * k0_pay4 (F := Ideal) z1 z2 z3 z4 z5 (ix2 (x 1) k) * W (ix2 k d)) = sdown Z w D b p d := fun d =>
    Finset.sum_congr rfl fun k _ => by rw [hg, hv, hW]
  exact congrArg (fun r => A + M * r) (congrArg (fun r => r * G) (congrArg₂ (fun r q : EReal => r * q) (e (x 2)) (congrArg rinv (funext e))))

theorem at_zero (c : Dev nD) (t : Fin cfg0.N) (r : Fin 256) (k : Fin 2816) (b p : ℕ) (hb : b = t.val / 16)
    (hp : p = 256 * (t.val % 16) + r) :
    k0_pay4 (F := Ideal) (k0_pay1 (View.ld (iblk m c 1 t) r0_0))
      (k0_pay2 (grid0.coords t) (View.ld (iblk m c 1 t) r0_0) (View.ld (iblk m c 3 t) r0_2))
      (k0_pay3 (grid0.coords t) (View.ld (iblk m c 1 t) r0_0) (View.ld (iblk m c 2 t) r0_1) (View.ld (iblk m c 4 t) r0_3))
      (View.ld (iblk m c 4 t) r0_4) (View.ld (iblk m c 4 t) r0_5) (ix2 r k)
      = sconv (argZ m c) (argC m c) b p k := by
  subst hb hp
  refine (conv_tile m c t 0 inb_S1x256x5632_S1x256x2816_0_0_0 inb_S1x8x5632_S1x1x2816_0_7_0 inb_S1x8x5632_S1x1x2816_0_0_0
        inb_S3x5632_S1x2816_0_0 inb_S3x5632_S1x2816_1_0 inb_S3x5632_S1x2816_2_0 r k).trans ?_
  rw [Nat.zero_add]

theorem at_half (c : Dev nD) (t : Fin cfg0.N) (r : Fin 256) (k : Fin 2816) (b p : ℕ) (hb : b = t.val / 16)
    (hp : p = 256 * (t.val % 16) + r) :
    k0_pay4 (F := Ideal) (k0_pay5 (View.ld (iblk m c 1 t) r0_6))
      (k0_pay6
        (Scalar.ori (Scalar.cmpi .eq (BitVec.ofNat 32 (grid0.coords t 1)) 4294967295#32)
          (Scalar.cmpi .eq (BitVec.ofNat 32 (grid0.coords t 1)) 15#32))
        (iota Kind.tc S256x1 32 [0] iota_S256x1_d0_w32) (View.ld (iblk m c 1 t) r0_6) (View.ld (iblk m c 3 t) r0_8))
      (k0_pay7
        (Scalar.ori (Scalar.cmpi .eq (BitVec.ofNat 32 (grid0.coords t 1)) 0#32)
          (Scalar.cmpi .eq (BitVec.ofNat 32 (grid0.coords t 1)) 0#32))
        (iota Kind.tc S256x1 32 [0] iota_S256x1_d0_w32) (View.ld (iblk m c 1 t) r0_6) (View.ld (iblk m c 2 t) r0_7)
        (View.ld (iblk m c 4 t) r0_9))
      (View.ld (iblk m c 4 t) r0_10) (View.ld (iblk m c 4 t) r0_11) (ix2 r k)
      = sconv (argZ m c) (argC m c) b p (2816 + k) := by
  subst hb hp
  exact conv_tile m c t 2816 inb_S1x256x5632_S1x256x2816_0_0_2816 inb_S1x8x5632_S1x1x2816_0_7_2816
        inb_S1x8x5632_S1x1x2816_0_0_2816 inb_S3x5632_S1x2816_0_2816 inb_S3x5632_S1x2816_1_2816 inb_S3x5632_S1x2816_2_2816 r k

theorem ld_d (c : Dev nD) (t : Fin cfg0.N) (k : Fin 2816) (d : Fin 1024) :
    (show FVec Ideal S2816x1024 .bf16 from View.ld (iblk m c 7 t) r0_12) (ix2 k d) = argD m c (ix2 k d) := by
  refine Eq.trans ?_ (d_read m c t (ix2 k d))
  pointwise []
  blk_ext

theorem ld_a (c : Dev nD) (t : Fin cfg0.N) (x : S1x256x1024.Idx) (i : S8x4096x1024.Idx) (h0 : (i 0 : ℕ) = t.val / 16)
    (h1 : (i 1 : ℕ) = 256 * (t.val % 16) + x 1) (h2 : (i 2 : ℕ) = x 2) :
    (show FVec Ideal S1x256x1024 .f32 from View.ld (iblk m c 0 t) r0_14) x = argA m c i := by
  refine Eq.trans ?_ (a_read m c t x i h0 h1 h2)
  pointwise []
  blk_ext

theorem ld_m (c : Dev nD) (t : Fin cfg0.N) (k : Fin 1024) (n : ℕ) (hn : n / 256 = t.val) :
    (show FVec Ideal S1x1x1024 .f32 from View.ld (iblk m c 5 t) r0_15) (ix3 0 0 k) = spart (argM m c) 5 n k := by
  have ht := point_lt t
  have hk := k.isLt
  refine Eq.trans ?_ ((m_read m c t (ix3 0 5 k) (ix2 ⟨srow t.val, ?_⟩ ⟨1024 * 5 + k, by omega⟩) rfl rfl).trans
    (spart_eq (argM m c) 5 n k _ ?_ rfl))
  · pointwise []
    blk_ext
  · unfold srow
    omega
  · rw [hn]
    rfl

theorem ld_g (c : Dev nD) (t : Fin cfg0.N) (k : Fin 1024) :
    (show FVec Ideal S1x1024 .f32 from View.ld (iblk m c 6 t) r0_13) (ix2 0 k) = argG m c (ix1 k) := by
  refine Eq.trans ?_ (g_read m c t (ix2 0 k) (ix1 k) rfl)
  pointwise []
  blk_ext

/-- Each grid point's block is the result's block. -/
theorem block (c : Dev nD) (t : Fin cfg0.N) (y : S1x256x1024.Idx) (i : S8x4096x1024.Idx) (e0 : (i 0 : ℕ) = t.val / 16)
    (e1 : (i 1 : ℕ) = 256 * (t.val % 16) + y 1) (e2 : (i 2 : ℕ) = y 2) :
    (show FVec Ideal S1x256x1024 .f32 from (dats m 0 c).after 8 t) y = sresult (argA m c) (argZ m c) (argC m c) (argM m c) (argG m c) (argD m c) i := by
  have ht := point_lt t
  rw [after0_8]
  unfold_out out0_8
  canon_tiles x h
  have hi : i 2 = x 2 := Fin.ext (e2.trans h2)
  unfold sresult
  rw [hi]
  have ep : (i 1 : ℕ) = 256 * (t.val % 16) + x 1 := e1.trans (congrArg _ h1)
  exact body _ _ _ _ _ _ _ _ _ _ x (argZ m c) (argC m c) (argD m c) (i 0) (i 1) _ _ _ (fun k => at_zero m c t (x 1) k _ _ e0 ep)
    (fun k => at_half m c t (x 1) k _ _ e0 ep) (fun k d => ld_d m c t k d) (ld_a m c t x i e0 ep (e2.trans h2))
    (ld_m m c t (x 2) _ (by omega)) (ld_g m c t (x 2))

/-- The call's result. -/
theorem final (c : Dev nD) : (dats m 0 c).arrAt 8 cfg0.N
    = sresult (argA m c) (argZ m c) (argC m c) (argM m c) (argG m c) (argD m c) := by
  refine (dats m 0 c).arrAt_eq_of_covers 8 _ (by decide +kernel) fun t _ y => ?_
  blk_simp
  exact block m c t y _ (by blk_simp [idx t]) (by blk_simp [idx t]; omega) (by blk_simp [idx t])

end Cert.Kernel7Ideal.Hand

end
-- ==== Proof.TailRefLate.lean ====
/- The reference of the second half of the second layer's feed-forward spart, element by element. -/
module

public import proofs.«01_k».proof.Proof.Gen.Reference7Ideal.Read
public import proofs.«01_k».proof.Proof.Late
public import Idealize.ShloMosaic.Lib.Pointwise

@[expose] public section

set_option maxRecDepth 16384

noncomputable section

namespace Cert.Reference7Ideal.Hand

open Idealize.ShloMosaic Cert.Reference7Ideal Cert.Reference7Ideal.Gen Cert.Reference7Ideal.Read Cert.Norm Cert.Conv Cert.Late

variable (A : FVec Ideal S8x4096x1024 .f32) (Z : FVec Ideal S8x4096x5632 .f32) (w : FVec Ideal S3x5632 .f32)
  (M : FVec Ideal S16x6144 .f32) (g : FVec Ideal S1024 .f32) (D : FVec Ideal S2816x1024 .f32)

/-- The padding's value. -/
theorem pad_zero : (FloatOps.sitofp FTy.f32 0#32 : Ideal .f32) = (0 : EReal) := by
  show (((0#32 : BitVec 32).toInt : ℝ) : EReal) = 0
  norm_num

/-- The convolution over a sequence's own positions. -/
theorem lat_conv (i : S8x4096x5632.Idx) : val_main_v17 (F := Ideal) Z w i = sconv Z w (i 0) (i 1) (i 2) := by
  pointwise [val_main_c, val_main_call0_v0, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17]
  have b0 : (i 0 : ℕ) < 8 := (i 0).isLt
  have b1 : (i 1 : ℕ) < 4096 := (i 1).isLt
  have b2 : (i 2 : ℕ) < 5632 := (i 2).isLt
  unfold sconv
  refine congrArg₂ (fun a b : EReal => a + b) (congrArg₂ (fun a b : EReal => a + b) (congrArg₂ (fun a b : EReal => a * b) ?_ (tap_eq w _ _ _ rfl rfl))
    (congrArg₂ (fun a b : EReal => a * b) (sentry_eq Z _ _ _ _ rfl rfl rfl) (tap_eq w _ _ _ rfl rfl)))
    (congrArg₂ (fun a b : EReal => a * b) ?_ (tap_eq w _ _ _ rfl rfl))
  · by_cases h : (i 1 : ℕ) = 0
    · rw [dif_neg (by omega), if_pos (by omega)]
      exact pad_zero
    · rw [dif_pos (by omega), if_neg (by omega)]
      refine sentry_eq Z _ _ _ _ rfl ?_ rfl
      rfl
  · by_cases h : (i 1 : ℕ) = 4095
    · rw [dif_neg (by omega), if_pos (by omega)]
      exact pad_zero
    · rw [dif_pos (by omega), if_neg (by omega)]
      refine sentry_eq Z _ _ _ _ rfl ?_ rfl
      show 2 + (i 1 : ℕ) - 1 = i 1 + 1
      omega

/-- The second matrix applied to the gated channels. -/
theorem lat_down (i : S8x4096x1024.Idx) : val_main_v22 (F := Ideal) Z w D i = sdown Z w D (i 0) (i 1) (i 2) := by
  pointwise [val_main_call1_v0, val_main_call1_v1, val_main_call1_cst, val_main_call1_v2, val_main_call1_v3, val_main_call1_cst_0, val_main_call1_v4, val_main_call1_v5, val_main_v18, val_main_v19, val_main_v20, val_main_v21, val_main_v22]
  refine Finset.sum_congr rfl fun c _ => ?_
  refine congrArg₂ (fun a b : EReal => a * b) ?_ rfl
  have e := lat_conv Z w (ix3 (i 0) (i 1) ⟨(c : ℕ), by have := c.isLt; omega⟩)
  exact congrArg₂ (fun a b : EReal => a * b) (congrArg₂ (fun a b : EReal => a * b) e (congrArg Ideal.logistic e)) (lat_conv Z w _)

/-- The modulation's last spart, for every token. -/
theorem mod_part (i : S8x4096x1024.Idx) : val_main_v38 (F := Ideal) M i = spart M 5 (4096 * (i 0 : ℕ) + i 1) (i 2) := by
  pointwise [val_main_v23, val_main_v24, val_main_v38]
  have b0 : (i 0 : ℕ) < 8 := (i 0).isLt
  have b1 : (i 1 : ℕ) < 4096 := (i 1).isLt
  refine spart_eq M _ _ _ _ ?_ rfl
  unfold srow
  show (i 0 : ℕ) = _
  omega

/-- The reference's result. -/
theorem whole (i : S8x4096x1024.Idx) : val_main_v40 (F := Ideal) A Z w M g D i = sresult A Z w M g D i := by
  pointwise [val_main_cst, val_main_cst_0, val_main_cst_1, val_main_v25, val_main_v26, val_main_v27, val_main_v28, val_main_v29, val_main_v30, val_main_v31, val_main_v32, val_main_v33, val_main_v34, val_main_v35, val_main_v36, val_main_v37, val_main_v39, val_main_v40]
  rw [mod_part, lat_down]
  unfold sresult rinv
  refine congrArg (fun r : EReal => A i + spart M 5 (4096 * (i 0 : ℕ) + i 1) (i 2) * (sdown Z w D (i 0) (i 1) (i 2)
    * Ideal.rsqrt (Ideal.div r (Ideal.ofBits .f32 1149239296#32) + Ideal.ofBits .f32 897988541#32) * g (ix1 (i 2)))) ?_
  exact Finset.sum_congr rfl fun d _ => congrArg (fun a : EReal => a * a) (lat_down Z w D _)

end Cert.Reference7Ideal.Hand

end
-- ==== Proof.Merge.lean ====
/- The merge of a layer's three branches: the normalised RWKV-7 heads, their bonus and gate; the branches' projections, gated;
   the last projection. The value both programs' results are shown to have, and the sums over a head. -/
module

public import proofs.«01_k».proof.Proof.Conv
public import proofs.«01_k».proof.Proof.Spec

@[expose] public section

set_option maxRecDepth 16384

noncomputable section

namespace Cert.Merge

open Idealize.ShloMosaic Cert.Norm Cert.Softmax Cert.Spec

/-- A token's inputs: the heads' outputs, receptances, values, the two directions' keys; the attention's and the
    convolution's outputs; the three gates; the low-rank gate code. -/
structure Row where
  y : Fin 1024 → EReal
  r : Fin 1024 → EReal
  v : Fin 1024 → EReal
  kf : Fin 1024 → EReal
  kb : Fin 1024 → EReal
  att : Fin 1024 → EReal
  conv : Fin 1024 → EReal
  ga : Fin 1024 → EReal
  gc : Fin 1024 → EReal
  gr : Fin 1024 → EReal
  lg : Fin 128 → EReal

/-- The layer's weights. -/
structure Wts where
  gg : Fin 1024 → EReal
  gb : Fin 1024 → EReal
  rk : Fin 1024 → EReal
  up : Fin 128 → Fin 1024 → EReal
  wa : Fin 1024 → Fin 1024 → EReal
  wc : Fin 1024 → Fin 1024 → EReal
  wr : Fin 1024 → Fin 1024 → EReal
  wo : Fin 1024 → Fin 1024 → EReal
  g : Fin 1024 → EReal

/-- Channel `c` of the head of channel `j`. -/
def chan (j : Fin 1024) (c : Fin 64) : Fin 1024 := ⟨64 * ((j : ℕ) / 64) + c, by omega⟩

/-- The sum over the head of channel `j`. -/
def hsum (f : Fin 1024 → EReal) (j : Fin 1024) : EReal := ∑ c : Fin 64, f (chan j c)

/-- The mean over the head. -/
def mean (f : Fin 1024 → EReal) (j : Fin 1024) : EReal := Ideal.div (hsum f j) (Ideal.ofBits .f32 0x42800000#32)

/-- The difference from the head's mean. -/
def dev (f : Fin 1024 → EReal) (j : Fin 1024) : EReal := f j - mean f j

/-- The head's outputs normalised, scaled and shifted. -/
def normed (R : Row) (W : Wts) (j : Fin 1024) : EReal :=
  dev R.y j * Ideal.rsqrt (mean (fun i => dev R.y i * dev R.y i) j + Ideal.ofBits .f32 0x3A27C5AC#32) * W.gg j + W.gb j

/-- The bonus of the token itself. -/
def bonus (R : Row) (W : Wts) (j : Fin 1024) : EReal := hsum (fun i => R.r i * (R.kf i + R.kb i) * W.rk i) j * R.v j

/-- The third branch's output. -/
def rwkv (R : Row) (W : Wts) (j : Fin 1024) : EReal :=
  (normed R W j + bonus R W j) * ∑ c : Fin 128, Ideal.logistic (R.lg c) * W.up c j

/-- The three branches, gated and added. -/
def mixed (R : Row) (W : Wts) (j : Fin 1024) : EReal :=
  Ideal.logistic (R.ga j) * (∑ k : Fin 1024, R.att k * W.wa k j) + Ideal.logistic (R.gc j) * (∑ k : Fin 1024, R.conv k * W.wc k j)
    + Ideal.logistic (R.gr j) * (∑ k : Fin 1024, rwkv R W k * W.wr k j)

/-- The last projection. -/
def out (R : Row) (W : Wts) (j : Fin 1024) : EReal := ∑ k : Fin 1024, mixed R W k * W.wo k j

/-- The residual with the normalised result, scaled by a part of the modulation. -/
def result (R : Row) (W : Wts) (A M : EReal) (j : Fin 1024) : EReal := A + M * (out R W j * rinv (out R W) * W.g j)

/-- The heads' inputs by direction; the projection's rows; the bonus' weights; the square weights; the gate's weights. -/
abbrev SY : Shape := ⟨4, ![2, 8, 4352, 1024]⟩
abbrev SP : Shape := ⟨3, ![8, 4352, 10240]⟩
abbrev SR : Shape := ⟨2, ![16, 64]⟩
abbrev SW : Shape := ⟨2, ![1024, 1024]⟩
abbrev SU : Shape := ⟨2, ![128, 1024]⟩

/-- The row of token `p` of sequence `b`, with the attention's and the convolution's rows as given. -/
def rowOf (att conv : Fin 1024 → EReal) (Y : SY.Idx → EReal) (r v : SA.Idx → EReal) (K : SY.Idx → EReal) (P : SP.Idx → EReal)
    (b : Fin 8) (p : Fin 4352) : Row where
  y k := Y (ix4 0 b p k) + Y (ix4 1 b p k)
  r k := r (ix3 b p k)
  v k := v (ix3 b p k)
  kf k := K (ix4 0 b p k)
  kb k := K (ix4 1 b p k)
  att := att
  conv := conv
  ga k := P (ix3 b p ⟨7168 + k, by omega⟩)
  gc k := P (ix3 b p ⟨8192 + k, by omega⟩)
  gr k := P (ix3 b p ⟨9216 + k, by omega⟩)
  lg k := P (ix3 b p ⟨1792 + k, by omega⟩)

/-- The weights from the arrays. -/
def wtsOf (g gg gb : SG.Idx → EReal) (rk : SR.Idx → EReal) (U : SU.Idx → EReal) (wa wc wr wo : SW.Idx → EReal) : Wts where
  gg k := gg (ix1 k)
  gb k := gb (ix1 k)
  rk k := rk (ix2 ⟨(k : ℕ) / 64, by omega⟩ ⟨(k : ℕ) % 64, by omega⟩)
  up k j := U (ix2 k j)
  wa k j := wa (ix2 k j)
  wc k j := wc (ix2 k j)
  wr k j := wr (ix2 k j)
  wo k j := wo (ix2 k j)
  g k := g (ix1 k)

/-- Every element is a real. -/
def Real1 {n : ℕ} (f : Fin n → EReal) : Prop := ∀ i, f i = ((f i).toReal : EReal)

theorem real1_coe {n : ℕ} (f : Fin n → ℝ) : Real1 (fun i => (f i : EReal)) := fun _ => by rw [EReal.toReal_coe]

theorem real1_add {n : ℕ} {f g : Fin n → EReal} (hf : Real1 f) (hg : Real1 g) : Real1 (fun i => f i + g i) := fun i => by
  show f i + g i = ((f i + g i).toReal : EReal)
  rw [hf i, hg i, ← EReal.coe_add, EReal.toReal_coe]

theorem real1_mul {n : ℕ} {f g : Fin n → EReal} (hf : Real1 f) (hg : Real1 g) : Real1 (fun i => f i * g i) := fun i => by
  show f i * g i = ((f i * g i).toReal : EReal)
  rw [hf i, hg i, ← EReal.coe_mul, EReal.toReal_coe]

theorem hsum_coe (f : Fin 1024 → ℝ) (j : Fin 1024) : hsum (fun i => (f i : EReal)) j = ((∑ c : Fin 64, f (chan j c) : ℝ) : EReal) :=
  coe_sum _ _

theorem bits_64 : Ideal.ofBits .f32 0x42800000#32 = ((64 : ℝ) : EReal) := by
  simp [Ideal.ofBits, Ideal.ieee]
  rw [← EReal.coe_mul]
  norm_num

theorem bits_inv : Ideal.ofBits .f32 0x3C800000#32 = ((64⁻¹ : ℝ) : EReal) := by
  simp [Ideal.ofBits, Ideal.ieee]
  rw [← EReal.coe_mul]
  norm_num

/-- The mean of reals, by the product with a sixty-fourth. -/
theorem mean_mul (f : Fin 1024 → EReal) (hf : Real1 f) (j : Fin 1024) : hsum f j * Ideal.ofBits .f32 0x3C800000#32 = mean f j := by
  obtain ⟨ρ, rfl⟩ : ∃ ρ : Fin 1024 → ℝ, f = fun i => (ρ i : EReal) := ⟨fun i => (f i).toReal, funext hf⟩
  unfold mean
  rw [hsum_coe, bits_64, bits_inv, div_real _ (by norm_num)]
  rw [mul_comm]

theorem real1_dev (f : Fin 1024 → EReal) (hf : Real1 f) : Real1 (dev f) := by
  obtain ⟨ρ, rfl⟩ : ∃ ρ : Fin 1024 → ℝ, f = fun i => (ρ i : EReal) := ⟨fun i => (f i).toReal, funext hf⟩
  intro j
  unfold dev
  rw [← mean_mul _ hf, hsum_coe, bits_inv, ← EReal.coe_mul, ← EReal.coe_sub, EReal.toReal_coe]

/-- A sum over the channels of one head. -/
theorem sum_head (ρ : Fin 1024 → ℝ) (j : Fin 1024) :
    (∑ i : Fin 1024, if (i : ℕ) / 64 = (j : ℕ) / 64 then ρ i else 0) = ∑ c : Fin 64, ρ (chan j c) := by
  refine (Fintype.sum_of_injective (chan j) (fun a b h => ?_) _ _ (fun i hi => ?_) (fun c => ?_)).symm
  · have := congrArg Fin.val h
    simp only [chan] at this
    exact Fin.ext (by omega)
  · refine if_neg fun h => hi ⟨⟨(i : ℕ) % 64, by omega⟩, Fin.ext ?_⟩
    simp only [chan]
    omega
  · refine (if_pos ?_).symm
    simp only [chan]
    omega

/-- The sum over a head by two products with the heads' indicator matrix, each factor split into a leading part and the rest. -/
theorem head_sum (x : Fin 1024 → EReal) (hx : Real1 x) (E : Fin 1024 → Fin 128 → EReal) (T : Fin 128 → Fin 1024 → EReal)
    (hE : ∀ i h, E i h = if (i : ℕ) / 64 = (h : ℕ) then 1 else 0) (hT : ∀ h i, T h i = if (i : ℕ) / 64 = (h : ℕ) then 1 else 0)
    (j : Fin 1024) :
    (∑ h : Fin 128, ((∑ i : Fin 1024, x i * E i h) + ∑ i : Fin 1024, (x i - x i) * E i h) * T h j)
      + (∑ h : Fin 128, (((∑ i : Fin 1024, x i * E i h) + ∑ i : Fin 1024, (x i - x i) * E i h)
        - ((∑ i : Fin 1024, x i * E i h) + ∑ i : Fin 1024, (x i - x i) * E i h)) * T h j) = hsum x j := by
  obtain ⟨ρ, rfl⟩ : ∃ ρ : Fin 1024 → ℝ, x = fun i => (ρ i : EReal) := ⟨fun i => (x i).toReal, funext hx⟩
  have s : ∀ h : Fin 128, (∑ i : Fin 1024, (ρ i : EReal) * E i h) + ∑ i : Fin 1024, ((ρ i : EReal) - (ρ i : EReal)) * E i h
      = ((∑ i : Fin 1024, if (i : ℕ) / 64 = (h : ℕ) then ρ i else 0 : ℝ) : EReal) := by
    intro h
    have e : ∑ i : Fin 1024, ((ρ i : EReal) - (ρ i : EReal)) * E i h = 0 := Finset.sum_eq_zero fun i _ => by
      rw [← EReal.coe_sub, sub_self, EReal.coe_zero, zero_mul]
    rw [e, add_zero, ← coe_sum]
    refine Finset.sum_congr rfl fun i _ => ?_
    rw [hE]
    by_cases c : (i : ℕ) / 64 = (h : ℕ)
    · rw [if_pos c, if_pos c, mul_one]
    · rw [if_neg c, if_neg c, mul_zero, EReal.coe_zero]
  have z : ∑ h : Fin 128, (((∑ i : Fin 1024, (ρ i : EReal) * E i h) + ∑ i : Fin 1024, ((ρ i : EReal) - (ρ i : EReal)) * E i h)
        - ((∑ i : Fin 1024, (ρ i : EReal) * E i h) + ∑ i : Fin 1024, ((ρ i : EReal) - (ρ i : EReal)) * E i h)) * T h j = 0 :=
    Finset.sum_eq_zero fun h _ => by
      rw [s h, ← EReal.coe_sub, sub_self, EReal.coe_zero, zero_mul]
  rw [z, add_zero, hsum_coe, ← sum_head]
  refine (Finset.sum_eq_single (⟨(j : ℕ) / 64, by omega⟩ : Fin 128) (fun h _ hh => ?_) (fun h => absurd (Finset.mem_univ _) h)).trans ?_
  · rw [hT, if_neg (fun c => hh (Fin.ext c.symm)), mul_zero]
  · rw [s, hT, if_pos rfl, mul_one]

/-- The bonus' sum, the two directions' keys apart. -/
theorem bonus_split (r kf kb w : Fin 1024 → EReal) (hr : Real1 r) (hf : Real1 kf) (hb : Real1 kb) (hw : Real1 w) (j : Fin 1024) :
    hsum (fun i => r i * kf i * w i) j + hsum (fun i => r i * kb i * w i) j = hsum (fun i => r i * (kf i + kb i) * w i) j := by
  unfold hsum
  rw [← Finset.sum_add_distrib]
  refine Finset.sum_congr rfl fun c _ => ?_
  show r (chan j c) * kf (chan j c) * w (chan j c) + r (chan j c) * kb (chan j c) * w (chan j c)
    = r (chan j c) * (kf (chan j c) + kb (chan j c)) * w (chan j c)
  rw [hr, hf, hb, hw, ← EReal.coe_add]
  simp only [← EReal.coe_mul]
  rw [← EReal.coe_add]
  exact congrArg _ (by ring)

end Cert.Merge

end
-- ==== Proof.MergeHost.lean ====
/- The merge: what the host leaves for its call. -/
module

public import proofs.«01_k».proof.Proof.Gen.Kernel8Ideal.Value
public import Idealize.ShloMosaic.Lib.Pipeline.ValueKit
public import proofs.«01_k».proof.Proof.Merge

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Cert.Kernel8Ideal.Facts Cert.Norm Cert.Merge

variable (m : (ℓ : Loc nD τ sig) → Buf (Elt Ideal) ℓ)

abbrev argA (c : Dev nD) : FVec Ideal S8x4352x1024 .f32 := m ((c : Thread nD τ).loc main_arg0)
abbrev argT (c : Dev nD) : FVec Ideal S8x4352x1024 .f32 := m ((c : Thread nD τ).loc main_arg1)
abbrev argC (c : Dev nD) : FVec Ideal S8x4352x1024 .f32 := m ((c : Thread nD τ).loc main_arg2)
abbrev argY (c : Dev nD) : FVec Ideal S2x8x4352x1024 .f32 := m ((c : Thread nD τ).loc main_arg3)
abbrev argR (c : Dev nD) : FVec Ideal S8x4352x1024 .f32 := m ((c : Thread nD τ).loc main_arg4)
abbrev argV (c : Dev nD) : FVec Ideal S8x4352x1024 .f32 := m ((c : Thread nD τ).loc main_arg5)
abbrev argK (c : Dev nD) : FVec Ideal S2x8x4352x1024 .f32 := m ((c : Thread nD τ).loc main_arg6)
abbrev argP (c : Dev nD) : FVec Ideal S8x4352x10240 .f32 := m ((c : Thread nD τ).loc main_arg7)
abbrev argM (c : Dev nD) : FVec Ideal S16x6144 .f32 := m ((c : Thread nD τ).loc main_arg8)
abbrev argG (c : Dev nD) : FVec Ideal S1024 .f32 := m ((c : Thread nD τ).loc main_arg9)
abbrev argGg (c : Dev nD) : FVec Ideal S1024 .f32 := m ((c : Thread nD τ).loc main_arg10)
abbrev argGb (c : Dev nD) : FVec Ideal S1024 .f32 := m ((c : Thread nD τ).loc main_arg11)
abbrev argRk (c : Dev nD) : FVec Ideal S16x64 .f32 := m ((c : Thread nD τ).loc main_arg12)
abbrev argU (c : Dev nD) : FVec Ideal S128x1024 .f32 := m ((c : Thread nD τ).loc main_arg13)
abbrev argWa (c : Dev nD) : FVec Ideal S1024x1024 .f32 := m ((c : Thread nD τ).loc main_arg14)
abbrev argWc (c : Dev nD) : FVec Ideal S1024x1024 .f32 := m ((c : Thread nD τ).loc main_arg15)
abbrev argWr (c : Dev nD) : FVec Ideal S1024x1024 .f32 := m ((c : Thread nD τ).loc main_arg16)
abbrev argWo (c : Dev nD) : FVec Ideal S1024x1024 .f32 := m ((c : Thread nD τ).loc main_arg17)

/-- The head of a channel, as the host finds it: the quotient by 64, rounded down. -/
theorem floor_head : ∀ i : Fin 1024, Scalar.select
    (IntOp.andi
      (IntOp.cmpi .ne
        (if BitVec.ofNat 32 (i : ℕ) = 0 then (0 : BitVec 32) else if (BitVec.ofNat 32 (i : ℕ)).msb = true then -1 else 1)
        (if 64#32 = 0 then (0 : BitVec 32) else if BitVec.msb 64#32 = true then -1 else 1))
      (IntOp.cmpi .ne (IntOp.remsi ArithUnit.host (BitVec.ofNat 32 (i : ℕ)) 64#32) 0#32))
    (IntOp.subi (IntOp.divsi ArithUnit.host (BitVec.ofNat 32 (i : ℕ)) 64#32) 1#32)
    (IntOp.divsi ArithUnit.host (BitVec.ofNat 32 (i : ℕ)) 64#32) = BitVec.ofNat 32 ((i : ℕ) / 64) := by
  decide +kernel

theorem same_head : ∀ (a : Fin 16) (h : Fin 128), IntOp.cmpi .eq (BitVec.ofNat 32 (a : ℕ)) (BitVec.ofNat 32 (h : ℕ))
    = if (a : ℕ) = (h : ℕ) then 1#1 else 0#1 := by
  decide +kernel

theorem one_bit (p : Prop) [Decidable p] :
    (FloatOps.uitofp FTy.bf16 (if p then 1#1 else 0#1) : Ideal .bf16) = if p then (1 : EReal) else 0 := by
  by_cases h : p
  · rw [if_pos h, if_pos h]
    show (((1#1 : BitVec 1).toNat : ℝ) : EReal) = 1
    simp
  · rw [if_neg h, if_neg h]
    show (((0#1 : BitVec 1).toNat : ℝ) : EReal) = 0
    simp

/-- The heads' indicator matrix. -/
theorem V8 (c : Dev nD) (i : Fin 1024) (h : Fin 128) :
    (show FVec Ideal S1024x128 .bf16 from V m c main_v8) (ix2 i h) = if (i : ℕ) / 64 = (h : ℕ) then 1 else 0 := by
  have hi := i.isLt
  refine Eq.trans ?_ (one_bit ((i : ℕ) / 64 = (h : ℕ)))
  rw [← same_head ⟨(i : ℕ) / 64, by omega⟩ h, ← floor_head i]
  unfold V
  simp only [hostOps0, hostOps0_1, hostOps0_2, List.flatten_cons, List.flatten_nil, List.append_nil, List.cons_append,
    List.nil_append]
  after_results
  simp -implicitDefEqProofs only [StableHlo.TRef.toBuf, StableHlo.TRef.ofBuf, cast_cast, cast_eq]
  pointwise []
  rfl

/-- Its transpose. -/
theorem V9 (c : Dev nD) (h : Fin 128) (i : Fin 1024) :
    (show FVec Ideal S128x1024 .bf16 from V m c main_v9) (ix2 h i) = if (i : ℕ) / 64 = (h : ℕ) then 1 else 0 := by
  have hi := i.isLt
  refine Eq.trans ?_ (one_bit ((i : ℕ) / 64 = (h : ℕ)))
  rw [← same_head ⟨(i : ℕ) / 64, by omega⟩ h, ← floor_head i]
  unfold V
  simp only [hostOps0, hostOps0_1, hostOps0_2, List.flatten_cons, List.flatten_nil, List.append_nil, List.cons_append,
    List.nil_append]
  after_results
  simp -implicitDefEqProofs only [StableHlo.TRef.toBuf, StableHlo.TRef.ofBuf, cast_cast, cast_eq]
  pointwise []
  rfl

theorem V10 (c : Dev nD) : V m c main_v10 = shapeCast S16x6x1024 (argM m c) shapeCasts_S16x6144_S16x6x1024 := by
  unfold V
  simp only [hostOps0, hostOps0_1, hostOps0_2, List.flatten_cons, List.flatten_nil, List.append_nil, List.cons_append,
    List.nil_append]
  after_results
  rfl

theorem V18 (c : Dev nD) : V m c main_v18 = shapeCast S1x1024 (argG m c) shapeCasts_S1024_S1x1024 := by
  unfold V
  simp only [hostOps0, hostOps0_1, hostOps0_2, List.flatten_cons, List.flatten_nil, List.append_nil, List.cons_append,
    List.nil_append]
  after_results
  rfl

theorem V19 (c : Dev nD) : V m c main_v19 = shapeCast S1x1024 (argGg m c) shapeCasts_S1024_S1x1024 := by
  unfold V
  simp only [hostOps0, hostOps0_1, hostOps0_2, List.flatten_cons, List.flatten_nil, List.append_nil, List.cons_append,
    List.nil_append]
  after_results
  rfl

theorem V20 (c : Dev nD) : V m c main_v20 = shapeCast S1x1024 (argGb m c) shapeCasts_S1024_S1x1024 := by
  unfold V
  simp only [hostOps0, hostOps0_1, hostOps0_2, List.flatten_cons, List.flatten_nil, List.append_nil, List.cons_append,
    List.nil_append]
  after_results
  rfl

theorem V21 (c : Dev nD) : V m c main_v21 = shapeCast S1x1024 (argRk m c) shapeCasts_S16x64_S1x1024 := by
  unfold V
  simp only [hostOps0, hostOps0_1, hostOps0_2, List.flatten_cons, List.flatten_nil, List.append_nil, List.cons_append,
    List.nil_append]
  after_results
  rfl

end Cert.Kernel8Ideal.Hand

end
-- ==== Proof.MergeRead.lean ====
/- The merge: what each grid point reads. -/
module

public import proofs.«01_k».proof.Proof.Gen.Kernel8Ideal.Value
public import Idealize.ShloMosaic.Lib.Pipeline.ValueKit
public import proofs.«01_k».proof.Proof.MergeHost

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Cert.Kernel8Ideal.Facts Cert.Norm Cert.Merge

variable (m : (ℓ : Loc nD τ sig) → Buf (Elt Ideal) ℓ)

theorem idx : ∀ t : Fin cfg0.N, win0_0.index t = ![t.val / 17, t.val % 17, 0]
    ∧ win0_1.index t = ![t.val / 17, t.val % 17, 0]
    ∧ win0_2.index t = ![t.val / 17, t.val % 17, 0]
    ∧ win0_3.index t = ![0, t.val / 17, t.val % 17, 0]
    ∧ win0_4.index t = ![t.val / 17, t.val % 17, 0]
    ∧ win0_5.index t = ![t.val / 17, t.val % 17, 0]
    ∧ win0_6.index t = ![0, t.val / 17, t.val % 17, 0]
    ∧ win0_7.index t = ![t.val / 17, t.val % 17, 3]
    ∧ win0_8.index t = ![t.val / 17, t.val % 17, 7]
    ∧ win0_9.index t = ![t.val / 17, t.val % 17, 8]
    ∧ win0_10.index t = ![t.val / 17, t.val % 17, 9]
    ∧ win0_11.index t = ![mrow t.val, 0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![t.val / 17, t.val % 17, 0] :=
  (by decide +kernel : ∀ t : Fin grid0.N, _)

theorem point_lt (t : Fin cfg0.N) : t.val < 136 := lt_of_lt_of_eq t.isLt N_0

theorem a_read (c : Dev nD) (t : Fin cfg0.N) (x : S1x256x1024.Idx) (i : S8x4352x1024.Idx) (h0 : (i 0 : ℕ) = t.val / 17)
    (h1 : (i 1 : ℕ) = 256 * (t.val % 17) + x 1) (h2 : (i 2 : ℕ) = x 2) :
    (show FVec Ideal S1x256x1024 .f32 from iblk m c 0 t) x = argA m c i := by
  blk_point [iblk, V, idx t]

theorem t_read (c : Dev nD) (t : Fin cfg0.N) (x : S1x256x1024.Idx) (i : S8x4352x1024.Idx) (h0 : (i 0 : ℕ) = t.val / 17)
    (h1 : (i 1 : ℕ) = 256 * (t.val % 17) + x 1) (h2 : (i 2 : ℕ) = x 2) :
    (show FVec Ideal S1x256x1024 .bf16 from iblk m c 1 t) x = argT m c i := by
  blk_point [iblk, V, idx t]

theorem c_read (c : Dev nD) (t : Fin cfg0.N) (x : S1x256x1024.Idx) (i : S8x4352x1024.Idx) (h0 : (i 0 : ℕ) = t.val / 17)
    (h1 : (i 1 : ℕ) = 256 * (t.val % 17) + x 1) (h2 : (i 2 : ℕ) = x 2) :
    (show FVec Ideal S1x256x1024 .bf16 from iblk m c 2 t) x = argC m c i := by
  blk_point [iblk, V, idx t]

theorem r_read (c : Dev nD) (t : Fin cfg0.N) (x : S1x256x1024.Idx) (i : S8x4352x1024.Idx) (h0 : (i 0 : ℕ) = t.val / 17)
    (h1 : (i 1 : ℕ) = 256 * (t.val % 17) + x 1) (h2 : (i 2 : ℕ) = x 2) :
    (show FVec Ideal S1x256x1024 .f32 from iblk m c 4 t) x = argR m c i := by
  blk_point [iblk, V, idx t]

theorem v_read (c : Dev nD) (t : Fin cfg0.N) (x : S1x256x1024.Idx) (i : S8x4352x1024.Idx) (h0 : (i 0 : ℕ) = t.val / 17)
    (h1 : (i 1 : ℕ) = 256 * (t.val % 17) + x 1) (h2 : (i 2 : ℕ) = x 2) :
    (show FVec Ideal S1x256x1024 .f32 from iblk m c 5 t) x = argV m c i := by
  blk_point [iblk, V, idx t]

theorem y_read (c : Dev nD) (t : Fin cfg0.N) (x : S2x1x256x1024.Idx) (i : S2x8x4352x1024.Idx) (h0 : (i 0 : ℕ) = x 0)
    (h1 : (i 1 : ℕ) = t.val / 17) (h2 : (i 2 : ℕ) = 256 * (t.val % 17) + x 2) (h3 : (i 3 : ℕ) = x 3) :
    (show FVec Ideal S2x1x256x1024 .f32 from iblk m c 3 t) x = argY m c i := by
  blk_point [iblk, V, idx t]

theorem k_read (c : Dev nD) (t : Fin cfg0.N) (x : S2x1x256x1024.Idx) (i : S2x8x4352x1024.Idx) (h0 : (i 0 : ℕ) = x 0)
    (h1 : (i 1 : ℕ) = t.val / 17) (h2 : (i 2 : ℕ) = 256 * (t.val % 17) + x 2) (h3 : (i 3 : ℕ) = x 3) :
    (show FVec Ideal S2x1x256x1024 .f32 from iblk m c 6 t) x = argK m c i := by
  blk_point [iblk, V, idx t]

theorem l_read (c : Dev nD) (t : Fin cfg0.N) (x : S1x256x512.Idx) (i : S8x4352x10240.Idx) (h0 : (i 0 : ℕ) = t.val / 17)
    (h1 : (i 1 : ℕ) = 256 * (t.val % 17) + x 1) (h2 : (i 2 : ℕ) = 1536 + x 2) :
    (show FVec Ideal S1x256x512 .f32 from iblk m c 7 t) x = argP m c i := by
  blk_point [iblk, V, idx t]

theorem ga_read (c : Dev nD) (t : Fin cfg0.N) (x : S1x256x1024.Idx) (i : S8x4352x10240.Idx) (h0 : (i 0 : ℕ) = t.val / 17)
    (h1 : (i 1 : ℕ) = 256 * (t.val % 17) + x 1) (h2 : (i 2 : ℕ) = 7168 + x 2) :
    (show FVec Ideal S1x256x1024 .f32 from iblk m c 8 t) x = argP m c i := by
  blk_point [iblk, V, idx t]

theorem gc_read (c : Dev nD) (t : Fin cfg0.N) (x : S1x256x1024.Idx) (i : S8x4352x10240.Idx) (h0 : (i 0 : ℕ) = t.val / 17)
    (h1 : (i 1 : ℕ) = 256 * (t.val % 17) + x 1) (h2 : (i 2 : ℕ) = 8192 + x 2) :
    (show FVec Ideal S1x256x1024 .f32 from iblk m c 9 t) x = argP m c i := by
  blk_point [iblk, V, idx t]

theorem gr_read (c : Dev nD) (t : Fin cfg0.N) (x : S1x256x1024.Idx) (i : S8x4352x10240.Idx) (h0 : (i 0 : ℕ) = t.val / 17)
    (h1 : (i 1 : ℕ) = 256 * (t.val % 17) + x 1) (h2 : (i 2 : ℕ) = 9216 + x 2) :
    (show FVec Ideal S1x256x1024 .f32 from iblk m c 10 t) x = argP m c i := by
  blk_point [iblk, V, idx t]

theorem m_read (c : Dev nD) (t : Fin cfg0.N) (x : S1x6x1024.Idx) (i : S16x6144.Idx) (h0 : (i 0 : ℕ) = mrow t.val)
    (h1 : (i 1 : ℕ) = 1024 * x 1 + x 2) : (show FVec Ideal S1x6x1024 .f32 from iblk m c 11 t) x = argM m c i := by
  blk_simp [iblk]
  rw [V10]
  pointwise []
  blk_ext [idx t]

theorem g_read (c : Dev nD) (t : Fin cfg0.N) (x : S1x1024.Idx) (i : S1024.Idx) (h : (i 0 : ℕ) = x 1) :
    (show FVec Ideal S1x1024 .f32 from iblk m c 12 t) x = argG m c i := by
  blk_simp [iblk]
  rw [V18]
  pointwise []
  blk_ext [idx t]

theorem gg_read (c : Dev nD) (t : Fin cfg0.N) (x : S1x1024.Idx) (i : S1024.Idx) (h : (i 0 : ℕ) = x 1) :
    (show FVec Ideal S1x1024 .f32 from iblk m c 13 t) x = argGg m c i := by
  blk_simp [iblk]
  rw [V19]
  pointwise []
  blk_ext [idx t]

theorem gb_read (c : Dev nD) (t : Fin cfg0.N) (x : S1x1024.Idx) (i : S1024.Idx) (h : (i 0 : ℕ) = x 1) :
    (show FVec Ideal S1x1024 .f32 from iblk m c 14 t) x = argGb m c i := by
  blk_simp [iblk]
  rw [V20]
  pointwise []
  blk_ext [idx t]

theorem rk_read (c : Dev nD) (t : Fin cfg0.N) (x : S1x1024.Idx) (i : S16x64.Idx) (h : 64 * (i 0 : ℕ) + i 1 = x 1) :
    (show FVec Ideal S1x1024 .f32 from iblk m c 15 t) x = argRk m c i := by
  blk_simp [iblk]
  rw [V21]
  pointwise []
  blk_ext [idx t]

theorem u_read (c : Dev nD) (t : Fin cfg0.N) (x : S128x1024.Idx) :
    (show FVec Ideal S128x1024 .bf16 from iblk m c 16 t) x = argU m c x := by
  blk_point [iblk, V, idx t]

theorem wa_read (c : Dev nD) (t : Fin cfg0.N) (x : S1024x1024.Idx) :
    (show FVec Ideal S1024x1024 .bf16 from iblk m c 19 t) x = argWa m c x := by
  blk_point [iblk, V, idx t]

theorem wc_read (c : Dev nD) (t : Fin cfg0.N) (x : S1024x1024.Idx) :
    (show FVec Ideal S1024x1024 .bf16 from iblk m c 20 t) x = argWc m c x := by
  blk_point [iblk, V, idx t]

theorem wr_read (c : Dev nD) (t : Fin cfg0.N) (x : S1024x1024.Idx) :
    (show FVec Ideal S1024x1024 .bf16 from iblk m c 21 t) x = argWr m c x := by
  blk_point [iblk, V, idx t]

theorem wo_read (c : Dev nD) (t : Fin cfg0.N) (x : S1024x1024.Idx) :
    (show FVec Ideal S1024x1024 .bf16 from iblk m c 22 t) x = argWo m c x := by
  blk_point [iblk, V, idx t]

end Cert.Kernel8Ideal.Hand

end
-- ==== Proof.MergeLoad.lean ====
/- The merge: what the body reads of its blocks. -/
module

public import proofs.«01_k».proof.Proof.MergeRead

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Cert.Kernel8Ideal.Facts Cert.Norm Cert.Merge

variable (m : (ℓ : Loc nD τ sig) → Buf (Elt Ideal) ℓ)

/-- The token a row of a grid point's block is. -/
def here (t : Fin cfg0.N) (r : Fin 256) : Fin 4352 := ⟨256 * (t.val % 17) + r, by omega⟩

def seq (t : Fin cfg0.N) : Fin 8 := ⟨t.val / 17, by have := point_lt t; omega⟩

theorem ld_a (c : Dev nD) (t : Fin cfg0.N) (r : Fin 256) (k : Fin 1024) :
    (show FVec Ideal S1x256x1024 .f32 from View.ld (iblk m c 0 t) r0_5) (ix3 0 r k) = argA m c (ix3 (seq t) (here t r) k) := by
  refine Eq.trans ?_ (a_read m c t (ix3 0 r k) _ rfl rfl rfl)
  pointwise []
  blk_ext

theorem ld_r (c : Dev nD) (t : Fin cfg0.N) (r : Fin 256) (k : Fin 1024) :
    (show FVec Ideal S1x256x1024 .f32 from View.ld (iblk m c 4 t) r0_5) (ix3 0 r k) = argR m c (ix3 (seq t) (here t r) k) := by
  refine Eq.trans ?_ (r_read m c t (ix3 0 r k) _ rfl rfl rfl)
  pointwise []
  blk_ext

theorem ld_v (c : Dev nD) (t : Fin cfg0.N) (r : Fin 256) (k : Fin 1024) :
    (show FVec Ideal S1x256x1024 .f32 from View.ld (iblk m c 5 t) r0_5) (ix3 0 r k) = argV m c (ix3 (seq t) (here t r) k) := by
  refine Eq.trans ?_ (v_read m c t (ix3 0 r k) _ rfl rfl rfl)
  pointwise []
  blk_ext

theorem ld_t (c : Dev nD) (t : Fin cfg0.N) (r : Fin 256) (k : Fin 1024) :
    (show FVec Ideal S1x256x1024 .bf16 from View.ld (iblk m c 1 t) r0_5) (ix3 0 r k) = argT m c (ix3 (seq t) (here t r) k) := by
  refine Eq.trans ?_ (t_read m c t (ix3 0 r k) _ rfl rfl rfl)
  pointwise []
  blk_ext

theorem ld_c (c : Dev nD) (t : Fin cfg0.N) (r : Fin 256) (k : Fin 1024) :
    (show FVec Ideal S1x256x1024 .bf16 from View.ld (iblk m c 2 t) r0_5) (ix3 0 r k) = argC m c (ix3 (seq t) (here t r) k) := by
  refine Eq.trans ?_ (c_read m c t (ix3 0 r k) _ rfl rfl rfl)
  pointwise []
  blk_ext

theorem ld_y0 (c : Dev nD) (t : Fin cfg0.N) (r : Fin 256) (k : Fin 1024) :
    (show FVec Ideal S1x1x256x1024 .f32 from View.ld (iblk m c 3 t) r0_0) (ix4 0 0 r k) = argY m c (ix4 0 (seq t) (here t r) k) := by
  refine Eq.trans ?_ (y_read m c t (ix4 0 0 r k) _ rfl rfl rfl rfl)
  pointwise []
  blk_ext

theorem ld_y1 (c : Dev nD) (t : Fin cfg0.N) (r : Fin 256) (k : Fin 1024) :
    (show FVec Ideal S1x1x256x1024 .f32 from View.ld (iblk m c 3 t) r0_1) (ix4 0 0 r k) = argY m c (ix4 1 (seq t) (here t r) k) := by
  refine Eq.trans ?_ (y_read m c t (ix4 1 0 r k) _ rfl rfl rfl rfl)
  pointwise []
  blk_ext

theorem ld_k0 (c : Dev nD) (t : Fin cfg0.N) (r : Fin 256) (k : Fin 1024) :
    (show FVec Ideal S1x1x256x1024 .f32 from View.ld (iblk m c 6 t) r0_0) (ix4 0 0 r k) = argK m c (ix4 0 (seq t) (here t r) k) := by
  refine Eq.trans ?_ (k_read m c t (ix4 0 0 r k) _ rfl rfl rfl rfl)
  pointwise []
  blk_ext

theorem ld_k1 (c : Dev nD) (t : Fin cfg0.N) (r : Fin 256) (k : Fin 1024) :
    (show FVec Ideal S1x1x256x1024 .f32 from View.ld (iblk m c 6 t) r0_1) (ix4 0 0 r k) = argK m c (ix4 1 (seq t) (here t r) k) := by
  refine Eq.trans ?_ (k_read m c t (ix4 1 0 r k) _ rfl rfl rfl rfl)
  pointwise []
  blk_ext

theorem ld_ga (c : Dev nD) (t : Fin cfg0.N) (r : Fin 256) (k : Fin 1024) :
    (show FVec Ideal S1x256x1024 .f32 from View.ld (iblk m c 8 t) r0_5) (ix3 0 r k) = argP m c (ix3 (seq t) (here t r) ⟨7168 + k, by omega⟩) := by
  refine Eq.trans ?_ (ga_read m c t (ix3 0 r k) _ rfl rfl rfl)
  pointwise []
  blk_ext

theorem ld_gc (c : Dev nD) (t : Fin cfg0.N) (r : Fin 256) (k : Fin 1024) :
    (show FVec Ideal S1x256x1024 .f32 from View.ld (iblk m c 9 t) r0_5) (ix3 0 r k) = argP m c (ix3 (seq t) (here t r) ⟨8192 + k, by omega⟩) := by
  refine Eq.trans ?_ (gc_read m c t (ix3 0 r k) _ rfl rfl rfl)
  pointwise []
  blk_ext

theorem ld_gr (c : Dev nD) (t : Fin cfg0.N) (r : Fin 256) (k : Fin 1024) :
    (show FVec Ideal S1x256x1024 .f32 from View.ld (iblk m c 10 t) r0_5) (ix3 0 r k) = argP m c (ix3 (seq t) (here t r) ⟨9216 + k, by omega⟩) := by
  refine Eq.trans ?_ (gr_read m c t (ix3 0 r k) _ rfl rfl rfl)
  pointwise []
  blk_ext

theorem ld_l (c : Dev nD) (t : Fin cfg0.N) (r : Fin 256) (k : Fin 128) :
    (show FVec Ideal S1x256x128 .f32 from View.ld (iblk m c 7 t) r0_6) (ix3 0 r k) = argP m c (ix3 (seq t) (here t r) ⟨1792 + k, by omega⟩) := by
  refine Eq.trans ?_ (l_read m c t (ix3 0 r ⟨256 + k, by omega⟩) _ rfl rfl (show 1792 + (k : ℕ) = 1536 + (256 + k) by omega))
  pointwise []
  blk_ext

theorem ld_g (c : Dev nD) (t : Fin cfg0.N) (k : Fin 1024) :
    (show FVec Ideal S1x1024 .f32 from View.ld (iblk m c 12 t) r0_4) (ix2 0 k) = argG m c (ix1 k) := by
  refine Eq.trans ?_ (g_read m c t (ix2 0 k) _ rfl)
  pointwise []
  blk_ext

theorem ld_gg (c : Dev nD) (t : Fin cfg0.N) (k : Fin 1024) :
    (show FVec Ideal S1x1024 .f32 from View.ld (iblk m c 13 t) r0_4) (ix2 0 k) = argGg m c (ix1 k) := by
  refine Eq.trans ?_ (gg_read m c t (ix2 0 k) _ rfl)
  pointwise []
  blk_ext

theorem ld_gb (c : Dev nD) (t : Fin cfg0.N) (k : Fin 1024) :
    (show FVec Ideal S1x1024 .f32 from View.ld (iblk m c 14 t) r0_4) (ix2 0 k) = argGb m c (ix1 k) := by
  refine Eq.trans ?_ (gb_read m c t (ix2 0 k) _ rfl)
  pointwise []
  blk_ext

theorem ld_rk (c : Dev nD) (t : Fin cfg0.N) (k : Fin 1024) :
    (show FVec Ideal S1x1024 .f32 from View.ld (iblk m c 15 t) r0_4) (ix2 0 k) = argRk m c (ix2 ⟨(k : ℕ) / 64, by omega⟩ ⟨(k : ℕ) % 64, by omega⟩) := by
  refine Eq.trans ?_ (rk_read m c t (ix2 0 k) _ (show 64 * ((k : ℕ) / 64) + (k : ℕ) % 64 = k by omega))
  pointwise []
  blk_ext

theorem ld_u (c : Dev nD) (t : Fin cfg0.N) (k : Fin 128) (j : Fin 1024) :
    (show FVec Ideal S128x1024 .bf16 from View.ld (iblk m c 16 t) r0_3) (ix2 k j) = argU m c (ix2 k j) := by
  refine Eq.trans ?_ (u_read m c t (ix2 k j))
  pointwise []
  blk_ext

theorem ld_wa (c : Dev nD) (t : Fin cfg0.N) (k j : Fin 1024) :
    (show FVec Ideal S1024x1024 .bf16 from View.ld (iblk m c 19 t) r0_7) (ix2 k j) = argWa m c (ix2 k j) := by
  refine Eq.trans ?_ (wa_read m c t (ix2 k j))
  pointwise []
  blk_ext

theorem ld_wc (c : Dev nD) (t : Fin cfg0.N) (k j : Fin 1024) :
    (show FVec Ideal S1024x1024 .bf16 from View.ld (iblk m c 20 t) r0_7) (ix2 k j) = argWc m c (ix2 k j) := by
  refine Eq.trans ?_ (wc_read m c t (ix2 k j))
  pointwise []
  blk_ext

theorem ld_wr (c : Dev nD) (t : Fin cfg0.N) (k j : Fin 1024) :
    (show FVec Ideal S1024x1024 .bf16 from View.ld (iblk m c 21 t) r0_7) (ix2 k j) = argWr m c (ix2 k j) := by
  refine Eq.trans ?_ (wr_read m c t (ix2 k j))
  pointwise []
  blk_ext

theorem ld_wo (c : Dev nD) (t : Fin cfg0.N) (k j : Fin 1024) :
    (show FVec Ideal S1024x1024 .bf16 from View.ld (iblk m c 22 t) r0_7) (ix2 k j) = argWo m c (ix2 k j) := by
  refine Eq.trans ?_ (wo_read m c t (ix2 k j))
  pointwise []
  blk_ext

theorem ld_e (c : Dev nD) (t : Fin cfg0.N) (i : Fin 1024) (h : Fin 128) :
    (show FVec Ideal S1024x128 .bf16 from View.ld (iblk m c 17 t) r0_2) (ix2 i h) = if (i : ℕ) / 64 = (h : ℕ) then 1 else 0 := by
  refine Eq.trans ?_ (V8 m c i h)
  blk_simp [iblk]
  pointwise []
  blk_ext [idx t]

theorem ld_et (c : Dev nD) (t : Fin cfg0.N) (h : Fin 128) (i : Fin 1024) :
    (show FVec Ideal S128x1024 .bf16 from View.ld (iblk m c 18 t) r0_3) (ix2 h i) = if (i : ℕ) / 64 = (h : ℕ) then 1 else 0 := by
  refine Eq.trans ?_ (V9 m c h i)
  blk_simp [iblk]
  pointwise []
  blk_ext [idx t]

theorem ld_m (c : Dev nD) (t : Fin cfg0.N) (k : Fin 1024) (n : ℕ) (hn : n / 256 = t.val) :
    (show FVec Ideal S1x1x1024 .f32 from View.ld (iblk m c 11 t) r0_8) (ix3 0 0 k) = part (argM m c) 2 n k := by
  have ht := point_lt t
  have hk := k.isLt
  refine Eq.trans ?_ ((m_read m c t (ix3 0 2 k) (ix2 ⟨mrow t.val, ?_⟩ ⟨1024 * 2 + k, by omega⟩) rfl rfl).trans
    (part_eq (argM m c) 2 n k _ ?_ rfl))
  · pointwise []
    blk_ext
  · unfold mrow
    split <;> omega
  · rw [hn]
    rfl

end Cert.Kernel8Ideal.Hand

end
-- ==== Proof.MergePay.lean ====
/- What the steps of the merge's body compute, element by element. -/
module

public import proofs.«01_k».proof.Proof.Gen.Kernel8Ideal.Skeleton
public import proofs.«01_k».proof.Proof.Merge
public import Idealize.ShloMosaic.Lib.Pointwise

@[expose] public section

set_option maxRecDepth 16384

noncomputable section

namespace Cert.Kernel8Ideal.Hand

open Cert.Kernel8Ideal Cert.Kernel8Ideal.Gen Idealize.ShloMosaic Cert.Norm Cert.Merge

variable (e : FVec Ideal S1024x128 .bf16) (et : FVec Ideal S128x1024 .bf16)
  (he : ∀ (i : Fin 1024) (h : Fin 128), e (ix2 i h) = if (i : ℕ) / 64 = (h : ℕ) then 1 else 0)
  (het : ∀ (h : Fin 128) (i : Fin 1024), et (ix2 h i) = if (i : ℕ) / 64 = (h : ℕ) then 1 else 0)

include he het

/-- The heads' outputs less their mean. -/
theorem pay2 (v0 v2) (r : Fin 256) (f : Fin 1024 → EReal) (hf : Real1 f)
    (h : ∀ k : Fin 1024, v0 (ix4 0 0 r k) + v2 (ix4 0 0 r k) = f k) (j : Fin 1024) :
    k0_pay2 (F := Ideal) v0 v2 e e et et (ix2 r j) = dev f j := by
  obtain rfl : (fun k : Fin 1024 => v0 (ix4 0 0 r k) + v2 (ix4 0 0 r k)) = f := funext h
  unfold dev
  rw [← mean_mul _ hf, ← head_sum _ hf (fun i h => e (ix2 i h)) (fun h i => et (ix2 h i)) he het]
  pointwise [k0_pay2]

/-- The normalised heads. -/
theorem pay6 (v29 v31 v34 gg gb) (r : Fin 256) (q : Fin 1024 → EReal) (hq : Real1 q) (h1 : ∀ k, v31 (ix2 r k) = q k)
    (h2 : ∀ k, v34 (ix2 r k) = q k - q k) (j : Fin 1024) :
    k0_pay6 (F := Ideal) v29 v31 v34 e e et et gg gb (ix2 r j)
      = v29 (ix2 r j) * Ideal.rsqrt (mean q j + Ideal.ofBits .f32 0x3A27C5AC#32) * gg (ix2 0 j) + gb (ix2 0 j) := by
  rw [← mean_mul _ hq, ← head_sum _ hq (fun i h => e (ix2 i h)) (fun h i => et (ix2 h i)) he het]
  pointwise [k0_pay6]
  simp only [h1, h2]

/-- The bonus. -/
theorem pay9 (v68 v70 v71 rk v101) (r : Fin 256) (f : Fin 1024 → EReal) (hf : Real1 f)
    (h : ∀ k : Fin 1024, v68 (ix2 r k) * (v70 (ix2 r k) + v71 (ix4 0 0 r k)) * rk (ix2 0 k) = f k) (j : Fin 1024) :
    k0_pay9 (F := Ideal) v68 v70 v71 rk e e et et v101 (ix2 r j) = hsum f j * v101 (ix3 0 r j) := by
  obtain rfl : (fun k : Fin 1024 => v68 (ix2 r k) * (v70 (ix2 r k) + v71 (ix4 0 0 r k)) * rk (ix2 0 k)) = f := funext h
  rw [← head_sum _ hf (fun i h => e (ix2 i h)) (fun h i => et (ix2 h i)) he het]
  pointwise [k0_pay9]

omit he het

/-- The gated branches. -/
theorem pay11 (v66 v103 v106 U ga att wa gc cv wc gr wr) (r : Fin 256) (j : Fin 1024) :
    k0_pay11 (F := Ideal) v66 v103 v106 U ga att wa gc cv wc gr wr (ix2 r j)
      = Ideal.logistic (ga (ix3 0 r j)) * (∑ k : Fin 1024, att (ix3 0 r k) * wa (ix2 k j))
        + Ideal.logistic (gc (ix3 0 r j)) * (∑ k : Fin 1024, cv (ix3 0 r k) * wc (ix2 k j))
        + Ideal.logistic (gr (ix3 0 r j)) * (∑ k : Fin 1024, (v66 (ix2 r k) + v103 (ix2 r k))
            * (∑ c : Fin 128, v106 (ix2 r c) * U (ix2 c k)) * wr (ix2 k j)) := by
  pointwise [k0_pay11]

/-- The body's result, from the gated branches. -/
theorem pay1 (v140 wo g a s) (x : S1x256x1024.Idx) :
    k0_pay1 (F := Ideal) v140 wo g a s x
      = a x + s (ix3 0 0 (x 2)) * ((∑ k : Fin 1024, v140 (ix2 (x 1) k) * wo (ix2 k (x 2)))
          * rinv (fun d => ∑ k : Fin 1024, v140 (ix2 (x 1) k) * wo (ix2 k d)) * g (ix2 0 (x 2))) := by
  unfold rinv
  pointwise [k0_pay1]

end Cert.Kernel8Ideal.Hand

end
-- ==== Proof.MergeBody.lean ====
/- The merge: the body as a function of what it reads. -/
module

public import proofs.«01_k».proof.Proof.MergePay

@[expose] public section

set_option maxRecDepth 16384

noncomputable section

namespace Cert.Kernel8Ideal.Hand

open Cert.Kernel8Ideal Cert.Kernel8Ideal.Gen Idealize.ShloMosaic
open Cert.Norm Cert.Merge

theorem pay4 (v0 v2 e e' et et') (r : Fin 256) (j : Fin 1024) : k0_pay4 (F := Ideal) v0 v2 e e' et et' (ix2 r j)
    = k0_pay2 (F := Ideal) v0 v2 e e' et et' (ix2 r j) * k0_pay2 (F := Ideal) v0 v2 e e' et et' (ix2 r j) := rfl

theorem pay5 (v0 v2 e e' et et') (r : Fin 256) (j : Fin 1024) : k0_pay5 (F := Ideal) v0 v2 e e' et et' (ix2 r j)
    = k0_pay2 (F := Ideal) v0 v2 e e' et et' (ix2 r j) * k0_pay2 (F := Ideal) v0 v2 e e' et et' (ix2 r j)
      - k0_pay2 (F := Ideal) v0 v2 e e' et et' (ix2 r j) * k0_pay2 (F := Ideal) v0 v2 e e' et et' (ix2 r j) := rfl

theorem pay7 (v) (r : Fin 256) (j : Fin 1024) : k0_pay7 (F := Ideal) v (ix2 r j) = v (ix3 0 r j) := by
  pointwise [k0_pay7]

theorem pay8 (v) (r : Fin 256) (j : Fin 1024) : k0_pay8 (F := Ideal) v (ix2 r j) = v (ix4 0 0 r j) := by
  pointwise [k0_pay8]

theorem pay10 (v) (r : Fin 256) (j : Fin 128) : k0_pay10 (F := Ideal) v (ix2 r j) = Ideal.logistic (v (ix3 0 r j)) := by
  pointwise [k0_pay10]

/-- The inputs whose head sums need reals are reals. -/
structure Reals (R : Row) (W : Wts) : Prop where
  y : Real1 R.y
  r : Real1 R.r
  kf : Real1 R.kf
  kb : Real1 R.kb
  rk : Real1 W.rk

/-- The body's result, from what it reads. -/
theorem body (e : FVec Ideal S1024x128 .bf16) (et : FVec Ideal S128x1024 .bf16)
    (he : ∀ (i : Fin 1024) (h : Fin 128), e (ix2 i h) = if (i : ℕ) / 64 = (h : ℕ) then 1 else 0)
    (het : ∀ (h : Fin 128) (i : Fin 1024), et (ix2 h i) = if (i : ℕ) / 64 = (h : ℕ) then 1 else 0)
    (y0 y1 k0 k1 : FVec Ideal S1x1x256x1024 .f32) (rr vv : FVec Ideal S1x256x1024 .f32) (lg : FVec Ideal S1x256x128 .f32)
    (ga gc gr : FVec Ideal S1x256x1024 .f32) (att cv : FVec Ideal S1x256x1024 .bf16) (a : FVec Ideal S1x256x1024 .f32)
    (s : FVec Ideal S1x1x1024 .f32) (g gg gb rk : FVec Ideal S1x1024 .f32) (U : FVec Ideal S128x1024 .bf16)
    (wa wc wr wo : FVec Ideal S1024x1024 .bf16) (p : Fin 256) (l : Fin 1024) (R : Row) (W : Wts) (A M : EReal)
    (ok : Reals R W) (hy : ∀ k : Fin 1024, y0 (ix4 0 0 p k) + y1 (ix4 0 0 p k) = R.y k)
    (hkf : ∀ k : Fin 1024, k0 (ix4 0 0 p k) = R.kf k) (hkb : ∀ k : Fin 1024, k1 (ix4 0 0 p k) = R.kb k)
    (hr : ∀ k : Fin 1024, rr (ix3 0 p k) = R.r k) (hv : ∀ k : Fin 1024, vv (ix3 0 p k) = R.v k)
    (hl : ∀ k : Fin 128, lg (ix3 0 p k) = R.lg k) (hga : ∀ k : Fin 1024, ga (ix3 0 p k) = R.ga k)
    (hgc : ∀ k : Fin 1024, gc (ix3 0 p k) = R.gc k) (hgr : ∀ k : Fin 1024, gr (ix3 0 p k) = R.gr k)
    (hat : ∀ k : Fin 1024, att (ix3 0 p k) = R.att k) (hcv : ∀ k : Fin 1024, cv (ix3 0 p k) = R.conv k)
    (ha : a (ix3 0 p l) = A) (hs : s (ix3 0 0 l) = M) (hg : ∀ k : Fin 1024, g (ix2 0 k) = W.g k)
    (hgg : ∀ k : Fin 1024, gg (ix2 0 k) = W.gg k) (hgb : ∀ k : Fin 1024, gb (ix2 0 k) = W.gb k)
    (hrk : ∀ k : Fin 1024, rk (ix2 0 k) = W.rk k) (hU : ∀ (k : Fin 128) (j : Fin 1024), U (ix2 k j) = W.up k j)
    (hwa : ∀ k j : Fin 1024, wa (ix2 k j) = W.wa k j) (hwc : ∀ k j : Fin 1024, wc (ix2 k j) = W.wc k j)
    (hwr : ∀ k j : Fin 1024, wr (ix2 k j) = W.wr k j) (hwo : ∀ k j : Fin 1024, wo (ix2 k j) = W.wo k j) :
    k0_pay1 (F := Ideal)
      (k0_pay11 (k0_pay6 (k0_pay2 y0 y1 e e et et) (k0_pay4 y0 y1 e e et et) (k0_pay5 y0 y1 e e et et) e e et et gg gb)
        (k0_pay9 (k0_pay7 rr) (k0_pay8 k0) k1 rk e e et et vv) (k0_pay10 lg) U ga att wa gc cv wc gr wr) wo g a s (ix3 0 p l)
      = result R W A M l := by
  have d : ∀ j, k0_pay2 (F := Ideal) y0 y1 e e et et (ix2 p j) = dev R.y j := pay2 e et he het y0 y1 p R.y ok.y hy
  have q : Real1 (fun i => dev R.y i * dev R.y i) := real1_mul (real1_dev _ ok.y) (real1_dev _ ok.y)
  have n : ∀ j, k0_pay6 (F := Ideal) (k0_pay2 y0 y1 e e et et) (k0_pay4 y0 y1 e e et et) (k0_pay5 y0 y1 e e et et) e e et et gg gb
      (ix2 p j) = normed R W j := by
    intro j
    rw [pay6 e et he het _ _ _ gg gb p _ q (fun k => by rw [pay4, d]) (fun k => by rw [pay5, d]), d, hgg, hgb]
    rfl
  have b : ∀ j, k0_pay9 (F := Ideal) (k0_pay7 rr) (k0_pay8 k0) k1 rk e e et et vv (ix2 p j) = bonus R W j := by
    intro j
    rw [pay9 e et he het _ _ k1 rk vv p (fun i => R.r i * (R.kf i + R.kb i) * W.rk i)
      (real1_mul (real1_mul ok.r (real1_add ok.kf ok.kb)) ok.rk) (fun k => by rw [pay7, pay8, hr, hkf, hkb, hrk]), hv]
    rfl
  have e11 : ∀ j, k0_pay11 (F := Ideal)
      (k0_pay6 (k0_pay2 y0 y1 e e et et) (k0_pay4 y0 y1 e e et et) (k0_pay5 y0 y1 e e et et) e e et et gg gb)
      (k0_pay9 (k0_pay7 rr) (k0_pay8 k0) k1 rk e e et et vv) (k0_pay10 lg) U ga att wa gc cv wc gr wr (ix2 p j) = mixed R W j := by
    intro j
    rw [pay11, hga, hgc, hgr]
    unfold mixed rwkv
    simp only [n, b, pay10, hl, hU, hat, hcv, hwa, hwc, hwr]
  have o : ∀ j : Fin 1024, (∑ k : Fin 1024, k0_pay11 (F := Ideal)
      (k0_pay6 (k0_pay2 y0 y1 e e et et) (k0_pay4 y0 y1 e e et et) (k0_pay5 y0 y1 e e et et) e e et et gg gb)
      (k0_pay9 (k0_pay7 rr) (k0_pay8 k0) k1 rk e e et et vv) (k0_pay10 lg) U ga att wa gc cv wc gr wr (ix2 p k)
        * wo (ix2 k j)) = out R W j := fun j => Finset.sum_congr rfl fun k _ => by rw [e11, hwo]
  refine (pay1 _ wo g a s (ix3 0 p l)).trans ?_
  show a (ix3 0 p l) + s (ix3 0 0 l) * ((∑ k : Fin 1024, _ * wo (ix2 k l)) * rinv (fun d => ∑ k : Fin 1024, _ * wo (ix2 k d))
    * g (ix2 0 l)) = _
  rw [ha, hs, hg]
  unfold result
  exact congrArg (fun r => A + M * r) (congrArg (fun r => r * W.g l)
    (congrArg₂ (fun r q : EReal => r * q) (o l) (congrArg rinv (funext o))))

end Cert.Kernel8Ideal.Hand

end
-- ==== Proof.MergeBlock.lean ====
/- The merge: what each grid point leaves in its block. -/
module

public import Idealize.ShloMosaic.Lib.Pipeline.ValueKit
public import proofs.«01_k».proof.Proof.MergeLoad
public import proofs.«01_k».proof.Proof.MergeBody

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Cert.Kernel8Ideal.Facts Cert.Norm Cert.Merge

variable (m : (ℓ : Loc nD τ sig) → Buf (Elt Ideal) ℓ)

/-- The row of inputs of token `p` of sequence `b`. -/
abbrev row (c : Dev nD) (b : Fin 8) (p : Fin 4352) : Row :=
  rowOf (fun k => argT m c (ix3 b p k)) (fun k => argC m c (ix3 b p k)) (argY m c) (argR m c) (argV m c) (argK m c) (argP m c) b p

/-- The weights of the call. -/
abbrev wts (c : Dev nD) : Wts :=
  wtsOf (argG m c) (argGg m c) (argGb m c) (argRk m c) (argU m c) (argWa m c) (argWc m c) (argWr m c) (argWo m c)

/-- The call's result as a function of its arguments. -/
def value (c : Dev nD) (i : S8x4352x1024.Idx) : EReal :=
  result (row m c (i 0) (i 1)) (wts m c) (argA m c (ix3 (i 0) (i 1) (i 2)))
    (part (argM m c) 2 (4352 * (i 0 : ℕ) + (i 1 : ℕ)) (i 2)) (i 2)

/-- Each grid point's block is the result's block. -/
theorem block (c : Dev nD) (t : Fin cfg0.N) (y : S1x256x1024.Idx) (i : S8x4352x1024.Idx) (e0 : (i 0 : ℕ) = t.val / 17)
    (e1 : (i 1 : ℕ) = 256 * (t.val % 17) + y 1) (e2 : (i 2 : ℕ) = y 2) (ok : ∀ b p, Reals (row m c b p) (wts m c)) :
    (show FVec Ideal S1x256x1024 .f32 from (dats m 0 c).after 23 t) y = value m c i := by
  have ht := point_lt t
  rw [after0_23]
  unfold out0_23
  canon_tiles x h
  have h0 : i 0 = seq t := Fin.ext e0
  have h1' : i 1 = here t (x 1) := Fin.ext (e1.trans (congrArg _ h1))
  have h2' : i 2 = x 2 := Fin.ext (e2.trans h2)
  unfold value
  rw [h0, h1', h2']
  have hx : x = ix3 0 (x 1) (x 2) := funext fun a => match a with
    | 0 => Fin.ext (Nat.lt_one_iff.mp (x 0).isLt)
    | 1 => rfl
    | 2 => rfl
  rw [hx]
  exact body _ _ (ld_e m c t) (ld_et m c t) _ _ _ _ _ _ _ _ _ _ _ _ _ _ _ _ _ _ _ _ _ _ _ (x 1) (x 2) (row m c (seq t) (here t (x 1))) (wts m c) _ _
    (ok _ _) (fun k => congrArg₂ (fun a b : EReal => a + b) (ld_y0 m c t (x 1) k) (ld_y1 m c t (x 1) k)) (ld_k0 m c t (x 1))
    (ld_k1 m c t (x 1)) (ld_r m c t (x 1)) (ld_v m c t (x 1)) (ld_l m c t (x 1)) (ld_ga m c t (x 1)) (ld_gc m c t (x 1))
    (ld_gr m c t (x 1)) (ld_t m c t (x 1)) (ld_c m c t (x 1)) (ld_a m c t (x 1) (x 2))
    (ld_m m c t (x 2) _ (by simp only [seq, here]; omega)) (ld_g m c t) (ld_gg m c t) (ld_gb m c t) (ld_rk m c t) (ld_u m c t)
    (ld_wa m c t) (ld_wc m c t) (ld_wr m c t) (ld_wo m c t)

/-- The call's result. -/
theorem final (c : Dev nD) (ok : ∀ b p, Reals (row m c b p) (wts m c)) : (dats m 0 c).arrAt 23 cfg0.N = value m c := by
  refine (dats m 0 c).arrAt_eq_of_covers 23 _ (by decide +kernel) fun t _ y => ?_
  blk_simp
  exact block m c t y _ (by blk_simp [idx t]) (by blk_simp [idx t]; omega) (by blk_simp [idx t]) ok

end Cert.Kernel8Ideal.Hand

end
-- ==== Proof.MergeRef.lean ====
/- The reference of the merge, element by element. -/
module

public import proofs.«01_k».proof.Proof.Gen.Reference8Ideal.Read
public import proofs.«01_k».proof.Proof.Merge
public import Idealize.ShloMosaic.Lib.Pipeline.ValueKit
public import Idealize.ShloMosaic.Lib.Pointwise

@[expose] public section

set_option maxRecDepth 16384

noncomputable section

namespace Cert.Reference8Ideal.Hand

open Idealize.ShloMosaic Cert.Reference8Ideal Cert.Reference8Ideal.Gen Cert.Reference8Ideal.Read Cert.Norm Cert.Merge

variable (A T C : FVec Ideal S8x4352x1024 .f32) (Y : FVec Ideal S2x8x4352x1024 .f32) (r v : FVec Ideal S8x4352x1024 .f32)
  (K : FVec Ideal S2x8x4352x1024 .f32) (P : FVec Ideal S8x4352x10240 .f32) (M : FVec Ideal S16x6144 .f32)
  (g gg gb : FVec Ideal S1024 .f32) (rk : FVec Ideal S16x64 .f32) (U : FVec Ideal S128x1024 .f32)
  (wa wc wr wo : FVec Ideal S1024x1024 .f32)

/-- Channel `c` of head `h`. -/
def ch (h : Fin 16) (c : Fin 64) : Fin 1024 := ⟨(h : ℕ) * 64 + c, by omega⟩

theorem chan_ch (h : Fin 16) (c d : Fin 64) : chan (ch h c) d = ch h d := Fin.ext (by simp only [chan, ch]; omega)

theorem hsum_ch (f : Fin 1024 → EReal) (h : Fin 16) (c : Fin 64) : hsum f (ch h c) = ∑ d : Fin 64, f (ch h d) :=
  Finset.sum_congr rfl fun d _ => congrArg f (chan_ch h c d)

/-- A row of the two directions' sum. -/
abbrev two (X : FVec Ideal S2x8x4352x1024 .f32) (b : Fin 8) (p : Fin 4352) (k : Fin 1024) : EReal :=
  X (ix4 0 b p k) + X (ix4 1 b p k)

theorem head_y (b : Fin 8) (p : Fin 4352) (h : Fin 16) (c : Fin 64) :
    val_main_v12 (F := Ideal) Y (ix4 b p h c) = two Y b p (ch h c) := by
  pointwise [val_main_v7, val_main_v8, val_main_v9, val_main_v10, val_main_v11, val_main_v12]
  rfl

theorem head_dev (b : Fin 8) (p : Fin 4352) (h : Fin 16) (c : Fin 64) :
    val_main_v34 (F := Ideal) Y (ix4 b p h c) = dev (two Y b p) (ch h c) := by
  unfold dev mean
  rw [hsum_ch]
  pointwise [val_main_cst, val_main_v22, val_main_v23, val_main_cst_0, val_main_v24, val_main_v25, val_main_v26, val_main_v33, val_main_v34]
  simp only [head_y]

theorem head_dev' (b : Fin 8) (p : Fin 4352) (h : Fin 16) (c : Fin 64) :
    val_main_v27 (F := Ideal) Y (ix4 b p h c) = dev (two Y b p) (ch h c) := head_dev Y b p h c

theorem head_norm (b : Fin 8) (p : Fin 4352) (h : Fin 16) (c : Fin 64) :
    val_main_v39 (F := Ideal) Y (ix4 b p h c) = dev (two Y b p) (ch h c)
      * Ideal.rsqrt (mean (fun i => dev (two Y b p) i * dev (two Y b p) i) (ch h c) + Ideal.ofBits .f32 0x3A27C5AC#32) := by
  unfold mean
  rw [hsum_ch]
  pointwise [val_main_v28, val_main_cst_1, val_main_v29, val_main_v30, val_main_cst_2, val_main_v31, val_main_v32, val_main_cst_3, val_main_v35, val_main_v36, val_main_v37, val_main_v38, val_main_v39]
  simp only [head_dev, head_dev']

/-- The sum of receptance, key and weight over a head, for one direction. -/
theorem head_sum0 (b : Fin 8) (p : Fin 4352) (h : Fin 16) :
    val_main_v51 (F := Ideal) r K rk (ix3 b p h) = ∑ d : Fin 64, r (ix3 b p (ch h d)) * K (ix4 0 b p (ch h d)) * rk (ix2 h d) := by
  pointwise [val_main_v13, val_main_v15, val_main_v16, val_main_v17, val_main_v47, val_main_v48, val_main_v49, val_main_v50, val_main_cst_4, val_main_v51]
  rfl

/-- The same for the other. -/
theorem head_sum1 (b : Fin 8) (p : Fin 4352) (h : Fin 16) :
    val_main_v57 (F := Ideal) r K rk (ix3 b p h) = ∑ d : Fin 64, r (ix3 b p (ch h d)) * K (ix4 1 b p (ch h d)) * rk (ix2 h d) := by
  pointwise [val_main_v13, val_main_v18, val_main_v19, val_main_v20, val_main_v53, val_main_v54, val_main_v55, val_main_v56, val_main_cst_5, val_main_v57]
  rfl

/-- The low-rank gate. -/
theorem gate (b : Fin 8) (p : Fin 4352) (j : Fin 1024) :
    val_main_v68 (F := Ideal) P U (ix3 b p j) = ∑ c : Fin 128, Ideal.logistic (P (ix3 b p ⟨1792 + c, by omega⟩)) * U (ix2 c j) := by
  pointwise [val_main_v21, val_main_v62, val_main_v63, val_main_cst_6, val_main_v64, val_main_v65, val_main_cst_7, val_main_v66, val_main_v67, val_main_v68]
  rfl

abbrev row (b : Fin 8) (p : Fin 4352) : Row := rowOf (fun k => T (ix3 b p k)) (fun k => C (ix3 b p k)) Y r v K P b p

abbrev wts : Wts := wtsOf g gg gb rk U wa wc wr wo

theorem head_w (h : Fin 16) (d : Fin 64) : (wts g gg gb rk U wa wc wr wo).rk (ch h d) = rk (ix2 h d) := by
  show rk (ix2 ⟨((h : ℕ) * 64 + d) / 64, _⟩ ⟨((h : ℕ) * 64 + d) % 64, _⟩) = _
  have a : (⟨((h : ℕ) * 64 + d) / 64, by omega⟩ : Fin 16) = h := Fin.ext (show ((h : ℕ) * 64 + d) / 64 = h by omega)
  have b : (⟨((h : ℕ) * 64 + d) % 64, by omega⟩ : Fin 64) = d := Fin.ext (show ((h : ℕ) * 64 + d) % 64 = d by omega)
  rw [a, b]

/-- The third branch. -/
theorem branch (b : Fin 8) (p : Fin 4352) (j : Fin 1024) (hr : Real1 (fun k => r (ix3 b p k)))
    (h0 : Real1 (fun k => K (ix4 0 b p k))) (h1 : Real1 (fun k => K (ix4 1 b p k)))
    (hw : Real1 (wts g gg gb rk U wa wc wr wo).rk) :
    val_main_v71 (F := Ideal) Y r v K P gg gb rk U (ix3 b p j) = rwkv (row T C Y r v K P b p) (wts g gg gb rk U wa wc wr wo) j := by
  pointwise [val_main_v40, val_main_v41, val_main_v42, val_main_v43, val_main_v44, val_main_v45, val_main_v46, val_main_v14, val_main_v52, val_main_v58, val_main_v59, val_main_v60, val_main_v61, val_main_v69, val_main_v70, val_main_v71]
  have e : ∀ x y, ch (⟨(j : ℕ) / 64, x⟩) ⟨(j : ℕ) % 64, y⟩ = j := fun _ _ =>
    Fin.ext (show (j : ℕ) / 64 * 64 + (j : ℕ) % 64 = j by omega)
  have f : ∀ x (X : Fin 1024 → EReal), (∑ d : Fin 64, r (ix3 b p (ch ⟨(j : ℕ) / 64, x⟩ d)) * X (ch ⟨(j : ℕ) / 64, x⟩ d)
      * rk (ix2 ⟨(j : ℕ) / 64, x⟩ d)) = hsum (fun i => r (ix3 b p i) * X i * (wts g gg gb rk U wa wc wr wo).rk i) j := by
    intro x X
    conv_rhs => rw [← e x (Nat.mod_lt _ (by norm_num)), hsum_ch]
    exact Finset.sum_congr rfl fun d _ => by rw [head_w]
  rw [head_norm, head_sum0, head_sum1, gate, e, f _ (fun k => K (ix4 0 b p k)), f _ (fun k => K (ix4 1 b p k)),
    bonus_split _ _ _ _ hr h0 h1 hw]
  rfl

theorem gates (b : Fin 8) (p : Fin 4352) (j : Fin 3072) :
    val_main_v78 (F := Ideal) P (ix3 b p j) = Ideal.logistic (P (ix3 b p ⟨7168 + j, by omega⟩)) := by
  pointwise [val_main_v72, val_main_v73, val_main_v74, val_main_cst_8, val_main_v75, val_main_v76, val_main_cst_9, val_main_v77, val_main_v78]
  rfl

theorem mod_part (i : S8x4352x1024.Idx) : val_main_v6 (F := Ideal) M i = part M 2 (4352 * (i 0 : ℕ) + i 1) (i 2) := by
  pointwise [val_main_v0, val_main_v1, val_main_v2, val_main_v3, val_main_v4, val_main_v5, val_main_v6]
  have b0 : (i 0 : ℕ) < 8 := (i 0).isLt
  have b1 : (i 1 : ℕ) < 4352 := (i 1).isLt
  split
  · refine part_eq M _ _ _ _ ?_ rfl
    unfold mrow
    rw [if_pos (by omega)]
    rfl
  · refine part_eq M _ _ _ _ ?_ rfl
    unfold mrow
    rw [if_neg (by omega)]
    show (i 0 : ℕ) = _
    omega

/-- The gated branches. -/
theorem mix (b : Fin 8) (p : Fin 4352) (j : Fin 1024) (hr : Real1 (fun k => r (ix3 b p k)))
    (h0 : Real1 (fun k => K (ix4 0 b p k))) (h1 : Real1 (fun k => K (ix4 1 b p k)))
    (hw : Real1 (wts g gg gb rk U wa wc wr wo).rk) :
    val_main_v89 (F := Ideal) T C Y r v K P gg gb rk U wa wc wr (ix3 b p j) = mixed (row T C Y r v K P b p) (wts g gg gb rk U wa wc wr wo) j := by
  pointwise [val_main_v79, val_main_v80, val_main_v81, val_main_v82, val_main_v83, val_main_v84, val_main_v85, val_main_v86, val_main_v87, val_main_v88, val_main_v89]
  simp only [gates, branch T C Y r v K P g gg gb rk U wa wc wr wo b p _ hr h0 h1 hw]
  have e1 : (⟨7168 + (1024 + (j : ℕ)), by omega⟩ : Fin 10240) = ⟨8192 + (j : ℕ), by omega⟩ :=
    Fin.ext (show 7168 + (1024 + (j : ℕ)) = 8192 + (j : ℕ) by omega)
  have e2 : (⟨7168 + (2048 + (j : ℕ)), by omega⟩ : Fin 10240) = ⟨9216 + (j : ℕ), by omega⟩ :=
    Fin.ext (show 7168 + (2048 + (j : ℕ)) = 9216 + (j : ℕ) by omega)
  rw [e1, e2]
  rfl

/-- The last projection. -/
theorem outs (b : Fin 8) (p : Fin 4352) (j : Fin 1024) (hr : Real1 (fun k => r (ix3 b p k)))
    (h0 : Real1 (fun k => K (ix4 0 b p k))) (h1 : Real1 (fun k => K (ix4 1 b p k)))
    (hw : Real1 (wts g gg gb rk U wa wc wr wo).rk) :
    val_main_v90 (F := Ideal) T C Y r v K P gg gb rk U wa wc wr wo (ix3 b p j) = out (row T C Y r v K P b p) (wts g gg gb rk U wa wc wr wo) j := by
  pointwise [val_main_v90]
  simp only [mix T C Y r v K P g gg gb rk U wa wc wr wo b p _ hr h0 h1 hw]
  rfl

/-- The reference's result. -/
theorem whole (b : Fin 8) (p : Fin 4352) (j : Fin 1024) (hr : Real1 (fun k => r (ix3 b p k)))
    (h0 : Real1 (fun k => K (ix4 0 b p k))) (h1 : Real1 (fun k => K (ix4 1 b p k)))
    (hw : Real1 (wts g gg gb rk U wa wc wr wo).rk) :
    val_main_v105 (F := Ideal) A T C Y r v K P M g gg gb rk U wa wc wr wo (ix3 b p j) = result (row T C Y r v K P b p) (wts g gg gb rk U wa wc wr wo) (A (ix3 b p j))
      (part M 2 (4352 * (b : ℕ) + p) j) j := by
  pointwise [val_main_v91, val_main_cst_10, val_main_v92, val_main_v93, val_main_cst_11, val_main_v94, val_main_v95, val_main_cst_12, val_main_v96, val_main_v97, val_main_v98, val_main_v99, val_main_v100, val_main_v101, val_main_v102, val_main_v103, val_main_v104, val_main_v105]
  simp only [outs T C Y r v K P g gg gb rk U wa wc wr wo b p _ hr h0 h1 hw, mod_part]
  rfl

end Cert.Reference8Ideal.Hand

end
-- ==== Proof.MergeHostLate.lean ====
/- The second layer's merge: what the host leaves for its call. -/
module

public import proofs.«01_k».proof.Proof.Gen.Kernel9Ideal.Value
public import Idealize.ShloMosaic.Lib.Pipeline.ValueKit
public import proofs.«01_k».proof.Proof.MergeHost

@[expose] public section

set_option maxRecDepth 16384

noncomputable section

namespace Cert.Kernel9Ideal.Hand

open Cert.Kernel9Ideal Cert.Kernel9Ideal.Gen Idealize.ShloMosaic Idealize.ShloMosaic.TcCoe Idealize.SL.Sem
open Cert.Kernel9Ideal.Facts Cert.Norm Cert.Merge

variable (m : (ℓ : Loc nD τ sig) → Buf (Elt Ideal) ℓ)

abbrev argA (c : Dev nD) : FVec Ideal S8x4352x1024 .f32 := m ((c : Thread nD τ).loc main_arg0)
abbrev argT (c : Dev nD) : FVec Ideal S8x4096x1024 .f32 := m ((c : Thread nD τ).loc main_arg1)
abbrev argC (c : Dev nD) : FVec Ideal S8x4096x1024 .f32 := m ((c : Thread nD τ).loc main_arg2)
abbrev argY (c : Dev nD) : FVec Ideal S2x8x4352x1024 .f32 := m ((c : Thread nD τ).loc main_arg3)
abbrev argR (c : Dev nD) : FVec Ideal S8x4352x1024 .f32 := m ((c : Thread nD τ).loc main_arg4)
abbrev argV (c : Dev nD) : FVec Ideal S8x4352x1024 .f32 := m ((c : Thread nD τ).loc main_arg5)
abbrev argK (c : Dev nD) : FVec Ideal S2x8x4352x1024 .f32 := m ((c : Thread nD τ).loc main_arg6)
abbrev argP (c : Dev nD) : FVec Ideal S8x4352x10240 .f32 := m ((c : Thread nD τ).loc main_arg7)
abbrev argM (c : Dev nD) : FVec Ideal S16x6144 .f32 := m ((c : Thread nD τ).loc main_arg8)
abbrev argG (c : Dev nD) : FVec Ideal S1024 .f32 := m ((c : Thread nD τ).loc main_arg9)
abbrev argGg (c : Dev nD) : FVec Ideal S1024 .f32 := m ((c : Thread nD τ).loc main_arg10)
abbrev argGb (c : Dev nD) : FVec Ideal S1024 .f32 := m ((c : Thread nD τ).loc main_arg11)
abbrev argRk (c : Dev nD) : FVec Ideal S16x64 .f32 := m ((c : Thread nD τ).loc main_arg12)
abbrev argU (c : Dev nD) : FVec Ideal S128x1024 .f32 := m ((c : Thread nD τ).loc main_arg13)
abbrev argWa (c : Dev nD) : FVec Ideal S1024x1024 .f32 := m ((c : Thread nD τ).loc main_arg14)
abbrev argWc (c : Dev nD) : FVec Ideal S1024x1024 .f32 := m ((c : Thread nD τ).loc main_arg15)
abbrev argWr (c : Dev nD) : FVec Ideal S1024x1024 .f32 := m ((c : Thread nD τ).loc main_arg16)
abbrev argWo (c : Dev nD) : FVec Ideal S1024x1024 .f32 := m ((c : Thread nD τ).loc main_arg17)

/-- The heads' indicator matrix. -/
theorem V8 (c : Dev nD) (i : Fin 1024) (h : Fin 128) :
    (show FVec Ideal S1024x128 .bf16 from V m c main_v8) (ix2 i h) = if (i : ℕ) / 64 = (h : ℕ) then 1 else 0 := by
  have hi := i.isLt
  refine Eq.trans ?_ (Kernel8Ideal.Hand.one_bit ((i : ℕ) / 64 = (h : ℕ)))
  rw [← Kernel8Ideal.Hand.same_head ⟨(i : ℕ) / 64, by omega⟩ h, ← Kernel8Ideal.Hand.floor_head i]
  unfold V
  simp only [hostOps0, hostOps0_1, hostOps0_2, List.flatten_cons, List.flatten_nil, List.append_nil, List.cons_append,
    List.nil_append]
  after_results
  simp -implicitDefEqProofs only [StableHlo.TRef.toBuf, StableHlo.TRef.ofBuf, cast_cast, cast_eq]
  pointwise []
  rfl

/-- Its transpose. -/
theorem V9 (c : Dev nD) (h : Fin 128) (i : Fin 1024) :
    (show FVec Ideal S128x1024 .bf16 from V m c main_v9) (ix2 h i) = if (i : ℕ) / 64 = (h : ℕ) then 1 else 0 := by
  have hi := i.isLt
  refine Eq.trans ?_ (Kernel8Ideal.Hand.one_bit ((i : ℕ) / 64 = (h : ℕ)))
  rw [← Kernel8Ideal.Hand.same_head ⟨(i : ℕ) / 64, by omega⟩ h, ← Kernel8Ideal.Hand.floor_head i]
  unfold V
  simp only [hostOps0, hostOps0_1, hostOps0_2, List.flatten_cons, List.flatten_nil, List.append_nil, List.cons_append,
    List.nil_append]
  after_results
  simp -implicitDefEqProofs only [StableHlo.TRef.toBuf, StableHlo.TRef.ofBuf, cast_cast, cast_eq]
  pointwise []
  rfl

theorem V10 (c : Dev nD) : V m c main_v10 = shapeCast S16x6x1024 (argM m c) shapeCasts_S16x6144_S16x6x1024 := by
  unfold V
  simp only [hostOps0, hostOps0_1, hostOps0_2, List.flatten_cons, List.flatten_nil, List.append_nil, List.cons_append,
    List.nil_append]
  after_results
  rfl

theorem V18 (c : Dev nD) : V m c main_v18 = shapeCast S1x1024 (argG m c) shapeCasts_S1024_S1x1024 := by
  unfold V
  simp only [hostOps0, hostOps0_1, hostOps0_2, List.flatten_cons, List.flatten_nil, List.append_nil, List.cons_append,
    List.nil_append]
  after_results
  rfl

theorem V19 (c : Dev nD) : V m c main_v19 = shapeCast S1x1024 (argGg m c) shapeCasts_S1024_S1x1024 := by
  unfold V
  simp only [hostOps0, hostOps0_1, hostOps0_2, List.flatten_cons, List.flatten_nil, List.append_nil, List.cons_append,
    List.nil_append]
  after_results
  rfl

theorem V20 (c : Dev nD) : V m c main_v20 = shapeCast S1x1024 (argGb m c) shapeCasts_S1024_S1x1024 := by
  unfold V
  simp only [hostOps0, hostOps0_1, hostOps0_2, List.flatten_cons, List.flatten_nil, List.append_nil, List.cons_append,
    List.nil_append]
  after_results
  rfl

theorem V21 (c : Dev nD) : V m c main_v21 = shapeCast S1x1024 (argRk m c) shapeCasts_S16x64_S1x1024 := by
  unfold V
  simp only [hostOps0, hostOps0_1, hostOps0_2, List.flatten_cons, List.flatten_nil, List.append_nil, List.cons_append,
    List.nil_append]
  after_results
  rfl

end Cert.Kernel9Ideal.Hand

end
-- ==== Proof.MergeReadLate.lean ====
/- The second layer's merge: what each grid point reads. -/
module

public import proofs.«01_k».proof.Proof.Gen.Kernel9Ideal.Value
public import Idealize.ShloMosaic.Lib.Pipeline.ValueKit
public import proofs.«01_k».proof.Proof.MergeHostLate

@[expose] public section

set_option maxRecDepth 16384

noncomputable section

namespace Cert.Kernel9Ideal.Hand

open Cert.Kernel9Ideal Cert.Kernel9Ideal.Gen Idealize.ShloMosaic Idealize.ShloMosaic.TcCoe Idealize.SL.Sem
open Cert.Kernel9Ideal.Facts Cert.Norm Cert.Merge

variable (m : (ℓ : Loc nD τ sig) → Buf (Elt Ideal) ℓ)

theorem idx : ∀ t : Fin cfg0.N, win0_0.index t = ![t.val / 16, t.val % 16 + 1, 0]
    ∧ win0_1.index t = ![t.val / 16, t.val % 16, 0]
    ∧ win0_2.index t = ![t.val / 16, t.val % 16, 0]
    ∧ win0_3.index t = ![0, t.val / 16, t.val % 16 + 1, 0]
    ∧ win0_4.index t = ![t.val / 16, t.val % 16 + 1, 0]
    ∧ win0_5.index t = ![t.val / 16, t.val % 16 + 1, 0]
    ∧ win0_6.index t = ![0, t.val / 16, t.val % 16 + 1, 0]
    ∧ win0_7.index t = ![t.val / 16, t.val % 16 + 1, 3]
    ∧ win0_8.index t = ![t.val / 16, t.val % 16 + 1, 7]
    ∧ win0_9.index t = ![t.val / 16, t.val % 16 + 1, 8]
    ∧ win0_10.index t = ![t.val / 16, t.val % 16 + 1, 9]
    ∧ win0_11.index t = ![t.val / 16, 0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![t.val / 16, t.val % 16, 0] :=
  (by decide +kernel : ∀ t : Fin grid0.N, _)

theorem point_lt (t : Fin cfg0.N) : t.val < 128 := lt_of_lt_of_eq t.isLt N_0

theorem a_read (c : Dev nD) (t : Fin cfg0.N) (x : S1x256x1024.Idx) (i : S8x4352x1024.Idx) (h0 : (i 0 : ℕ) = t.val / 16)
    (h1 : (i 1 : ℕ) = 256 + (256 * (t.val % 16) + x 1)) (h2 : (i 2 : ℕ) = x 2) :
    (show FVec Ideal S1x256x1024 .f32 from iblk m c 0 t) x = argA m c i := by
  blk_point [iblk, V, idx t]

theorem t_read (c : Dev nD) (t : Fin cfg0.N) (x : S1x256x1024.Idx) (i : S8x4096x1024.Idx) (h0 : (i 0 : ℕ) = t.val / 16)
    (h1 : (i 1 : ℕ) = 256 * (t.val % 16) + x 1) (h2 : (i 2 : ℕ) = x 2) :
    (show FVec Ideal S1x256x1024 .bf16 from iblk m c 1 t) x = argT m c i := by
  blk_point [iblk, V, idx t]

theorem c_read (c : Dev nD) (t : Fin cfg0.N) (x : S1x256x1024.Idx) (i : S8x4096x1024.Idx) (h0 : (i 0 : ℕ) = t.val / 16)
    (h1 : (i 1 : ℕ) = 256 * (t.val % 16) + x 1) (h2 : (i 2 : ℕ) = x 2) :
    (show FVec Ideal S1x256x1024 .bf16 from iblk m c 2 t) x = argC m c i := by
  blk_point [iblk, V, idx t]

theorem r_read (c : Dev nD) (t : Fin cfg0.N) (x : S1x256x1024.Idx) (i : S8x4352x1024.Idx) (h0 : (i 0 : ℕ) = t.val / 16)
    (h1 : (i 1 : ℕ) = 256 + (256 * (t.val % 16) + x 1)) (h2 : (i 2 : ℕ) = x 2) :
    (show FVec Ideal S1x256x1024 .f32 from iblk m c 4 t) x = argR m c i := by
  blk_point [iblk, V, idx t]

theorem v_read (c : Dev nD) (t : Fin cfg0.N) (x : S1x256x1024.Idx) (i : S8x4352x1024.Idx) (h0 : (i 0 : ℕ) = t.val / 16)
    (h1 : (i 1 : ℕ) = 256 + (256 * (t.val % 16) + x 1)) (h2 : (i 2 : ℕ) = x 2) :
    (show FVec Ideal S1x256x1024 .f32 from iblk m c 5 t) x = argV m c i := by
  blk_point [iblk, V, idx t]

theorem y_read (c : Dev nD) (t : Fin cfg0.N) (x : S2x1x256x1024.Idx) (i : S2x8x4352x1024.Idx) (h0 : (i 0 : ℕ) = x 0)
    (h1 : (i 1 : ℕ) = t.val / 16) (h2 : (i 2 : ℕ) = 256 + (256 * (t.val % 16) + x 2)) (h3 : (i 3 : ℕ) = x 3) :
    (show FVec Ideal S2x1x256x1024 .f32 from iblk m c 3 t) x = argY m c i := by
  blk_point [iblk, V, idx t]

theorem k_read (c : Dev nD) (t : Fin cfg0.N) (x : S2x1x256x1024.Idx) (i : S2x8x4352x1024.Idx) (h0 : (i 0 : ℕ) = x 0)
    (h1 : (i 1 : ℕ) = t.val / 16) (h2 : (i 2 : ℕ) = 256 + (256 * (t.val % 16) + x 2)) (h3 : (i 3 : ℕ) = x 3) :
    (show FVec Ideal S2x1x256x1024 .f32 from iblk m c 6 t) x = argK m c i := by
  blk_point [iblk, V, idx t]

theorem l_read (c : Dev nD) (t : Fin cfg0.N) (x : S1x256x512.Idx) (i : S8x4352x10240.Idx) (h0 : (i 0 : ℕ) = t.val / 16)
    (h1 : (i 1 : ℕ) = 256 + (256 * (t.val % 16) + x 1)) (h2 : (i 2 : ℕ) = 1536 + x 2) :
    (show FVec Ideal S1x256x512 .f32 from iblk m c 7 t) x = argP m c i := by
  blk_point [iblk, V, idx t]

theorem ga_read (c : Dev nD) (t : Fin cfg0.N) (x : S1x256x1024.Idx) (i : S8x4352x10240.Idx) (h0 : (i 0 : ℕ) = t.val / 16)
    (h1 : (i 1 : ℕ) = 256 + (256 * (t.val % 16) + x 1)) (h2 : (i 2 : ℕ) = 7168 + x 2) :
    (show FVec Ideal S1x256x1024 .f32 from iblk m c 8 t) x = argP m c i := by
  blk_point [iblk, V, idx t]

theorem gc_read (c : Dev nD) (t : Fin cfg0.N) (x : S1x256x1024.Idx) (i : S8x4352x10240.Idx) (h0 : (i 0 : ℕ) = t.val / 16)
    (h1 : (i 1 : ℕ) = 256 + (256 * (t.val % 16) + x 1)) (h2 : (i 2 : ℕ) = 8192 + x 2) :
    (show FVec Ideal S1x256x1024 .f32 from iblk m c 9 t) x = argP m c i := by
  blk_point [iblk, V, idx t]

theorem gr_read (c : Dev nD) (t : Fin cfg0.N) (x : S1x256x1024.Idx) (i : S8x4352x10240.Idx) (h0 : (i 0 : ℕ) = t.val / 16)
    (h1 : (i 1 : ℕ) = 256 + (256 * (t.val % 16) + x 1)) (h2 : (i 2 : ℕ) = 9216 + x 2) :
    (show FVec Ideal S1x256x1024 .f32 from iblk m c 10 t) x = argP m c i := by
  blk_point [iblk, V, idx t]

theorem m_read (c : Dev nD) (t : Fin cfg0.N) (x : S1x6x1024.Idx) (i : S16x6144.Idx) (h0 : (i 0 : ℕ) = t.val / 16)
    (h1 : (i 1 : ℕ) = 1024 * x 1 + x 2) : (show FVec Ideal S1x6x1024 .f32 from iblk m c 11 t) x = argM m c i := by
  blk_simp [iblk]
  rw [V10]
  pointwise []
  blk_ext [idx t]

theorem g_read (c : Dev nD) (t : Fin cfg0.N) (x : S1x1024.Idx) (i : S1024.Idx) (h : (i 0 : ℕ) = x 1) :
    (show FVec Ideal S1x1024 .f32 from iblk m c 12 t) x = argG m c i := by
  blk_simp [iblk]
  rw [V18]
  pointwise []
  blk_ext [idx t]

theorem gg_read (c : Dev nD) (t : Fin cfg0.N) (x : S1x1024.Idx) (i : S1024.Idx) (h : (i 0 : ℕ) = x 1) :
    (show FVec Ideal S1x1024 .f32 from iblk m c 13 t) x = argGg m c i := by
  blk_simp [iblk]
  rw [V19]
  pointwise []
  blk_ext [idx t]

theorem gb_read (c : Dev nD) (t : Fin cfg0.N) (x : S1x1024.Idx) (i : S1024.Idx) (h : (i 0 : ℕ) = x 1) :
    (show FVec Ideal S1x1024 .f32 from iblk m c 14 t) x = argGb m c i := by
  blk_simp [iblk]
  rw [V20]
  pointwise []
  blk_ext [idx t]

theorem rk_read (c : Dev nD) (t : Fin cfg0.N) (x : S1x1024.Idx) (i : S16x64.Idx) (h : 64 * (i 0 : ℕ) + i 1 = x 1) :
    (show FVec Ideal S1x1024 .f32 from iblk m c 15 t) x = argRk m c i := by
  blk_simp [iblk]
  rw [V21]
  pointwise []
  blk_ext [idx t]

theorem u_read (c : Dev nD) (t : Fin cfg0.N) (x : S128x1024.Idx) :
    (show FVec Ideal S128x1024 .bf16 from iblk m c 16 t) x = argU m c x := by
  blk_point [iblk, V, idx t]

theorem wa_read (c : Dev nD) (t : Fin cfg0.N) (x : S1024x1024.Idx) :
    (show FVec Ideal S1024x1024 .bf16 from iblk m c 19 t) x = argWa m c x := by
  blk_point [iblk, V, idx t]

theorem wc_read (c : Dev nD) (t : Fin cfg0.N) (x : S1024x1024.Idx) :
    (show FVec Ideal S1024x1024 .bf16 from iblk m c 20 t) x = argWc m c x := by
  blk_point [iblk, V, idx t]

theorem wr_read (c : Dev nD) (t : Fin cfg0.N) (x : S1024x1024.Idx) :
    (show FVec Ideal S1024x1024 .bf16 from iblk m c 21 t) x = argWr m c x := by
  blk_point [iblk, V, idx t]

theorem wo_read (c : Dev nD) (t : Fin cfg0.N) (x : S1024x1024.Idx) :
    (show FVec Ideal S1024x1024 .bf16 from iblk m c 22 t) x = argWo m c x := by
  blk_point [iblk, V, idx t]

end Cert.Kernel9Ideal.Hand

end
-- ==== Proof.MergeLate.lean ====
/- The second layer's merge is of the sequences' own tokens: where they are, and the part of the modulation they take. -/
module

public import proofs.«01_k».proof.Proof.Merge

@[expose] public section

noncomputable section

namespace Cert.Merge

open Idealize.ShloMosaic Cert.Norm

/-- A sequence's own position, counted after the context. -/
def after (q : Fin 4096) : Fin 4352 := ⟨256 + q, by omega⟩

/-- The modulation's third part for sequence `b`. -/
def own (M : SM.Idx → EReal) (b : Fin 8) (k : Fin 1024) : EReal := M (ix2 ⟨b, by omega⟩ ⟨2048 + k, by omega⟩)

end Cert.Merge

end
-- ==== Proof.MergeLoadLate.lean ====
/- The second layer's merge: what the body reads of its blocks. -/
module

public import proofs.«01_k».proof.Proof.MergeReadLate
public import proofs.«01_k».proof.Proof.MergeLate

@[expose] public section

set_option maxRecDepth 16384

noncomputable section

namespace Cert.Kernel9Ideal.Hand

open Cert.Kernel9Ideal Cert.Kernel9Ideal.Gen Idealize.ShloMosaic Idealize.ShloMosaic.TcCoe Idealize.SL.Sem
open Cert.Kernel9Ideal.Facts Cert.Norm Cert.Merge

variable (m : (ℓ : Loc nD τ sig) → Buf (Elt Ideal) ℓ)

/-- The sequence's own position a row of a grid point's block is. -/
def there (t : Fin cfg0.N) (r : Fin 256) : Fin 4096 := ⟨256 * (t.val % 16) + r, by omega⟩

def seq (t : Fin cfg0.N) : Fin 8 := ⟨t.val / 16, by have := point_lt t; omega⟩

theorem ld_a (c : Dev nD) (t : Fin cfg0.N) (r : Fin 256) (k : Fin 1024) :
    (show FVec Ideal S1x256x1024 .f32 from View.ld (iblk m c 0 t) r0_5) (ix3 0 r k) = argA m c (ix3 (seq t) (after (there t r)) k) := by
  refine Eq.trans ?_ (a_read m c t (ix3 0 r k) _ rfl rfl rfl)
  pointwise []
  blk_ext

theorem ld_r (c : Dev nD) (t : Fin cfg0.N) (r : Fin 256) (k : Fin 1024) :
    (show FVec Ideal S1x256x1024 .f32 from View.ld (iblk m c 4 t) r0_5) (ix3 0 r k) = argR m c (ix3 (seq t) (after (there t r)) k) := by
  refine Eq.trans ?_ (r_read m c t (ix3 0 r k) _ rfl rfl rfl)
  pointwise []
  blk_ext

theorem ld_v (c : Dev nD) (t : Fin cfg0.N) (r : Fin 256) (k : Fin 1024) :
    (show FVec Ideal S1x256x1024 .f32 from View.ld (iblk m c 5 t) r0_5) (ix3 0 r k) = argV m c (ix3 (seq t) (after (there t r)) k) := by
  refine Eq.trans ?_ (v_read m c t (ix3 0 r k) _ rfl rfl rfl)
  pointwise []
  blk_ext

theorem ld_t (c : Dev nD) (t : Fin cfg0.N) (r : Fin 256) (k : Fin 1024) :
    (show FVec Ideal S1x256x1024 .bf16 from View.ld (iblk m c 1 t) r0_5) (ix3 0 r k) = argT m c (ix3 (seq t) (there t r) k) := by
  refine Eq.trans ?_ (t_read m c t (ix3 0 r k) _ rfl rfl rfl)
  pointwise []
  blk_ext

theorem ld_c (c : Dev nD) (t : Fin cfg0.N) (r : Fin 256) (k : Fin 1024) :
    (show FVec Ideal S1x256x1024 .bf16 from View.ld (iblk m c 2 t) r0_5) (ix3 0 r k) = argC m c (ix3 (seq t) (there t r) k) := by
  refine Eq.trans ?_ (c_read m c t (ix3 0 r k) _ rfl rfl rfl)
  pointwise []
  blk_ext

theorem ld_y0 (c : Dev nD) (t : Fin cfg0.N) (r : Fin 256) (k : Fin 1024) :
    (show FVec Ideal S1x1x256x1024 .f32 from View.ld (iblk m c 3 t) r0_0) (ix4 0 0 r k) = argY m c (ix4 0 (seq t) (after (there t r)) k) := by
  refine Eq.trans ?_ (y_read m c t (ix4 0 0 r k) _ rfl rfl rfl rfl)
  pointwise []
  blk_ext

theorem ld_y1 (c : Dev nD) (t : Fin cfg0.N) (r : Fin 256) (k : Fin 1024) :
    (show FVec Ideal S1x1x256x1024 .f32 from View.ld (iblk m c 3 t) r0_1) (ix4 0 0 r k) = argY m c (ix4 1 (seq t) (after (there t r)) k) := by
  refine Eq.trans ?_ (y_read m c t (ix4 1 0 r k) _ rfl rfl rfl rfl)
  pointwise []
  blk_ext

theorem ld_k0 (c : Dev nD) (t : Fin cfg0.N) (r : Fin 256) (k : Fin 1024) :
    (show FVec Ideal S1x1x256x1024 .f32 from View.ld (iblk m c 6 t) r0_0) (ix4 0 0 r k) = argK m c (ix4 0 (seq t) (after (there t r)) k) := by
  refine Eq.trans ?_ (k_read m c t (ix4 0 0 r k) _ rfl rfl rfl rfl)
  pointwise []
  blk_ext

theorem ld_k1 (c : Dev nD) (t : Fin cfg0.N) (r : Fin 256) (k : Fin 1024) :
    (show FVec Ideal S1x1x256x1024 .f32 from View.ld (iblk m c 6 t) r0_1) (ix4 0 0 r k) = argK m c (ix4 1 (seq t) (after (there t r)) k) := by
  refine Eq.trans ?_ (k_read m c t (ix4 1 0 r k) _ rfl rfl rfl rfl)
  pointwise []
  blk_ext

theorem ld_ga (c : Dev nD) (t : Fin cfg0.N) (r : Fin 256) (k : Fin 1024) :
    (show FVec Ideal S1x256x1024 .f32 from View.ld (iblk m c 8 t) r0_5) (ix3 0 r k) = argP m c (ix3 (seq t) (after (there t r)) ⟨7168 + k, by omega⟩) := by
  refine Eq.trans ?_ (ga_read m c t (ix3 0 r k) _ rfl rfl rfl)
  pointwise []
  blk_ext

theorem ld_gc (c : Dev nD) (t : Fin cfg0.N) (r : Fin 256) (k : Fin 1024) :
    (show FVec Ideal S1x256x1024 .f32 from View.ld (iblk m c 9 t) r0_5) (ix3 0 r k) = argP m c (ix3 (seq t) (after (there t r)) ⟨8192 + k, by omega⟩) := by
  refine Eq.trans ?_ (gc_read m c t (ix3 0 r k) _ rfl rfl rfl)
  pointwise []
  blk_ext

theorem ld_gr (c : Dev nD) (t : Fin cfg0.N) (r : Fin 256) (k : Fin 1024) :
    (show FVec Ideal S1x256x1024 .f32 from View.ld (iblk m c 10 t) r0_5) (ix3 0 r k) = argP m c (ix3 (seq t) (after (there t r)) ⟨9216 + k, by omega⟩) := by
  refine Eq.trans ?_ (gr_read m c t (ix3 0 r k) _ rfl rfl rfl)
  pointwise []
  blk_ext

theorem ld_l (c : Dev nD) (t : Fin cfg0.N) (r : Fin 256) (k : Fin 128) :
    (show FVec Ideal S1x256x128 .f32 from View.ld (iblk m c 7 t) r0_6) (ix3 0 r k) = argP m c (ix3 (seq t) (after (there t r)) ⟨1792 + k, by omega⟩) := by
  refine Eq.trans ?_ (l_read m c t (ix3 0 r ⟨256 + k, by omega⟩) _ rfl rfl (show 1792 + (k : ℕ) = 1536 + (256 + k) by omega))
  pointwise []
  blk_ext

theorem ld_g (c : Dev nD) (t : Fin cfg0.N) (k : Fin 1024) :
    (show FVec Ideal S1x1024 .f32 from View.ld (iblk m c 12 t) r0_4) (ix2 0 k) = argG m c (ix1 k) := by
  refine Eq.trans ?_ (g_read m c t (ix2 0 k) _ rfl)
  pointwise []
  blk_ext

theorem ld_gg (c : Dev nD) (t : Fin cfg0.N) (k : Fin 1024) :
    (show FVec Ideal S1x1024 .f32 from View.ld (iblk m c 13 t) r0_4) (ix2 0 k) = argGg m c (ix1 k) := by
  refine Eq.trans ?_ (gg_read m c t (ix2 0 k) _ rfl)
  pointwise []
  blk_ext

theorem ld_gb (c : Dev nD) (t : Fin cfg0.N) (k : Fin 1024) :
    (show FVec Ideal S1x1024 .f32 from View.ld (iblk m c 14 t) r0_4) (ix2 0 k) = argGb m c (ix1 k) := by
  refine Eq.trans ?_ (gb_read m c t (ix2 0 k) _ rfl)
  pointwise []
  blk_ext

theorem ld_rk (c : Dev nD) (t : Fin cfg0.N) (k : Fin 1024) :
    (show FVec Ideal S1x1024 .f32 from View.ld (iblk m c 15 t) r0_4) (ix2 0 k) = argRk m c (ix2 ⟨(k : ℕ) / 64, by omega⟩ ⟨(k : ℕ) % 64, by omega⟩) := by
  refine Eq.trans ?_ (rk_read m c t (ix2 0 k) _ (show 64 * ((k : ℕ) / 64) + (k : ℕ) % 64 = k by omega))
  pointwise []
  blk_ext

theorem ld_u (c : Dev nD) (t : Fin cfg0.N) (k : Fin 128) (j : Fin 1024) :
    (show FVec Ideal S128x1024 .bf16 from View.ld (iblk m c 16 t) r0_3) (ix2 k j) = argU m c (ix2 k j) := by
  refine Eq.trans ?_ (u_read m c t (ix2 k j))
  pointwise []
  blk_ext

theorem ld_wa (c : Dev nD) (t : Fin cfg0.N) (k j : Fin 1024) :
    (show FVec Ideal S1024x1024 .bf16 from View.ld (iblk m c 19 t) r0_7) (ix2 k j) = argWa m c (ix2 k j) := by
  refine Eq.trans ?_ (wa_read m c t (ix2 k j))
  pointwise []
  blk_ext

theorem ld_wc (c : Dev nD) (t : Fin cfg0.N) (k j : Fin 1024) :
    (show FVec Ideal S1024x1024 .bf16 from View.ld (iblk m c 20 t) r0_7) (ix2 k j) = argWc m c (ix2 k j) := by
  refine Eq.trans ?_ (wc_read m c t (ix2 k j))
  pointwise []
  blk_ext

theorem ld_wr (c : Dev nD) (t : Fin cfg0.N) (k j : Fin 1024) :
    (show FVec Ideal S1024x1024 .bf16 from View.ld (iblk m c 21 t) r0_7) (ix2 k j) = argWr m c (ix2 k j) := by
  refine Eq.trans ?_ (wr_read m c t (ix2 k j))
  pointwise []
  blk_ext

theorem ld_wo (c : Dev nD) (t : Fin cfg0.N) (k j : Fin 1024) :
    (show FVec Ideal S1024x1024 .bf16 from View.ld (iblk m c 22 t) r0_7) (ix2 k j) = argWo m c (ix2 k j) := by
  refine Eq.trans ?_ (wo_read m c t (ix2 k j))
  pointwise []
  blk_ext

theorem ld_e (c : Dev nD) (t : Fin cfg0.N) (i : Fin 1024) (h : Fin 128) :
    (show FVec Ideal S1024x128 .bf16 from View.ld (iblk m c 17 t) r0_2) (ix2 i h) = if (i : ℕ) / 64 = (h : ℕ) then 1 else 0 := by
  refine Eq.trans ?_ (V8 m c i h)
  blk_simp [iblk]
  pointwise []
  blk_ext [idx t]

theorem ld_et (c : Dev nD) (t : Fin cfg0.N) (h : Fin 128) (i : Fin 1024) :
    (show FVec Ideal S128x1024 .bf16 from View.ld (iblk m c 18 t) r0_3) (ix2 h i) = if (i : ℕ) / 64 = (h : ℕ) then 1 else 0 := by
  refine Eq.trans ?_ (V9 m c h i)
  blk_simp [iblk]
  pointwise []
  blk_ext [idx t]

theorem ld_m (c : Dev nD) (t : Fin cfg0.N) (k : Fin 1024) :
    (show FVec Ideal S1x1x1024 .f32 from View.ld (iblk m c 11 t) r0_8) (ix3 0 0 k)
      = own (argM m c) (seq t) k := by
  refine Eq.trans ?_ (m_read m c t (ix3 0 2 k) _ rfl (show 2048 + (k : ℕ) = 1024 * 2 + k by omega))
  pointwise []
  blk_ext

end Cert.Kernel9Ideal.Hand

end
-- ==== Proof.MergeBlockLate.lean ====
/- The second layer's merge: what each grid point leaves in its block. -/
module

public import Idealize.ShloMosaic.Lib.Pipeline.ValueKit
public import proofs.«01_k».proof.Proof.MergeLoadLate
public import proofs.«01_k».proof.Proof.MergeBody

@[expose] public section

set_option maxRecDepth 16384

noncomputable section

namespace Cert.Kernel9Ideal.Hand

open Cert.Kernel9Ideal Cert.Kernel9Ideal.Gen Idealize.ShloMosaic Idealize.ShloMosaic.TcCoe Idealize.SL.Sem
open Cert.Kernel9Ideal.Facts Cert.Norm Cert.Merge

variable (m : (ℓ : Loc nD τ sig) → Buf (Elt Ideal) ℓ)

/-- The row of inputs of a sequence's own token `q`. -/
abbrev row (c : Dev nD) (b : Fin 8) (q : Fin 4096) : Row :=
  rowOf (fun k => argT m c (ix3 b q k)) (fun k => argC m c (ix3 b q k)) (argY m c) (argR m c) (argV m c) (argK m c) (argP m c) b (after q)

/-- The weights of the call. -/
abbrev wts (c : Dev nD) : Wts :=
  wtsOf (argG m c) (argGg m c) (argGb m c) (argRk m c) (argU m c) (argWa m c) (argWc m c) (argWr m c) (argWo m c)

/-- The call's result as a function of its arguments. -/
def value (c : Dev nD) (i : S8x4096x1024.Idx) : EReal :=
  result (row m c (i 0) (i 1)) (wts m c) (argA m c (ix3 (i 0) (after (i 1)) (i 2)))
    (own (argM m c) (i 0) (i 2)) (i 2)

/-- Each grid point's block is the result's block. -/
theorem block (c : Dev nD) (t : Fin cfg0.N) (y : S1x256x1024.Idx) (i : S8x4096x1024.Idx) (e0 : (i 0 : ℕ) = t.val / 16)
    (e1 : (i 1 : ℕ) = 256 * (t.val % 16) + y 1) (e2 : (i 2 : ℕ) = y 2) (ok : ∀ b q, Kernel8Ideal.Hand.Reals (row m c b q) (wts m c)) :
    (show FVec Ideal S1x256x1024 .f32 from (dats m 0 c).after 23 t) y = value m c i := by
  have ht := point_lt t
  rw [after0_23]
  unfold out0_23
  canon_tiles x h
  have h0 : i 0 = seq t := Fin.ext e0
  have h1' : i 1 = there t (x 1) := Fin.ext (e1.trans (congrArg _ h1))
  have h2' : i 2 = x 2 := Fin.ext (e2.trans h2)
  unfold value
  rw [h0, h1', h2']
  have hx : x = ix3 0 (x 1) (x 2) := funext fun a => match a with
    | 0 => Fin.ext (Nat.lt_one_iff.mp (x 0).isLt)
    | 1 => rfl
    | 2 => rfl
  rw [hx]
  exact Kernel8Ideal.Hand.body _ _ (ld_e m c t) (ld_et m c t) _ _ _ _ _ _ _ _ _ _ _ _ _ _ _ _ _ _ _ _ _ _ _ (x 1) (x 2) (row m c (seq t) (there t (x 1))) (wts m c) _ _
    (ok _ _) (fun k => congrArg₂ (fun a b : EReal => a + b) (ld_y0 m c t (x 1) k) (ld_y1 m c t (x 1) k)) (ld_k0 m c t (x 1))
    (ld_k1 m c t (x 1)) (ld_r m c t (x 1)) (ld_v m c t (x 1)) (ld_l m c t (x 1)) (ld_ga m c t (x 1)) (ld_gc m c t (x 1))
    (ld_gr m c t (x 1)) (ld_t m c t (x 1)) (ld_c m c t (x 1)) (ld_a m c t (x 1) (x 2))
    (ld_m m c t (x 2)) (ld_g m c t) (ld_gg m c t) (ld_gb m c t) (ld_rk m c t) (ld_u m c t)
    (ld_wa m c t) (ld_wc m c t) (ld_wr m c t) (ld_wo m c t)

/-- The call's result. -/
theorem final (c : Dev nD) (ok : ∀ b q, Kernel8Ideal.Hand.Reals (row m c b q) (wts m c)) : (dats m 0 c).arrAt 23 cfg0.N = value m c := by
  refine (dats m 0 c).arrAt_eq_of_covers 23 _ (by decide +kernel) fun t _ y => ?_
  blk_simp
  exact block m c t y _ (by blk_simp [idx t]) (by blk_simp [idx t]; omega) (by blk_simp [idx t]) ok

end Cert.Kernel9Ideal.Hand

end
-- ==== Proof.MergeRefLate.lean ====
/- The reference of the second layer's merge, element by element. -/
module

public import proofs.«01_k».proof.Proof.Gen.Reference9Ideal.Read
public import proofs.«01_k».proof.Proof.MergeRef
public import proofs.«01_k».proof.Proof.MergeLate
public import Idealize.ShloMosaic.Lib.Pipeline.ValueKit
public import Idealize.ShloMosaic.Lib.Pointwise

@[expose] public section

set_option maxRecDepth 16384

noncomputable section

namespace Cert.Reference9Ideal.Hand

open Idealize.ShloMosaic Cert.Reference9Ideal Cert.Reference9Ideal.Gen Cert.Reference9Ideal.Read Cert.Norm Cert.Merge
open Cert.Reference8Ideal.Hand (ch chan_ch hsum_ch two wts head_w)

variable (A : FVec Ideal S8x4352x1024 .f32) (T C : FVec Ideal S8x4096x1024 .f32) (Y : FVec Ideal S2x8x4352x1024 .f32) (r v : FVec Ideal S8x4352x1024 .f32)
  (K : FVec Ideal S2x8x4352x1024 .f32) (P : FVec Ideal S8x4352x10240 .f32) (M : FVec Ideal S16x6144 .f32)
  (g gg gb : FVec Ideal S1024 .f32) (rk : FVec Ideal S16x64 .f32) (U : FVec Ideal S128x1024 .f32)
  (wa wc wr wo : FVec Ideal S1024x1024 .f32)

theorem head_y (b : Fin 8) (q : Fin 4096) (h : Fin 16) (c : Fin 64) :
    val_main_v13 (F := Ideal) Y (ix4 b q h c) = two Y b (after q) (ch h c) := by
  pointwise [val_main_v1, val_main_v8, val_main_v9, val_main_v10, val_main_v11, val_main_v12, val_main_v13]
  rfl

theorem head_dev (b : Fin 8) (q : Fin 4096) (h : Fin 16) (c : Fin 64) :
    val_main_v35 (F := Ideal) Y (ix4 b q h c) = dev (two Y b (after q)) (ch h c) := by
  unfold dev mean
  rw [hsum_ch]
  pointwise [val_main_cst, val_main_v23, val_main_v24, val_main_cst_0, val_main_v25, val_main_v26, val_main_v27, val_main_v34, val_main_v35]
  simp only [head_y]

theorem head_dev' (b : Fin 8) (q : Fin 4096) (h : Fin 16) (c : Fin 64) :
    val_main_v28 (F := Ideal) Y (ix4 b q h c) = dev (two Y b (after q)) (ch h c) := head_dev Y b q h c

theorem head_norm (b : Fin 8) (q : Fin 4096) (h : Fin 16) (c : Fin 64) :
    val_main_v40 (F := Ideal) Y (ix4 b q h c) = dev (two Y b (after q)) (ch h c)
      * Ideal.rsqrt (mean (fun i => dev (two Y b (after q)) i * dev (two Y b (after q)) i) (ch h c) + Ideal.ofBits .f32 0x3A27C5AC#32) := by
  unfold mean
  rw [hsum_ch]
  pointwise [val_main_v29, val_main_cst_1, val_main_v30, val_main_v31, val_main_cst_2, val_main_v32, val_main_v33, val_main_cst_3, val_main_v36, val_main_v37, val_main_v38, val_main_v39, val_main_v40]
  simp only [head_dev, head_dev']

/-- The sum of receptance, key and weight over a head, for one direction. -/
theorem head_sum0 (b : Fin 8) (q : Fin 4096) (h : Fin 16) :
    val_main_v52 (F := Ideal) r K rk (ix3 b q h) = ∑ d : Fin 64, r (ix3 b (after q) (ch h d)) * K (ix4 0 b (after q) (ch h d)) * rk (ix2 h d) := by
  pointwise [val_main_v2, val_main_v4, val_main_v14, val_main_v16, val_main_v17, val_main_v18, val_main_v48, val_main_v49, val_main_v50, val_main_v51, val_main_cst_4, val_main_v52]
  rfl

/-- The same for the other. -/
theorem head_sum1 (b : Fin 8) (q : Fin 4096) (h : Fin 16) :
    val_main_v58 (F := Ideal) r K rk (ix3 b q h) = ∑ d : Fin 64, r (ix3 b (after q) (ch h d)) * K (ix4 1 b (after q) (ch h d)) * rk (ix2 h d) := by
  pointwise [val_main_v2, val_main_v4, val_main_v14, val_main_v19, val_main_v20, val_main_v21, val_main_v54, val_main_v55, val_main_v56, val_main_v57, val_main_cst_5, val_main_v58]
  rfl

/-- The low-rank gate. -/
theorem gate (b : Fin 8) (q : Fin 4096) (j : Fin 1024) :
    val_main_v69 (F := Ideal) P U (ix3 b q j) = ∑ c : Fin 128, Ideal.logistic (P (ix3 b (after q) ⟨1792 + c, by omega⟩)) * U (ix2 c j) := by
  pointwise [val_main_v5, val_main_v22, val_main_v63, val_main_v64, val_main_cst_6, val_main_v65, val_main_v66, val_main_cst_7, val_main_v67, val_main_v68, val_main_v69]
  rfl

abbrev row (b : Fin 8) (q : Fin 4096) : Row := rowOf (fun k => T (ix3 b q k)) (fun k => C (ix3 b q k)) Y r v K P b (after q)

/-- The third branch. -/
theorem branch (b : Fin 8) (q : Fin 4096) (j : Fin 1024) (hr : Real1 (fun k => r (ix3 b (after q) k)))
    (h0 : Real1 (fun k => K (ix4 0 b (after q) k))) (h1 : Real1 (fun k => K (ix4 1 b (after q) k)))
    (hw : Real1 (wts g gg gb rk U wa wc wr wo).rk) :
    val_main_v72 (F := Ideal) Y r v K P gg gb rk U (ix3 b q j) = rwkv (row T C Y r v K P b q) (wts g gg gb rk U wa wc wr wo) j := by
  pointwise [val_main_v3, val_main_v41, val_main_v42, val_main_v43, val_main_v44, val_main_v45, val_main_v46, val_main_v47, val_main_v15, val_main_v53, val_main_v59, val_main_v60, val_main_v61, val_main_v62, val_main_v70, val_main_v71, val_main_v72]
  have e : ∀ x y, ch (⟨(j : ℕ) / 64, x⟩) ⟨(j : ℕ) % 64, y⟩ = j := fun _ _ =>
    Fin.ext (show (j : ℕ) / 64 * 64 + (j : ℕ) % 64 = j by omega)
  have f : ∀ x (X : Fin 1024 → EReal), (∑ d : Fin 64, r (ix3 b (after q) (ch ⟨(j : ℕ) / 64, x⟩ d)) * X (ch ⟨(j : ℕ) / 64, x⟩ d)
      * rk (ix2 ⟨(j : ℕ) / 64, x⟩ d)) = hsum (fun i => r (ix3 b (after q) i) * X i * (wts g gg gb rk U wa wc wr wo).rk i) j := by
    intro x X
    conv_rhs => rw [← e x (Nat.mod_lt _ (by norm_num)), hsum_ch]
    exact Finset.sum_congr rfl fun d _ => by rw [head_w]
  rw [head_norm, head_sum0, head_sum1, gate, e, f _ (fun k => K (ix4 0 b (after q) k)), f _ (fun k => K (ix4 1 b (after q) k)),
    bonus_split _ _ _ _ hr h0 h1 hw]
  rfl

theorem gates (b : Fin 8) (q : Fin 4096) (j : Fin 3072) :
    val_main_v79 (F := Ideal) P (ix3 b q j) = Ideal.logistic (P (ix3 b (after q) ⟨7168 + j, by omega⟩)) := by
  pointwise [val_main_v5, val_main_v73, val_main_v74, val_main_v75, val_main_cst_8, val_main_v76, val_main_v77, val_main_cst_9, val_main_v78, val_main_v79]
  rfl

/-- The gated branches. -/
theorem mix (b : Fin 8) (q : Fin 4096) (j : Fin 1024) (hr : Real1 (fun k => r (ix3 b (after q) k)))
    (h0 : Real1 (fun k => K (ix4 0 b (after q) k))) (h1 : Real1 (fun k => K (ix4 1 b (after q) k)))
    (hw : Real1 (wts g gg gb rk U wa wc wr wo).rk) :
    val_main_v90 (F := Ideal) T C Y r v K P gg gb rk U wa wc wr (ix3 b q j) = mixed (row T C Y r v K P b q) (wts g gg gb rk U wa wc wr wo) j := by
  pointwise [val_main_v80, val_main_v81, val_main_v82, val_main_v83, val_main_v84, val_main_v85, val_main_v86, val_main_v87, val_main_v88, val_main_v89, val_main_v90]
  simp only [gates, branch T C Y r v K P g gg gb rk U wa wc wr wo b q _ hr h0 h1 hw]
  have e1 : (⟨7168 + (1024 + (j : ℕ)), by omega⟩ : Fin 10240) = ⟨8192 + (j : ℕ), by omega⟩ :=
    Fin.ext (show 7168 + (1024 + (j : ℕ)) = 8192 + (j : ℕ) by omega)
  have e2 : (⟨7168 + (2048 + (j : ℕ)), by omega⟩ : Fin 10240) = ⟨9216 + (j : ℕ), by omega⟩ :=
    Fin.ext (show 7168 + (2048 + (j : ℕ)) = 9216 + (j : ℕ) by omega)
  rw [e1, e2]
  rfl

/-- The last projection. -/
theorem outs (b : Fin 8) (q : Fin 4096) (j : Fin 1024) (hr : Real1 (fun k => r (ix3 b (after q) k)))
    (h0 : Real1 (fun k => K (ix4 0 b (after q) k))) (h1 : Real1 (fun k => K (ix4 1 b (after q) k)))
    (hw : Real1 (wts g gg gb rk U wa wc wr wo).rk) :
    val_main_v91 (F := Ideal) T C Y r v K P gg gb rk U wa wc wr wo (ix3 b q j) = out (row T C Y r v K P b q) (wts g gg gb rk U wa wc wr wo) j := by
  pointwise [val_main_v91]
  simp only [mix T C Y r v K P g gg gb rk U wa wc wr wo b q _ hr h0 h1 hw]
  rfl

/-- The reference's result. -/
theorem whole (b : Fin 8) (q : Fin 4096) (j : Fin 1024) (hr : Real1 (fun k => r (ix3 b (after q) k)))
    (h0 : Real1 (fun k => K (ix4 0 b (after q) k))) (h1 : Real1 (fun k => K (ix4 1 b (after q) k)))
    (hw : Real1 (wts g gg gb rk U wa wc wr wo).rk) :
    val_main_v107 (F := Ideal) A T C Y r v K P M g gg gb rk U wa wc wr wo (ix3 b q j) = result (row T C Y r v K P b q) (wts g gg gb rk U wa wc wr wo) (A (ix3 b (after q) j))
      (own M b j) j := by
  pointwise [val_main_v0, val_main_v6, val_main_v7, val_main_v92, val_main_cst_10, val_main_v93, val_main_v94, val_main_cst_11, val_main_v95, val_main_v96, val_main_cst_12, val_main_v97, val_main_v98, val_main_v99, val_main_v100, val_main_v101, val_main_v102, val_main_v103, val_main_v104, val_main_v105, val_main_v106, val_main_v107]
  simp only [outs T C Y r v K P g gg gb rk U wa wc wr wo b q _ hr h0 h1 hw]
  rfl

end Cert.Reference9Ideal.Hand

end
-- ==== Proof.Heads.lean ====
/- What the preconditions of the merge's claims say: the heads' outputs, receptances, keys and bonus weights are reals. -/
module

public import proofs.«01_k».proof.Proof.Finite
public import proofs.«01_k».proof.Pre_finite_heads
public import proofs.«01_k».proof.Pre_finite_heads_latent

@[expose] public section

noncomputable section

open Idealize.ShloMosaic Cert.Spec Cert.Pre_finite_scores.Hand

namespace Cert.Pre_finite_heads.Hand

open Cert.Pre_finite_heads

/-- The shape relations the precondition takes. -/
theorem facts : Facts where
  bcast_S_S2x8x4352x1024 := by decide
  reducesTo_S2x8x4352x1024_S_d0_1_2_3 := by decide
  h_S_ := by decide
  bcast_S_S8x4352x1024 := by decide
  reducesTo_S8x4352x1024_S_d0_1_2 := by decide
  bcast_S_S16x64 := by decide
  reducesTo_S16x64_S_d0_1 := by decide

/-- The precondition makes the heads' outputs, receptances, keys and bonus weights reals. -/
theorem reals [Facts] (A : FVec Ideal S8x4352x1024 .f32) (T C : FVec Ideal S8x4352x1024 .f32) (Y : FVec Ideal S2x8x4352x1024 .f32)
    (r v : FVec Ideal S8x4352x1024 .f32) (K : FVec Ideal S2x8x4352x1024 .f32) (P : FVec Ideal S8x4352x10240 .f32)
    (M : FVec Ideal S16x6144 .f32) (g gg gb : FVec Ideal S1024 .f32) (rk : FVec Ideal S16x64 .f32) (U : FVec Ideal S128x1024 .f32)
    (wa wc wr wo : FVec Ideal S1024x1024 .f32)
    (h : fn (F := Ideal) A T C Y r v K P M g gg gb rk U wa wc wr wo = fun _ => 1#1) : Reals Y ∧ Reals r ∧ Reals K ∧ Reals rk := by
  have h0 : IntOp.andi _ _ = 1#1 := congrFun h (fun a => a.elim0)
  obtain ⟨h1, e₄⟩ := IntOp.andi_eq_one.mp h0
  obtain ⟨h2, e₃⟩ := IntOp.andi_eq_one.mp (show IntOp.andi _ _ = 1#1 from h1)
  obtain ⟨e₁, e₂⟩ := IntOp.andi_eq_one.mp (show IntOp.andi _ _ = 1#1 from h2)
  exact ⟨reals_of_abs Y fun i => Host.reduce_andi_all _ _ _ _ _ e₁ i, reals_of_abs r fun i => Host.reduce_andi_all _ _ _ _ _ e₂ i,
    reals_of_abs K fun i => Host.reduce_andi_all _ _ _ _ _ e₃ i, reals_of_abs rk fun i => Host.reduce_andi_all _ _ _ _ _ e₄ i⟩

end Cert.Pre_finite_heads.Hand

namespace Cert.Pre_finite_heads_latent.Hand

open Cert.Pre_finite_heads_latent

/-- The shape relations the precondition takes. -/
theorem facts : Facts where
  bcast_S_S2x8x4352x1024 := by decide
  reducesTo_S2x8x4352x1024_S_d0_1_2_3 := by decide
  h_S_ := by decide
  bcast_S_S8x4352x1024 := by decide
  reducesTo_S8x4352x1024_S_d0_1_2 := by decide
  bcast_S_S16x64 := by decide
  reducesTo_S16x64_S_d0_1 := by decide

/-- The precondition makes the heads' outputs, receptances, keys and bonus weights reals. -/
theorem reals [Facts] (A : FVec Ideal S8x4352x1024 .f32) (T C : FVec Ideal S8x4096x1024 .f32) (Y : FVec Ideal S2x8x4352x1024 .f32)
    (r v : FVec Ideal S8x4352x1024 .f32) (K : FVec Ideal S2x8x4352x1024 .f32) (P : FVec Ideal S8x4352x10240 .f32)
    (M : FVec Ideal S16x6144 .f32) (g gg gb : FVec Ideal S1024 .f32) (rk : FVec Ideal S16x64 .f32) (U : FVec Ideal S128x1024 .f32)
    (wa wc wr wo : FVec Ideal S1024x1024 .f32)
    (h : fn (F := Ideal) A T C Y r v K P M g gg gb rk U wa wc wr wo = fun _ => 1#1) : Reals Y ∧ Reals r ∧ Reals K ∧ Reals rk := by
  have h0 : IntOp.andi _ _ = 1#1 := congrFun h (fun a => a.elim0)
  obtain ⟨h1, e₄⟩ := IntOp.andi_eq_one.mp h0
  obtain ⟨h2, e₃⟩ := IntOp.andi_eq_one.mp (show IntOp.andi _ _ = 1#1 from h1)
  obtain ⟨e₁, e₂⟩ := IntOp.andi_eq_one.mp (show IntOp.andi _ _ = 1#1 from h2)
  exact ⟨reals_of_abs Y fun i => Host.reduce_andi_all _ _ _ _ _ e₁ i, reals_of_abs r fun i => Host.reduce_andi_all _ _ _ _ _ e₂ i,
    reals_of_abs K fun i => Host.reduce_andi_all _ _ _ _ _ e₃ i, reals_of_abs rk fun i => Host.reduce_andi_all _ _ _ _ _ e₄ i⟩

end Cert.Pre_finite_heads_latent.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Block
public import proofs.«01_k».proof.Proof.RefRow
public import proofs.«01_k».proof.Proof.Finite
public import proofs.«01_k».proof.Proof.Proj
public import proofs.«01_k».proof.Proof.ProjRef
public import proofs.«01_k».proof.Proof.Up
public import proofs.«01_k».proof.Proof.UpRef
public import proofs.«01_k».proof.Proof.Tail
public import proofs.«01_k».proof.Proof.TailRef
public import proofs.«01_k».proof.Proof.Attn
public import proofs.«01_k».proof.Proof.AttnRef
public import proofs.«01_k».proof.Proof.UpLate
public import proofs.«01_k».proof.Proof.UpRefLate
public import proofs.«01_k».proof.Proof.TailLate
public import proofs.«01_k».proof.Proof.TailRefLate
public import proofs.«01_k».proof.Proof.MergeBlock
public import proofs.«01_k».proof.Proof.MergeRef
public import proofs.«01_k».proof.Proof.MergeBlockLate
public import proofs.«01_k».proof.Proof.MergeRefLate
public import proofs.«01_k».proof.Proof.Heads
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every semaphore counter at zero. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- The kernel and the reference both leave the layer's attention of the arguments. -/
theorem equal : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Hand.facts) := by
  intro m g m' g' hp hm
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_) (Cert.KernelIdeal.Value.run_blocks m g)
    obtain ⟨hq, hk⟩ := @Cert.Pre_finite_scores.Hand.reals Cert.Pre_finite_scores.Hand.facts _ _ _ (hp c)
    exact ⟨(h c).1.trans (Cert.KernelIdeal.Hand.final m c hq hk), (h c).2⟩
  · refine (θ_run _ _ _).mono (fun r h c => ?_) (Cert.ReferenceIdeal.Value.run m' g')
    obtain ⟨hq, hk⟩ := @Cert.Pre_finite_scores.Hand.reals Cert.Pre_finite_scores.Hand.facts _ _ _ (hp c)
    refine ⟨(h c).1.trans ((Cert.ReferenceIdeal.Read.val_main_v44_eq m' c).trans ?_), (h c).2⟩
    rw [(hm c).1, (hm c).2.1, (hm c).2.2]
    exact Cert.ReferenceIdeal.Hand.whole _ _ _ hq hk

/-- The projection's reference ends with its arguments unchanged and every semaphore counter at zero. -/
theorem frame_reference2 : Cert.quiescent_Reference2Ideal (hReference2Ideal := Cert.Reference2Ideal.Gen.facts) := by
  intro m g _
  exact (θ_run _ _ _).mono (fun r h => ⟨fun c => (h c).2, sem_eq_zero_of_no_sems (by decide) r.2⟩) (Cert.Reference2Ideal.Value.run m g)

/-- The first feed-forward matrix's reference ends with its arguments unchanged and every semaphore counter at zero. -/
theorem frame_reference3 : Cert.quiescent_Reference3Ideal (hReference3Ideal := Cert.Reference3Ideal.Gen.facts) := by
  intro m g _
  exact (θ_run _ _ _).mono (fun r h => ⟨fun c => (h c).2, sem_eq_zero_of_no_sems (by decide) r.2⟩) (Cert.Reference3Ideal.Value.run m g)

/-- The feed-forward tail's reference ends with its arguments unchanged and every semaphore counter at zero. -/
theorem frame_reference4 : Cert.quiescent_Reference4Ideal (hReference4Ideal := Cert.Reference4Ideal.Gen.facts) := by
  intro m g _
  exact (θ_run _ _ _).mono (fun r h => ⟨fun c => (h c).2, sem_eq_zero_of_no_sems (by decide) r.2⟩) (Cert.Reference4Ideal.Value.run m g)

/-- The projection's kernel and its reference both leave the product of the normalised, modulated tokens with the laid-out matrix. -/
theorem equal2 : Cert.algebraic_Kernel2Ideal_Reference2Ideal (hKernel2Ideal := Cert.Kernel2Ideal.Gen.facts)
    (hReference2Ideal := Cert.Reference2Ideal.Gen.facts) := by
  intro m g m' g' _ hm
  refine ⟨fun c => Cert.Kernel2Ideal.Hand.G m c, ?_, ?_⟩
  · refine (θ_run _ _ _).mono (fun r h c => ?_) (Cert.Kernel2Ideal.Value.run_blocks m g)
    exact ⟨(h c).1.trans (Cert.Kernel2Ideal.Hand.final m c), (h c).2⟩
  · refine (θ_run _ _ _).mono (fun r h c => ?_) (Cert.Reference2Ideal.Value.run m' g')
    refine ⟨(h c).1.trans ((Cert.Reference2Ideal.Read.val_main_v65_eq m' c).trans ?_), (h c).2⟩
    rw [(hm c).1, (hm c).2.1, (hm c).2.2.1, (hm c).2.2.2.1, (hm c).2.2.2.2]
    exact funext fun i => Cert.Reference2Ideal.Hand.whole _ _ _ _ _ i

/-- The first feed-forward matrix's kernel and its reference both leave the product of the normalised, modulated tokens with it. -/
theorem equal3 : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Kernel3Ideal.Hand.G m c, ?_, ?_⟩
  · refine (θ_run _ _ _).mono (fun r h c => ?_) (Cert.Kernel3Ideal.Value.run_blocks m g)
    exact ⟨(h c).1.trans (Cert.Kernel3Ideal.Hand.final m c), (h c).2⟩
  · refine (θ_run _ _ _).mono (fun r h c => ?_) (Cert.Reference3Ideal.Value.run m' g')
    refine ⟨(h c).1.trans ((Cert.Reference3Ideal.Read.val_main_v60_eq _ _ _ _).trans ?_), (h c).2⟩
    rw [(hm c).1, (hm c).2.1, (hm c).2.2.1, (hm c).2.2.2]
    exact funext fun i => Cert.Reference3Ideal.Hand.whole _ _ _ _ i

/-- The feed-forward tail's kernel and its reference both leave the residual with the normalised, scaled feed-forward result. -/
theorem equal4 : Cert.algebraic_Kernel4Ideal_Reference4Ideal (hKernel4Ideal := Cert.Kernel4Ideal.Gen.facts)
    (hReference4Ideal := Cert.Reference4Ideal.Gen.facts) := by
  intro m g m' g' _ hm
  refine ⟨fun c => Cert.Conv.result (Cert.Kernel4Ideal.Hand.argA m c) (Cert.Kernel4Ideal.Hand.argZ m c) (Cert.Kernel4Ideal.Hand.argC m c)
    (Cert.Kernel4Ideal.Hand.argM m c) (Cert.Kernel4Ideal.Hand.argG m c) (Cert.Kernel4Ideal.Hand.argD m c), ?_, ?_⟩
  · refine (θ_run _ _ _).mono (fun r h c => ?_) (Cert.Kernel4Ideal.Value.run_blocks m g)
    exact ⟨(h c).1.trans (Cert.Kernel4Ideal.Hand.final m c), (h c).2⟩
  · refine (θ_run _ _ _).mono (fun r h c => ?_) (Cert.Reference4Ideal.Value.run m' g')
    refine ⟨(h c).1.trans ((Cert.Reference4Ideal.Read.val_main_v65_eq m' c).trans ?_), (h c).2⟩
    rw [(hm c).1, (hm c).2.1, (hm c).2.2.1, (hm c).2.2.2.1, (hm c).2.2.2.2.1, (hm c).2.2.2.2.2]
    exact funext fun i => Cert.Reference4Ideal.Hand.whole _ _ _ _ _ _ i

/-- The second layer's attention's reference ends with its arguments unchanged and every semaphore counter at zero. -/
theorem frame_reference5 : Cert.quiescent_Reference5Ideal (hReference5Ideal := Cert.Reference5Ideal.Gen.facts) := by
  intro m g _
  exact (θ_run _ _ _).mono (fun r h => ⟨fun c => (h c).2, sem_eq_zero_of_no_sems (by decide) r.2⟩) (Cert.Reference5Ideal.Value.run m g)

/-- The second layer's first feed-forward matrix's reference ends with its arguments unchanged and every semaphore counter at zero. -/
theorem frame_reference6 : Cert.quiescent_Reference6Ideal (hReference6Ideal := Cert.Reference6Ideal.Gen.facts) := by
  intro m g _
  exact (θ_run _ _ _).mono (fun r h => ⟨fun c => (h c).2, sem_eq_zero_of_no_sems (by decide) r.2⟩) (Cert.Reference6Ideal.Value.run m g)

/-- The second layer's feed-forward tail's reference ends with its arguments unchanged and every semaphore counter at zero. -/
theorem frame_reference7 : Cert.quiescent_Reference7Ideal (hReference7Ideal := Cert.Reference7Ideal.Gen.facts) := by
  intro m g _
  exact (θ_run _ _ _).mono (fun r h => ⟨fun c => (h c).2, sem_eq_zero_of_no_sems (by decide) r.2⟩) (Cert.Reference7Ideal.Value.run m g)

/-- The second layer's attention's kernel and its reference both leave that attention of the later tokens. -/
theorem equal5 : Cert.algebraic_Kernel5Ideal_Reference5Ideal_pre_finite_scores (hKernel5Ideal := Cert.Kernel5Ideal.Gen.facts)
    (hReference5Ideal := Cert.Reference5Ideal.Gen.facts) (hPre_finite_scores := Cert.Pre_finite_scores.Hand.facts) := by
  intro m g m' g' hp hm
  refine ⟨fun c => Cert.Spec.later (Cert.Kernel5Ideal.Hand.argQ m c) (Cert.Kernel5Ideal.Hand.argK m c) (Cert.Kernel5Ideal.Hand.argV m c), ?_, ?_⟩
  · refine (θ_run _ _ _).mono (fun r h c => ?_) (Cert.Kernel5Ideal.Value.run_blocks m g)
    obtain ⟨hq, hk⟩ := @Cert.Pre_finite_scores.Hand.reals Cert.Pre_finite_scores.Hand.facts _ _ _ (hp c)
    exact ⟨(h c).1.trans (Cert.Kernel5Ideal.Hand.final m c hq hk), (h c).2⟩
  · refine (θ_run _ _ _).mono (fun r h c => ?_) (Cert.Reference5Ideal.Value.run m' g')
    obtain ⟨hq, hk⟩ := @Cert.Pre_finite_scores.Hand.reals Cert.Pre_finite_scores.Hand.facts _ _ _ (hp c)
    refine ⟨(h c).1.trans ((Cert.Reference5Ideal.Read.val_main_v22_eq _ _ _).trans ?_), (h c).2⟩
    rw [(hm c).1, (hm c).2.1, (hm c).2.2]
    exact Cert.Reference5Ideal.Hand.whole _ _ _ hq hk

/-- The same of the second layer's first feed-forward matrix. -/
theorem equal6 : Cert.algebraic_Kernel6Ideal_Reference6Ideal (hKernel6Ideal := Cert.Kernel6Ideal.Gen.facts)
    (hReference6Ideal := Cert.Reference6Ideal.Gen.facts) := by
  intro m g m' g' _ hm
  refine ⟨fun c => Cert.Kernel6Ideal.Hand.G m c, ?_, ?_⟩
  · refine (θ_run _ _ _).mono (fun r h c => ?_) (Cert.Kernel6Ideal.Value.run_blocks m g)
    exact ⟨(h c).1.trans (Cert.Kernel6Ideal.Hand.final m c), (h c).2⟩
  · refine (θ_run _ _ _).mono (fun r h c => ?_) (Cert.Reference6Ideal.Value.run m' g')
    refine ⟨(h c).1.trans ((Cert.Reference6Ideal.Read.val_main_v28_eq _ _ _ _).trans ?_), (h c).2⟩
    rw [(hm c).1, (hm c).2.1, (hm c).2.2.1, (hm c).2.2.2]
    exact funext fun i => Cert.Reference6Ideal.Hand.whole _ _ _ _ i

/-- The same of the second layer's feed-forward tail. -/
theorem equal7 : Cert.algebraic_Kernel7Ideal_Reference7Ideal (hKernel7Ideal := Cert.Kernel7Ideal.Gen.facts)
    (hReference7Ideal := Cert.Reference7Ideal.Gen.facts) := by
  intro m g m' g' _ hm
  refine ⟨fun c => Cert.Late.sresult (Cert.Kernel7Ideal.Hand.argA m c) (Cert.Kernel7Ideal.Hand.argZ m c) (Cert.Kernel7Ideal.Hand.argC m c)
    (Cert.Kernel7Ideal.Hand.argM m c) (Cert.Kernel7Ideal.Hand.argG m c) (Cert.Kernel7Ideal.Hand.argD m c), ?_, ?_⟩
  · refine (θ_run _ _ _).mono (fun r h c => ?_) (Cert.Kernel7Ideal.Value.run_blocks m g)
    exact ⟨(h c).1.trans (Cert.Kernel7Ideal.Hand.final m c), (h c).2⟩
  · refine (θ_run _ _ _).mono (fun r h c => ?_) (Cert.Reference7Ideal.Value.run m' g')
    refine ⟨(h c).1.trans ((Cert.Reference7Ideal.Read.val_main_v40_eq m' c).trans ?_), (h c).2⟩
    rw [(hm c).1, (hm c).2.1, (hm c).2.2.1, (hm c).2.2.2.1, (hm c).2.2.2.2.1, (hm c).2.2.2.2.2]
    exact funext fun i => Cert.Reference7Ideal.Hand.whole _ _ _ _ _ _ i

/-- The merge's reference ends with its arguments unchanged and every semaphore counter at zero. -/
theorem frame_reference8 : Cert.quiescent_Reference8Ideal (hReference8Ideal := Cert.Reference8Ideal.Gen.facts) := by
  intro m g _
  exact (θ_run _ _ _).mono (fun r h => ⟨fun c => (h c).2, sem_eq_zero_of_no_sems (by decide) r.2⟩) (Cert.Reference8Ideal.Value.run m g)

/-- The second layer's merge's reference ends with its arguments unchanged and every semaphore counter at zero. -/
theorem frame_reference9 : Cert.quiescent_Reference9Ideal (hReference9Ideal := Cert.Reference9Ideal.Gen.facts) := by
  intro m g _
  exact (θ_run _ _ _).mono (fun r h => ⟨fun c => (h c).2, sem_eq_zero_of_no_sems (by decide) r.2⟩) (Cert.Reference9Ideal.Value.run m g)

/-- The merge's kernel and its reference both leave the residual with the mixed branches' projection, normalised and scaled. -/
theorem equal8 : Cert.algebraic_Kernel8Ideal_Reference8Ideal_pre_finite_heads (hKernel8Ideal := Cert.Kernel8Ideal.Gen.facts)
    (hReference8Ideal := Cert.Reference8Ideal.Gen.facts) (hPre_finite_heads := Cert.Pre_finite_heads.Hand.facts) := by
  intro m g m' g' hp hm
  refine ⟨fun c => Cert.Kernel8Ideal.Hand.value m c, ?_, ?_⟩
  · refine (θ_run _ _ _).mono (fun r h c => ?_) (Cert.Kernel8Ideal.Value.run_blocks m g)
    obtain ⟨hy, hr, hk, hw⟩ := @Cert.Pre_finite_heads.Hand.reals Cert.Pre_finite_heads.Hand.facts _ _ _ _ _ _ _ _ _ _ _ _ _ _ _ _ _ _ (hp c)
    exact ⟨(h c).1.trans (Cert.Kernel8Ideal.Hand.final m c fun b p =>
      ⟨Cert.Merge.real1_add (fun k => hy _) (fun k => hy _), fun k => hr _, fun k => hk _, fun k => hk _, fun k => hw _⟩), (h c).2⟩
  · refine (θ_run _ _ _).mono (fun r h c => ?_) (Cert.Reference8Ideal.Value.run m' g')
    obtain ⟨hy, hr, hk, hw⟩ := @Cert.Pre_finite_heads.Hand.reals Cert.Pre_finite_heads.Hand.facts _ _ _ _ _ _ _ _ _ _ _ _ _ _ _ _ _ _ (hp c)
    refine ⟨(h c).1.trans ((Cert.Reference8Ideal.Read.val_main_v105_eq m' c).trans ?_), (h c).2⟩
    obtain ⟨e0, e1, e2, e3, e4, e5, e6, e7, e8, e9, e10, e11, e12, e13, e14, e15, e16, e17⟩ := hm c
    rw [e0, e1, e2, e3, e4, e5, e6, e7, e8, e9, e10, e11, e12, e13, e14, e15, e16, e17]
    refine funext fun i => (congrArg _ (eq_ix3 i)).trans ?_
    exact Cert.Reference8Ideal.Hand.whole _ _ _ _ _ _ _ _ _ _ _ _ _ _ _ _ _ _ (i 0) (i 1) (i 2) (fun k => hr _) (fun k => hk _) (fun k => hk _) (fun k => hw _)

/-- The same of the second layer's merge. -/
theorem equal9 : Cert.algebraic_Kernel9Ideal_Reference9Ideal_pre_finite_heads_latent (hKernel9Ideal := Cert.Kernel9Ideal.Gen.facts)
    (hReference9Ideal := Cert.Reference9Ideal.Gen.facts) (hPre_finite_heads_latent := Cert.Pre_finite_heads_latent.Hand.facts) := by
  intro m g m' g' hp hm
  refine ⟨fun c => Cert.Kernel9Ideal.Hand.value m c, ?_, ?_⟩
  · refine (θ_run _ _ _).mono (fun r h c => ?_) (Cert.Kernel9Ideal.Value.run_blocks m g)
    obtain ⟨hy, hr, hk, hw⟩ := @Cert.Pre_finite_heads_latent.Hand.reals Cert.Pre_finite_heads_latent.Hand.facts _ _ _ _ _ _ _ _ _ _ _ _ _ _ _ _ _ _ (hp c)
    exact ⟨(h c).1.trans (Cert.Kernel9Ideal.Hand.final m c fun b p =>
      ⟨Cert.Merge.real1_add (fun k => hy _) (fun k => hy _), fun k => hr _, fun k => hk _, fun k => hk _, fun k => hw _⟩), (h c).2⟩
  · refine (θ_run _ _ _).mono (fun r h c => ?_) (Cert.Reference9Ideal.Value.run m' g')
    obtain ⟨hy, hr, hk, hw⟩ := @Cert.Pre_finite_heads_latent.Hand.reals Cert.Pre_finite_heads_latent.Hand.facts _ _ _ _ _ _ _ _ _ _ _ _ _ _ _ _ _ _ (hp c)
    refine ⟨(h c).1.trans ((Cert.Reference9Ideal.Read.val_main_v107_eq m' c).trans ?_), (h c).2⟩
    obtain ⟨e0, e1, e2, e3, e4, e5, e6, e7, e8, e9, e10, e11, e12, e13, e14, e15, e16, e17⟩ := hm c
    rw [e0, e1, e2, e3, e4, e5, e6, e7, e8, e9, e10, e11, e12, e13, e14, e15, e16, e17]
    refine funext fun i => (congrArg _ (eq_ix3 i)).trans ?_
    exact Cert.Reference9Ideal.Hand.whole _ _ _ _ _ _ _ _ _ _ _ _ _ _ _ _ _ _ (i 0) (i 1) (i 2) (fun k => hr _) (fun k => hk _) (fun k => hk _) (fun k => hw _)

/-- Everything claimed: the frames of the programs of the nine calls, their idealizations, and the results' equality for each. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite_scores.Hand.facts, Cert.Pre_finite_heads.Hand.facts, Cert.Pre_finite_heads_latent.Hand.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, fun m g _ => Cert.Kernel5Ideal.Gen.frame m g,
    frame_reference5, fun m g _ => frame_reference5 m g trivial,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, fun m g _ => Cert.Kernel8Ideal.Gen.frame m g,
    frame_reference8, fun m g _ => frame_reference8 m g trivial,
    fun m g _ => Cert.Kernel9.Gen.frame m g, fun m g _ => Cert.Kernel9Ideal.Gen.frame m g, fun m g _ => Cert.Kernel9Ideal.Gen.frame m g,
    frame_reference9, fun m g _ => frame_reference9 m g trivial,
    trivial, equal, trivial, equal2, trivial, equal3, trivial, equal4, trivial, equal5, trivial, equal6, trivial, equal7,
    trivial, equal8, trivial, equal9⟩

end Cert.Proof

end
